-- ==== Defs.lean ====
def Pre_Kernel [hPre_blocks_in_range : Cert.Pre_blocks_in_range.Facts] (m : (ℓ : Loc Cert.Kernel.nD Cert.Kernel.τ Cert.Kernel.sig) → Buf (Elt Bits) ℓ) : Prop :=
  ∀ c : Dev Cert.Kernel.nD,
    (Cert.Pre_blocks_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_blocks_in_range : Cert.Pre_blocks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_blocks_in_range_and_finite [hPre_blocks_in_range_and_finite : Cert.Pre_blocks_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blocks_in_range_and_finite [hPre_blocks_in_range_and_finite : Cert.Pre_blocks_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_blocks_in_range : Cert.Pre_blocks_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_blocks_in_range : Cert.Pre_blocks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_blocks_in_range_and_finite [hKernelIdeal : Cert.KernelIdeal.Facts] [hPre_blocks_in_range_and_finite : Cert.Pre_blocks_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_blocks_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_blocks_in_range_and_finite [hReferenceIdeal : Cert.ReferenceIdeal.Facts] [hPre_blocks_in_range_and_finite : Cert.Pre_blocks_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blocks_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_blocks_in_range_and_finite [hKernelIdeal : Cert.KernelIdeal.Facts] [hReferenceIdeal : Cert.ReferenceIdeal.Facts] [hPre_blocks_in_range_and_finite : Cert.Pre_blocks_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_blocks_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_blocks_in_range : Cert.Pre_blocks_in_range.Facts) (hPre_blocks_in_range_and_finite : Cert.Pre_blocks_in_range_and_finite.Facts),
    quiescent_Kernel (hKernel := hKernel) (hPre_blocks_in_range := hPre_blocks_in_range)
    ∧ quiescent_KernelIdeal (hKernelIdeal := hKernelIdeal) (hPre_blocks_in_range := hPre_blocks_in_range)
    ∧ quiescent_KernelIdeal_pre_blocks_in_range_and_finite (hKernelIdeal := hKernelIdeal) (hPre_blocks_in_range_and_finite := hPre_blocks_in_range_and_finite)
    ∧ quiescent_ReferenceIdeal (hReferenceIdeal := hReferenceIdeal)
    ∧ quiescent_ReferenceIdeal_pre_blocks_in_range_and_finite (hReferenceIdeal := hReferenceIdeal) (hPre_blocks_in_range_and_finite := hPre_blocks_in_range_and_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_blocks_in_range_and_finite (hKernelIdeal := hKernelIdeal) (hReferenceIdeal := hReferenceIdeal) (hPre_blocks_in_range_and_finite := hPre_blocks_in_range_and_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_blocks_in_range.lean ====
abbrev S32x16 : Shape := ⟨2, ![32, 16]⟩
abbrev S4x8192x1024 : Shape := ⟨3, ![4, 8192, 1024]⟩
abbrev S4x8192x8192 : Shape := ⟨3, ![4, 8192, 8192]⟩
abbrev S4x8x8192 : Shape := ⟨3, ![4, 8, 8192]⟩
abbrev S4x8x8x2 : Shape := ⟨4, ![4, 8, 8, 2]⟩
abbrev S4x8x8x1 : Shape := ⟨4, ![4, 8, 8, 1]⟩
abbrev S4x8x8 : Shape := ⟨3, ![4, 8, 8]⟩
abbrev S_ : Shape := ⟨0, ![]⟩
abbrev S8 : Shape := ⟨1, ![8]⟩
abbrev S1x1x8 : Shape := ⟨3, ![1, 1, 8]⟩

class Facts : Prop where
  shapeCasts_S32x16_S4x8x8x2 : S32x16.ShapeCasts S4x8x8x2
  slices_S4x8x8x2_S4x8x8x1_0_0_0_0 : S4x8x8x2.Slices ![0, 0, 0, 0] S4x8x8x1
  shapeCasts_S4x8x8x1_S4x8x8 : S4x8x8x1.ShapeCasts S4x8x8
  bcast_S_S4x8x8 : S_.BroadcastsInDim S4x8x8 (![] : Fin 0 → Fin S4x8x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S4x8x8_0_1_2 : S1x1x8.BroadcastsInDim S4x8x8 (![0, 1, 2] : Fin 3 → Fin S4x8x8.rank)

variable [Facts]

def fn {F : FTy → Type} [FloatOps F] (main_arg0 : IVec S32x16 32) (main_arg1 : FVec F S4x8192x1024 .f32) (main_arg2 : FVec F S4x8192x1024 .f32) (main_arg3 : FVec F S4x8192x8192 .bf16) (main_arg4 : FVec F S4x8x8192 .f32) : IVec S4x8x8 1 :=
  let main_v0 : IVec S4x8x8x2 32 := shapeCast S4x8x8x2 main_arg0 shapeCasts_S32x16_S4x8x8x2
  let main_v1 : IVec S4x8x8x1 32 := (extractStridedSlice S4x8x8x1 ![0, 0, 0, 0] · slices_S4x8x8x2_S4x8x8x1_0_0_0_0) main_v0
  let main_v2 : IVec S4x8x8 32 := shapeCast S4x8x8 main_v1 shapeCasts_S4x8x8x1_S4x8x8
  let main_c : IVec S_ 32 := constantI S_ 32 0#32
  let main_v3 : IVec S4x8x8 32 := broadcastInDim S4x8x8 ![] bcast_S_S4x8x8 main_c
  let main_v4 : IVec S4x8x8 1 := cmpi .sge main_v2 main_v3
  let main_v5 : IVec S8 32 := iotaInDim S8 32 0
  let main_c_0 : IVec S_ 32 := constantI S_ 32 2#32
  let main_v6 : IVec S8 32 := broadcastInDim S8 ![] bcast_S_S8 main_c_0
  let main_v7 : IVec S8 32 := muli main_v6 main_v5
  let main_v8 : IVec S1x1x8 32 := broadcastInDim S1x1x8 ![2] bcast_S8_S1x1x8_2 main_v7
  let main_v9 : IVec S4x8x8 32 := broadcastInDim S4x8x8 ![0, 1, 2] bcast_S1x1x8_S4x8x8_0_1_2 main_v8
  let main_v10 : IVec S4x8x8 1 := cmpi .sle main_v2 main_v9
  let main_v11 : IVec S4x8x8 1 := andi main_v4 main_v10
  main_v11
-- ==== Pre_blocks_in_range_and_finite.lean ====
abbrev S32x16 : Shape := ⟨2, ![32, 16]⟩
abbrev S4x8192x1024 : Shape := ⟨3, ![4, 8192, 1024]⟩
abbrev S4x8192x8192 : Shape := ⟨3, ![4, 8192, 8192]⟩
abbrev S4x8x8192 : Shape := ⟨3, ![4, 8, 8192]⟩
abbrev S4x8x8x2 : Shape := ⟨4, ![4, 8, 8, 2]⟩
abbrev S4x8x8x1 : Shape := ⟨4, ![4, 8, 8, 1]⟩
abbrev S4x8x8 : Shape := ⟨3, ![4, 8, 8]⟩
abbrev S_ : Shape := ⟨0, ![]⟩
abbrev S8 : Shape := ⟨1, ![8]⟩
abbrev S1x1x8 : Shape := ⟨3, ![1, 1, 8]⟩
abbrev S4x8x8x1024 : Shape := ⟨4, ![4, 8, 8, 1024]⟩
abbrev S4x8192x8 : Shape := ⟨3, ![4, 8192, 8]⟩
abbrev S4x8192x8x1 : Shape := ⟨4, ![4, 8192, 8, 1]⟩
abbrev S4x8192x8x128 : Shape := ⟨4, ![4, 8192, 8, 128]⟩

class Facts : Prop where
  shapeCasts_S32x16_S4x8x8x2 : S32x16.ShapeCasts S4x8x8x2
  slices_S4x8x8x2_S4x8x8x1_0_0_0_0 : S4x8x8x2.Slices ![0, 0, 0, 0] S4x8x8x1
  shapeCasts_S4x8x8x1_S4x8x8 : S4x8x8x1.ShapeCasts S4x8x8
  bcast_S_S4x8x8 : S_.BroadcastsInDim S4x8x8 (![] : Fin 0 → Fin S4x8x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S4x8x8_0_1_2 : S1x1x8.BroadcastsInDim S4x8x8 (![0, 1, 2] : Fin 3 → Fin S4x8x8.rank)
  bcast_S4x8x8_S4x8x8x1_0_1_2 : S4x8x8.BroadcastsInDim S4x8x8x1 (![0, 1, 2] : Fin 3 → Fin S4x8x8x1.rank)
  bcast_S_S4x8x8192 : S_.BroadcastsInDim S4x8x8192 (![] : Fin 0 → Fin S4x8x8192.rank)
  shapeCasts_S4x8x8192_S4x8x8x1024 : S4x8x8192.ShapeCasts S4x8x8x1024
  bcast_S4x8x8x1_S4x8x8x1024_0_1_2_3 : S4x8x8x1.BroadcastsInDim S4x8x8x1024 (![0, 1, 2, 3] : Fin 4 → Fin S4x8x8x1024.rank)
  bcast_S_S4x8192x1024 : S_.BroadcastsInDim S4x8192x1024 (![] : Fin 0 → Fin S4x8192x1024.rank)
  shapeCasts_S4x8x8x1024_S4x8x8192 : S4x8x8x1024.ShapeCasts S4x8x8192
  transposes_S4x8x8192_S4x8192x8_0_2_1 : S4x8x8192.Transposes [0, 2, 1] S4x8192x8
  bcast_S4x8192x8_S4x8192x8x1_0_1_2 : S4x8192x8.BroadcastsInDim S4x8192x8x1 (![0, 1, 2] : Fin 3 → Fin S4x8192x8x1.rank)
  shapeCasts_S4x8192x1024_S4x8192x8x128 : S4x8192x1024.ShapeCasts S4x8192x8x128
  bcast_S4x8192x8x1_S4x8192x8x128_0_1_2_3 : S4x8192x8x1.BroadcastsInDim S4x8192x8x128 (![0, 1, 2, 3] : Fin 4 → Fin S4x8192x8x128.rank)

variable [Facts]

def fn_part1 {F : FTy → Type} [FloatOps F] (main_arg2 : FVec F S4x8192x1024 .f32) (main_v18 : IVec S4x8x8x1024 1) (main_v19 : FVec F S4x8192x1024 .f32) (main_cst_1 : FVec F S_ .f32) : IVec S4x8192x8x128 1 :=
  let main_v20 : FVec F S4x8192x1024 .f32 := broadcastInDim S4x8192x1024 ![] bcast_S_S4x8192x1024 main_cst_1
  let main_v21 : IVec S4x8192x1024 1 := cmpf .olt main_v19 main_v20
  let main_v22 : FVec F S4x8192x1024 .f32 := Host.absf main_arg2
  let main_cst_2 : FVec F S_ .f32 := constant S_ .f32 0x7F800000#32
  let main_v23 : FVec F S4x8192x1024 .f32 := broadcastInDim S4x8192x1024 ![] bcast_S_S4x8192x1024 main_cst_2
  let main_v24 : IVec S4x8192x1024 1 := cmpf .olt main_v22 main_v23
  let main_v25 : IVec S4x8192x1024 1 := andi main_v21 main_v24
  let main_v26 : IVec S4x8x8192 1 := shapeCast S4x8x8192 main_v18 shapeCasts_S4x8x8x1024_S4x8x8192
  let main_v27 : IVec S4x8192x8 1 := (transpose S4x8192x8 [0, 2, 1] · transposes_S4x8x8192_S4x8192x8_0_2_1) main_v26
  let main_v28 : IVec S4x8192x8x1 1 := broadcastInDim S4x8192x8x1 ![0, 1, 2] bcast_S4x8192x8_S4x8192x8x1_0_1_2 main_v27
  let main_v29 : IVec S4x8192x8x128 1 := shapeCast S4x8192x8x128 main_v25 shapeCasts_S4x8192x1024_S4x8192x8x128
  let main_v30 : IVec S4x8192x8x128 1 := broadcastInDim S4x8192x8x128 ![0, 1, 2, 3] bcast_S4x8192x8x1_S4x8192x8x128_0_1_2_3 main_v28
  let main_v31 : IVec S4x8192x8x128 1 := andi main_v30 main_v29
  main_v31

def fn {F : FTy → Type} [FloatOps F] (main_arg0 : IVec S32x16 32) (main_arg1 : FVec F S4x8192x1024 .f32) (main_arg2 : FVec F S4x8192x1024 .f32) (main_arg3 : FVec F S4x8192x8192 .bf16) (main_arg4 : FVec F S4x8x8192 .f32) : IVec S4x8192x8x128 1 :=
  let main_v0 : IVec S4x8x8x2 32 := shapeCast S4x8x8x2 main_arg0 shapeCasts_S32x16_S4x8x8x2
  let main_v1 : IVec S4x8x8x1 32 := (extractStridedSlice S4x8x8x1 ![0, 0, 0, 0] · slices_S4x8x8x2_S4x8x8x1_0_0_0_0) main_v0
  let main_v2 : IVec S4x8x8 32 := shapeCast S4x8x8 main_v1 shapeCasts_S4x8x8x1_S4x8x8
  let main_c : IVec S_ 32 := constantI S_ 32 0#32
  let main_v3 : IVec S4x8x8 32 := broadcastInDim S4x8x8 ![] bcast_S_S4x8x8 main_c
  let main_v4 : IVec S4x8x8 1 := cmpi .sge main_v2 main_v3
  let main_v5 : IVec S8 32 := iotaInDim S8 32 0
  let main_c_0 : IVec S_ 32 := constantI S_ 32 2#32
  let main_v6 : IVec S8 32 := broadcastInDim S8 ![] bcast_S_S8 main_c_0
  let main_v7 : IVec S8 32 := muli main_v6 main_v5
  let main_v8 : IVec S1x1x8 32 := broadcastInDim S1x1x8 ![2] bcast_S8_S1x1x8_2 main_v7
  let main_v9 : IVec S4x8x8 32 := broadcastInDim S4x8x8 ![0, 1, 2] bcast_S1x1x8_S4x8x8_0_1_2 main_v8
  let main_v10 : IVec S4x8x8 1 := cmpi .sle main_v2 main_v9
  let main_v11 : IVec S4x8x8 1 := andi main_v4 main_v10
  let main_v12 : IVec S4x8x8x1 1 := broadcastInDim S4x8x8x1 ![0, 1, 2] bcast_S4x8x8_S4x8x8x1_0_1_2 main_v11
  let main_v13 : FVec F S4x8x8192 .f32 := Host.absf main_arg4
  let main_cst : FVec F S_ .f32 := constant S_ .f32 0x7F800000#32
  let main_v14 : FVec F S4x8x8192 .f32 := broadcastInDim S4x8x8192 ![] bcast_S_S4x8x8192 main_cst
  let main_v15 : IVec S4x8x8192 1 := cmpf .olt main_v13 main_v14
  let main_v16 : IVec S4x8x8x1024 1 := shapeCast S4x8x8x1024 main_v15 shapeCasts_S4x8x8192_S4x8x8x1024
  let main_v17 : IVec S4x8x8x1024 1 := broadcastInDim S4x8x8x1024 ![0, 1, 2, 3] bcast_S4x8x8x1_S4x8x8x1024_0_1_2_3 main_v12
  let main_v18 : IVec S4x8x8x1024 1 := andi main_v17 main_v16
  let main_v19 : FVec F S4x8192x1024 .f32 := Host.absf main_arg1
  let main_cst_1 : FVec F S_ .f32 := constant S_ .f32 0x7F800000#32
  fn_part1 (F := F) main_arg2 main_v18 main_v19 main_cst_1
-- ==== Kernel.lean ====
abbrev S32x16 : Shape := ⟨2, ![32, 16]⟩
abbrev S4x8192x1024 : Shape := ⟨3, ![4, 8192, 1024]⟩
abbrev S4x8192x8192 : Shape := ⟨3, ![4, 8192, 8192]⟩
abbrev S4x8x8192 : Shape := ⟨3, ![4, 8, 8192]⟩
abbrev S_ : Shape := ⟨0, ![]⟩
abbrev S4x8192x8 : Shape := ⟨3, ![4, 8192, 8]⟩
abbrev S4x8192x32 : Shape := ⟨3, ![4, 8192, 32]⟩
abbrev S4x8192x72 : Shape := ⟨3, ![4, 8192, 72]⟩
abbrev S4x8192x128 : Shape := ⟨3, ![4, 8192, 128]⟩
abbrev S1x8192x128 : Shape := ⟨3, ![1, 8192, 128]⟩
abbrev S128x1024 : Shape := ⟨2, ![128, 1024]⟩
abbrev S2x512x1024 : Shape := ⟨3, ![2, 512, 1024]⟩
abbrev S1024x128 : Shape := ⟨2, ![1024, 128]⟩
abbrev S1x1 : Shape := ⟨2, ![1, 1]⟩
abbrev S1x1024x128 : Shape := ⟨3, ![1, 1024, 128]⟩
abbrev S1024x256 : Shape := ⟨2, ![1024, 256]⟩
abbrev S1x512x128 : Shape := ⟨3, ![1, 512, 128]⟩
abbrev S512x128 : Shape := ⟨2, ![512, 128]⟩
abbrev S512x256 : Shape := ⟨2, ![512, 256]⟩
abbrev S512x1024 : Shape := ⟨2, ![512, 1024]⟩
abbrev S1x512x1024 : Shape := ⟨3, ![1, 512, 1024]⟩
abbrev S1x1024 : Shape := ⟨2, ![1, 1024]⟩
abbrev S1024 : Shape := ⟨1, ![1024]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S128x512 : Shape := ⟨2, ![128, 512]⟩

abbrev nBuf : Space → Nat
  | .hbm => 33
  | .vmem => 12
  | .smem => 1
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x8192, .bf16⟩
  | .hbm, ⟨3, _⟩ => ⟨S4x8x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192x1024, .f32⟩
  | .hbm, ⟨12, _⟩ => ⟨S4x8192x1024, .f32⟩
  | .hbm, ⟨13, _⟩ => ⟨S4x8192x1024, .bf16⟩
  | .hbm, ⟨14, _⟩ => ⟨S4x8192x1024, .bf16⟩
  | .hbm, ⟨15, _⟩ => ⟨S4x8192x8, .f32⟩
  | .hbm, ⟨16, _⟩ => ⟨S_, .f32⟩
  | .hbm, ⟨17, _⟩ => ⟨S4x8192x8, .f32⟩
  | .hbm, ⟨18, _⟩ => ⟨S4x8192x8, .f32⟩
  | .hbm, ⟨19, _⟩ => ⟨S4x8192x8, .bf16⟩
  | .hbm, ⟨20, _⟩ => ⟨S4x8192x8, .f32⟩
  | .hbm, ⟨21, _⟩ => ⟨S4x8192x8, .f32⟩
  | .hbm, ⟨22, _⟩ => ⟨S4x8192x8, .bf16⟩
  | .hbm, ⟨23, _⟩ => ⟨S4x8192x8, .f32⟩
  | .hbm, ⟨24, _⟩ => ⟨S4x8192x8, .f32⟩
  | .hbm, ⟨25, _⟩ => ⟨S4x8192x8, .f32⟩
  | .hbm, ⟨26, _⟩ => ⟨S_, .f32⟩
  | .hbm, ⟨27, _⟩ => ⟨S4x8192x32, .f32⟩
  | .hbm, ⟨28, _⟩ => ⟨S_, .f32⟩
  | .hbm, ⟨29, _⟩ => ⟨S4x8192x72, .f32⟩
  | .hbm, ⟨30, _⟩ => ⟨S4x8192x128, .f32⟩
  | .hbm, ⟨31, _⟩ => ⟨S4x8192x128, .bf16⟩
  | .hbm, ⟨32, _⟩ => ⟨S4x8192x1024, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S128x1024, .f32⟩
  | .local _ .vmem, ⟨11, _⟩ => ⟨S2x512x1024, .f32⟩
  | .local _ .smem, ⟨0, _⟩ => ⟨S32x16, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_1 : BitVec 32 := 0#32
  let c8_i32 : BitVec 32 := 8#32
  let v16 : BitVec 32 := Scalar.addi c0_i32_1 c8_i32
  let c1_i32 : BitVec 32 := 1#32
  ⟨c0_i32_1, v16, c1_i32⟩
def k0_off1 (i : grid0.Coords) (k0_t1 : Fin k0_t1_loop.trips) : Fin 2 → Nat :=
  let arg0 : BitVec 32 := BitVec.ofNat 32 (i 0).val
  let c8_i32_3 : BitVec 32 := 8#32
  let v17 : BitVec 32 := Scalar.muli arg0 c8_i32_3
  let arg1 : BitVec 32 := BitVec.ofNat 32 (i 1).val
  let v18 : BitVec 32 := Scalar.addi v17 arg1
  let v20 : Index := Scalar.indexCast v18
  let c2_i32 : BitVec 32 := 2#32
  let c0_i32_1 : BitVec 32 := 0#32
  let c1_i32 : BitVec 32 := 1#32
  let arg10 : BitVec 32 := Scf.iv c0_i32_1 c1_i32 k0_t1
  let v19 : BitVec 32 := Scalar.muli c2_i32 arg10
  let v21 : Index := Scalar.indexCast v19
  ![v20.toNat, v21.toNat]
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c1024_i32 : BitVec 32 := 1024#32
  let v23 : BitVec 32 := Scalar.muli arg10 c1024_i32
  v23
def k0_off2 (k0_t1 : Fin k0_t1_loop.trips) : Fin 3 → Nat :=
  let c0 : Index := 0#32
  let c0_i32_1 : BitVec 32 := 0#32
  let c1_i32 : BitVec 32 := 1#32
  let arg10 : BitVec 32 := Scf.iv c0_i32_1 c1_i32 k0_t1
  let c1024_i32 : BitVec 32 := 1024#32
  let v23 : BitVec 32 := Scalar.muli arg10 c1024_i32
  let v24 : BitVec 32 := v23
  let v25 : Index := Scalar.indexCast v24
  let c0_4 : Index := 0#32
  ![0, v25.toNat, 0]
def k0_mult2 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32 : BitVec 32 := 512#32
  let v84 : BitVec 32 := Scalar.muli v33 c512_i32
  v84
def k0_off3 (k0_t1 : Fin k0_t1_loop.trips) : Fin 3 → Nat :=
  let c0_35 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32 : BitVec 32 := 512#32
  let v84 : BitVec 32 := Scalar.muli v33 c512_i32
  let v85 : BitVec 32 := v84
  let v86 : Index := Scalar.indexCast v85
  let c0_36 : Index := 0#32
  ![0, v86.toNat, 0]
def k0_mult3 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_37 : BitVec 32 := 512#32
  let v89 : BitVec 32 := Scalar.muli v33 c512_i32_37
  v89
def k0_mult4 (v22 : BitVec 32) : BitVec 32 :=
  let c512_i32 : BitVec 32 := 512#32
  let v84 : BitVec 32 := Scalar.muli v22 c512_i32
  v84
def k0_cond2 (k0_t1 : Fin k0_t1_loop.trips) (v22 : BitVec 32) : BitVec 1 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c0_i32_11 : BitVec 32 := 0#32
  let v38 : BitVec 1 := Scalar.cmpi .sgt v34 c0_i32_11
  let v39 : BitVec 32 := Scalar.extui v38
  let c0_i32_12 : BitVec 32 := 0#32
  let v40 : BitVec 1 := Scalar.cmpi .ne v39 c0_i32_12
  v40

def k0_off4 (v22 : BitVec 32) : Fin 3 → Nat :=
  let c0_35 : Index := 0#32
  let c512_i32 : BitVec 32 := 512#32
  let v84 : BitVec 32 := Scalar.muli v22 c512_i32
  let v85 : BitVec 32 := v84
  let v86 : Index := Scalar.indexCast v85
  let c0_36 : Index := 0#32
  ![0, v86.toNat, 0]
def k0_mult5 (v22 : BitVec 32) : BitVec 32 :=
  let c512_i32_37 : BitVec 32 := 512#32
  let v89 : BitVec 32 := Scalar.muli v22 c512_i32_37
  v89
@[reducible] def k0_t2_loop (k0_t1 : Fin k0_t1_loop.trips) (v22 : BitVec 32) : Scf.Loop 32 :=
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_25 : BitVec 32 := 1#32
  ⟨c0_i32_23, v66, c1_i32_25⟩
def k0_mult6 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c0_i32_37 : BitVec 32 := 0#32
  let v87 : BitVec 32 := Scalar.addi v85 c0_i32_37
  let c1_i32_38 : BitVec 32 := 1#32
  let v88 : BitVec 32 := Scalar.addi v87 c1_i32_38
  let c512_i32 : BitVec 32 := 512#32
  let v89 : BitVec 32 := Scalar.muli v88 c512_i32
  v89
def k0_off5 (k0_t1 : Fin k0_t1_loop.trips) (v22 : BitVec 32) (k0_t2 : Fin (k0_t2_loop k0_t1 v22).trips) (c0_i32_37 : BitVec 32) : Fin 3 → Nat :=
  let c0_39 : Index := 0#32
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let v87 : BitVec 32 := Scalar.addi v85 c0_i32_37
  let c1_i32_38 : BitVec 32 := 1#32
  let v88 : BitVec 32 := Scalar.addi v87 c1_i32_38
  let c512_i32 : BitVec 32 := 512#32
  let v89 : BitVec 32 := Scalar.muli v88 c512_i32
  let v90 : BitVec 32 := v89
  let v91 : Index := Scalar.indexCast v90
  let c0_40 : Index := 0#32
  ![0, v91.toNat, 0]
def k0_mult7 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c0_i32_37 : BitVec 32 := 0#32
  let v87 : BitVec 32 := Scalar.addi v85 c0_i32_37
  let c1_i32_38 : BitVec 32 := 1#32
  let v88 : BitVec 32 := Scalar.addi v87 c1_i32_38
  let c512_i32_41 : BitVec 32 := 512#32
  let v94 : BitVec 32 := Scalar.muli v88 c512_i32_41
  v94
def k0_mult8 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c0_i32_36 : BitVec 32 := 0#32
  let v86 : BitVec 32 := Scalar.addi v85 c0_i32_36
  let c512_i32_52 : BitVec 32 := 512#32
  let v118 : BitVec 32 := Scalar.muli v86 c512_i32_52
  v118
def k0_off6 (k0_t1 : Fin k0_t1_loop.trips) (v22 : BitVec 32) (k0_t2 : Fin (k0_t2_loop k0_t1 v22).trips) (c0_i32_36 : BitVec 32) : Fin 3 → Nat :=
  let c0_53 : Index := 0#32
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let v86 : BitVec 32 := Scalar.addi v85 c0_i32_36
  let c512_i32_52 : BitVec 32 := 512#32
  let v118 : BitVec 32 := Scalar.muli v86 c512_i32_52
  let v119 : BitVec 32 := v118
  let v120 : Index := Scalar.indexCast v119
  let c0_54 : Index := 0#32
  ![0, v120.toNat, 0]
def k0_mult9 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c1_i32_61 : BitVec 32 := 1#32
  let v133 : BitVec 32 := Scalar.addi v85 c1_i32_61
  let c1_i32_62 : BitVec 32 := 1#32
  let v134 : BitVec 32 := Scalar.addi v133 c1_i32_62
  let c512_i32_63 : BitVec 32 := 512#32
  let v135 : BitVec 32 := Scalar.muli v134 c512_i32_63
  v135
def k0_mult10 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c1_i32_61 : BitVec 32 := 1#32
  let v133 : BitVec 32 := Scalar.addi v85 c1_i32_61
  let c1_i32_62 : BitVec 32 := 1#32
  let v134 : BitVec 32 := Scalar.addi v133 c1_i32_62
  let c512_i32_66 : BitVec 32 := 512#32
  let v140 : BitVec 32 := Scalar.muli v134 c512_i32_66
  v140
def k0_mult11 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c1_i32_60 : BitVec 32 := 1#32
  let v132 : BitVec 32 := Scalar.addi v85 c1_i32_60
  let c512_i32_78 : BitVec 32 := 512#32
  let v164 : BitVec 32 := Scalar.muli v132 c512_i32_78
  v164
def k0_mult12 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c2_i32_87 : BitVec 32 := 2#32
  let v179 : BitVec 32 := Scalar.addi v85 c2_i32_87
  let c1_i32_88 : BitVec 32 := 1#32
  let v180 : BitVec 32 := Scalar.addi v179 c1_i32_88
  let c512_i32_89 : BitVec 32 := 512#32
  let v181 : BitVec 32 := Scalar.muli v180 c512_i32_89
  v181
def k0_mult13 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c2_i32_87 : BitVec 32 := 2#32
  let v179 : BitVec 32 := Scalar.addi v85 c2_i32_87
  let c1_i32_88 : BitVec 32 := 1#32
  let v180 : BitVec 32 := Scalar.addi v179 c1_i32_88
  let c512_i32_92 : BitVec 32 := 512#32
  let v186 : BitVec 32 := Scalar.muli v180 c512_i32_92
  v186
def k0_mult14 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c2_i32_86 : BitVec 32 := 2#32
  let v178 : BitVec 32 := Scalar.addi v85 c2_i32_86
  let c512_i32_104 : BitVec 32 := 512#32
  let v210 : BitVec 32 := Scalar.muli v178 c512_i32_104
  v210
def k0_mult15 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c3_i32_112 : BitVec 32 := 3#32
  let v225 : BitVec 32 := Scalar.addi v85 c3_i32_112
  let c1_i32_113 : BitVec 32 := 1#32
  let v226 : BitVec 32 := Scalar.addi v225 c1_i32_113
  let c512_i32_114 : BitVec 32 := 512#32
  let v227 : BitVec 32 := Scalar.muli v226 c512_i32_114
  v227
def k0_mult16 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c3_i32_112 : BitVec 32 := 3#32
  let v225 : BitVec 32 := Scalar.addi v85 c3_i32_112
  let c1_i32_113 : BitVec 32 := 1#32
  let v226 : BitVec 32 := Scalar.addi v225 c1_i32_113
  let c512_i32_117 : BitVec 32 := 512#32
  let v232 : BitVec 32 := Scalar.muli v226 c512_i32_117
  v232
def k0_mult17 (k0_t1 : Fin k0_t1_loop.trips) (v22 : BitVec 32) (k0_t2 : Fin (k0_t2_loop k0_t1 v22).trips) : BitVec 32 :=
  let c4_i32_35 : BitVec 32 := 4#32
  let c0_i32_23 : BitVec 32 := 0#32
  let c1_i32_25 : BitVec 32 := 1#32
  let arg11 : BitVec 32 := Scf.iv c0_i32_23 c1_i32_25 k0_t2
  let v84 : BitVec 32 := Scalar.muli c4_i32_35 arg11
  let v85 : BitVec 32 := Scalar.addi v22 v84
  let c3_i32 : BitVec 32 := 3#32
  let v224 : BitVec 32 := Scalar.addi v85 c3_i32
  let c512_i32_129 : BitVec 32 := 512#32
  let v256 : BitVec 32 := Scalar.muli v224 c512_i32_129
  v256
@[reducible] def k0_t3_loop (k0_t1 : Fin k0_t1_loop.trips) (v22 : BitVec 32) : Scf.Loop 32 :=
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let v63 : BitVec 32 := Scalar.addi c0_i32_23 v62
  let c1_i32_26 : BitVec 32 := 1#32
  ⟨v66, v63, c1_i32_26⟩
def k0_mult18 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c0_i32_37 : BitVec 32 := 0#32
  let v87 : BitVec 32 := Scalar.addi v85 c0_i32_37
  let c1_i32_38 : BitVec 32 := 1#32
  let v88 : BitVec 32 := Scalar.addi v87 c1_i32_38
  let c512_i32 : BitVec 32 := 512#32
  let v89 : BitVec 32 := Scalar.muli v88 c512_i32
  v89
def k0_off7 (k0_t1 : Fin k0_t1_loop.trips) (v22 : BitVec 32) (k0_t3 : Fin (k0_t3_loop k0_t1 v22).trips) (c0_i32_37 : BitVec 32) : Fin 3 → Nat :=
  let c0_39 : Index := 0#32
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let v87 : BitVec 32 := Scalar.addi v85 c0_i32_37
  let c1_i32_38 : BitVec 32 := 1#32
  let v88 : BitVec 32 := Scalar.addi v87 c1_i32_38
  let c512_i32 : BitVec 32 := 512#32
  let v89 : BitVec 32 := Scalar.muli v88 c512_i32
  let v90 : BitVec 32 := v89
  let v91 : Index := Scalar.indexCast v90
  let c0_40 : Index := 0#32
  ![0, v91.toNat, 0]
def k0_mult19 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c0_i32_37 : BitVec 32 := 0#32
  let v87 : BitVec 32 := Scalar.addi v85 c0_i32_37
  let c1_i32_38 : BitVec 32 := 1#32
  let v88 : BitVec 32 := Scalar.addi v87 c1_i32_38
  let c512_i32_41 : BitVec 32 := 512#32
  let v94 : BitVec 32 := Scalar.muli v88 c512_i32_41
  v94
def k0_mult20 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c0_i32_36 : BitVec 32 := 0#32
  let v86 : BitVec 32 := Scalar.addi v85 c0_i32_36
  let c512_i32_52 : BitVec 32 := 512#32
  let v118 : BitVec 32 := Scalar.muli v86 c512_i32_52
  v118
def k0_off8 (k0_t1 : Fin k0_t1_loop.trips) (v22 : BitVec 32) (k0_t3 : Fin (k0_t3_loop k0_t1 v22).trips) (c0_i32_36 : BitVec 32) : Fin 3 → Nat :=
  let c0_53 : Index := 0#32
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let v86 : BitVec 32 := Scalar.addi v85 c0_i32_36
  let c512_i32_52 : BitVec 32 := 512#32
  let v118 : BitVec 32 := Scalar.muli v86 c512_i32_52
  let v119 : BitVec 32 := v118
  let v120 : Index := Scalar.indexCast v119
  let c0_54 : Index := 0#32
  ![0, v120.toNat, 0]
def k0_mult21 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c1_i32_61 : BitVec 32 := 1#32
  let v133 : BitVec 32 := Scalar.addi v85 c1_i32_61
  let c1_i32_62 : BitVec 32 := 1#32
  let v134 : BitVec 32 := Scalar.addi v133 c1_i32_62
  let c512_i32_63 : BitVec 32 := 512#32
  let v135 : BitVec 32 := Scalar.muli v134 c512_i32_63
  v135
def k0_mult22 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c1_i32_61 : BitVec 32 := 1#32
  let v133 : BitVec 32 := Scalar.addi v85 c1_i32_61
  let c1_i32_62 : BitVec 32 := 1#32
  let v134 : BitVec 32 := Scalar.addi v133 c1_i32_62
  let c512_i32_66 : BitVec 32 := 512#32
  let v140 : BitVec 32 := Scalar.muli v134 c512_i32_66
  v140
def k0_mult23 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c1_i32_60 : BitVec 32 := 1#32
  let v132 : BitVec 32 := Scalar.addi v85 c1_i32_60
  let c512_i32_78 : BitVec 32 := 512#32
  let v164 : BitVec 32 := Scalar.muli v132 c512_i32_78
  v164
def k0_mult24 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c2_i32_87 : BitVec 32 := 2#32
  let v179 : BitVec 32 := Scalar.addi v85 c2_i32_87
  let c1_i32_88 : BitVec 32 := 1#32
  let v180 : BitVec 32 := Scalar.addi v179 c1_i32_88
  let c512_i32_89 : BitVec 32 := 512#32
  let v181 : BitVec 32 := Scalar.muli v180 c512_i32_89
  v181
def k0_mult25 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c2_i32_87 : BitVec 32 := 2#32
  let v179 : BitVec 32 := Scalar.addi v85 c2_i32_87
  let c1_i32_88 : BitVec 32 := 1#32
  let v180 : BitVec 32 := Scalar.addi v179 c1_i32_88
  let c512_i32_92 : BitVec 32 := 512#32
  let v186 : BitVec 32 := Scalar.muli v180 c512_i32_92
  v186
def k0_mult26 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c2_i32_86 : BitVec 32 := 2#32
  let v178 : BitVec 32 := Scalar.addi v85 c2_i32_86
  let c512_i32_104 : BitVec 32 := 512#32
  let v210 : BitVec 32 := Scalar.muli v178 c512_i32_104
  v210
def k0_mult27 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c3_i32_112 : BitVec 32 := 3#32
  let v225 : BitVec 32 := Scalar.addi v85 c3_i32_112
  let c1_i32_113 : BitVec 32 := 1#32
  let v226 : BitVec 32 := Scalar.addi v225 c1_i32_113
  let c512_i32_114 : BitVec 32 := 512#32
  let v227 : BitVec 32 := Scalar.muli v226 c512_i32_114
  v227
def k0_mult28 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c3_i32_112 : BitVec 32 := 3#32
  let v225 : BitVec 32 := Scalar.addi v85 c3_i32_112
  let c1_i32_113 : BitVec 32 := 1#32
  let v226 : BitVec 32 := Scalar.addi v225 c1_i32_113
  let c512_i32_117 : BitVec 32 := 512#32
  let v232 : BitVec 32 := Scalar.muli v226 c512_i32_117
  v232
def k0_mult29 (k0_t1 : Fin k0_t1_loop.trips) (v22 : BitVec 32) (k0_t3 : Fin (k0_t3_loop k0_t1 v22).trips) : BitVec 32 :=
  let c4_i32_35 : BitVec 32 := 4#32
  let c0_i32_23 : BitVec 32 := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg11 : BitVec 32 := Scf.iv v66 c1_i32_26 k0_t3
  let v84 : BitVec 32 := Scalar.muli c4_i32_35 arg11
  let v85 : BitVec 32 := Scalar.addi v22 v84
  let c3_i32 : BitVec 32 := 3#32
  let v224 : BitVec 32 := Scalar.addi v85 c3_i32
  let c512_i32_129 : BitVec 32 := 512#32
  let v256 : BitVec 32 := Scalar.muli v224 c512_i32_129
  v256
def k0_mult30 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c4_i32_42 : BitVec 32 := 4#32
  let v94 : BitVec 32 := Scalar.subi v33 c4_i32_42
  let c1_i32_43 : BitVec 32 := 1#32
  let v95 : BitVec 32 := Scalar.addi v94 c1_i32_43
  let c512_i32 : BitVec 32 := 512#32
  let v96 : BitVec 32 := Scalar.muli v95 c512_i32
  v96
def k0_off9 (k0_t1 : Fin k0_t1_loop.trips) (c4_i32_42 : BitVec 32) : Fin 3 → Nat :=
  let c0_44 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v94 : BitVec 32 := Scalar.subi v33 c4_i32_42
  let c1_i32_43 : BitVec 32 := 1#32
  let v95 : BitVec 32 := Scalar.addi v94 c1_i32_43
  let c512_i32 : BitVec 32 := 512#32
  let v96 : BitVec 32 := Scalar.muli v95 c512_i32
  let v97 : BitVec 32 := v96
  let v98 : Index := Scalar.indexCast v97
  let c0_45 : Index := 0#32
  ![0, v98.toNat, 0]
def k0_cond3 (k0_t1 : Fin k0_t1_loop.trips) (v22 : BitVec 32) : BitVec 1 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c4_i32_27 : BitVec 32 := 4#32
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v69 : BitVec 32 := Scalar.muli c4_i32_27 v61
  let v70 : BitVec 32 := Scalar.subi v34 v69
  let c0_i32_28 : BitVec 32 := 0#32
  let v71 : BitVec 32 := Scalar.maxsi v70 c0_i32_28
  let c4_i32_29 : BitVec 32 := 4#32
  let v72 : BitVec 32 := Scalar.minsi v71 c4_i32_29
  let c0_i32_30 : BitVec 32 := 0#32
  let v73 : BitVec 1 := Scalar.cmpi .ne v72 c0_i32_30
  v73

def k0_cond4 (k0_t1 : Fin k0_t1_loop.trips) (v22 : BitVec 32) : BitVec 1 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c4_i32_27 : BitVec 32 := 4#32
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v69 : BitVec 32 := Scalar.muli c4_i32_27 v61
  let v70 : BitVec 32 := Scalar.subi v34 v69
  let c0_i32_28 : BitVec 32 := 0#32
  let v71 : BitVec 32 := Scalar.maxsi v70 c0_i32_28
  let c4_i32_29 : BitVec 32 := 4#32
  let v72 : BitVec 32 := Scalar.minsi v71 c4_i32_29
  let c1_i32_35 : BitVec 32 := 1#32
  let v84 : BitVec 32 := Scalar.subi v72 c1_i32_35
  let c0_i32_36 : BitVec 32 := 0#32
  let v85 : BitVec 1 := Scalar.cmpi .ne v84 c0_i32_36
  v85

def k0_cond5 (k0_t1 : Fin k0_t1_loop.trips) (v22 : BitVec 32) : BitVec 1 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c4_i32_27 : BitVec 32 := 4#32
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v69 : BitVec 32 := Scalar.muli c4_i32_27 v61
  let v70 : BitVec 32 := Scalar.subi v34 v69
  let c0_i32_28 : BitVec 32 := 0#32
  let v71 : BitVec 32 := Scalar.maxsi v70 c0_i32_28
  let c4_i32_29 : BitVec 32 := 4#32
  let v72 : BitVec 32 := Scalar.minsi v71 c4_i32_29
  let c1_i32_35 : BitVec 32 := 1#32
  let v84 : BitVec 32 := Scalar.subi v72 c1_i32_35
  let c1_i32_37 : BitVec 32 := 1#32
  let v87 : BitVec 32 := Scalar.subi v84 c1_i32_37
  let c0_i32_38 : BitVec 32 := 0#32
  let v88 : BitVec 1 := Scalar.cmpi .ne v87 c0_i32_38
  v88

def k0_cond6 (k0_t1 : Fin k0_t1_loop.trips) (v22 : BitVec 32) : BitVec 1 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v34 : BitVec 32 := Scalar.subi v33 v22
  let c4_i32_27 : BitVec 32 := 4#32
  let c1_i32_15 : BitVec 32 := 1#32
  let v43 : BitVec 32 := Scalar.subi v34 c1_i32_15
  let c0_i32_16 : BitVec 32 := 0#32
  let v44 : BitVec 32 := Scalar.maxsi v43 c0_i32_16
  let c0_i32_17 : BitVec 32 := 0#32
  let v46 : BitVec 1 := Scalar.cmpi .sgt v44 c0_i32_17
  let v47 : BitVec 32 := Scalar.extui v46
  let c0_i32_18 : BitVec 32 := 0#32
  let v48 : BitVec 1 := Scalar.cmpi .slt v44 c0_i32_18
  let v49 : BitVec 32 := Scalar.extui v48
  let v50 : BitVec 32 := Scalar.subi v47 v49
  let c4_i32 : BitVec 32 := 4#32
  let c0_i32_19 : BitVec 32 := 0#32
  let v51 : BitVec 1 := Scalar.cmpi .sgt c4_i32 c0_i32_19
  let v52 : BitVec 32 := Scalar.extui v51
  let c0_i32_20 : BitVec 32 := 0#32
  let v53 : BitVec 1 := Scalar.cmpi .slt c4_i32 c0_i32_20
  let v54 : BitVec 32 := Scalar.extui v53
  let v55 : BitVec 32 := Scalar.subi v52 v54
  let v56 : BitVec 1 := Scalar.cmpi .ne v50 v55
  let v57 : BitVec 32 := Scalar.remsi v44 c4_i32
  let c0_i32_21 : BitVec 32 := 0#32
  let v58 : BitVec 1 := Scalar.cmpi .ne v57 c0_i32_21
  let v59 : BitVec 1 := Scalar.andi v56 v58
  let v45 : BitVec 32 := Scalar.divsi v44 c4_i32
  let c1_i32_22 : BitVec 32 := 1#32
  let v60 : BitVec 32 := Scalar.subi v45 c1_i32_22
  let v61 : BitVec 32 := Scalar.select v59 v60 v45
  let v69 : BitVec 32 := Scalar.muli c4_i32_27 v61
  let v70 : BitVec 32 := Scalar.subi v34 v69
  let c0_i32_28 : BitVec 32 := 0#32
  let v71 : BitVec 32 := Scalar.maxsi v70 c0_i32_28
  let c4_i32_29 : BitVec 32 := 4#32
  let v72 : BitVec 32 := Scalar.minsi v71 c4_i32_29
  let c1_i32_35 : BitVec 32 := 1#32
  let v84 : BitVec 32 := Scalar.subi v72 c1_i32_35
  let c1_i32_37 : BitVec 32 := 1#32
  let v87 : BitVec 32 := Scalar.subi v84 c1_i32_37
  let c1_i32_39 : BitVec 32 := 1#32
  let v90 : BitVec 32 := Scalar.subi v87 c1_i32_39
  let c0_i32_40 : BitVec 32 := 0#32
  let v91 : BitVec 1 := Scalar.cmpi .ne v90 c0_i32_40
  v91

def k0_mult31 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c4_i32_42 : BitVec 32 := 4#32
  let v94 : BitVec 32 := Scalar.subi v33 c4_i32_42
  let c1_i32_43 : BitVec 32 := 1#32
  let v95 : BitVec 32 := Scalar.addi v94 c1_i32_43
  let c512_i32_46 : BitVec 32 := 512#32
  let v101 : BitVec 32 := Scalar.muli v95 c512_i32_46
  v101
def k0_mult32 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c4_i32_41 : BitVec 32 := 4#32
  let v93 : BitVec 32 := Scalar.subi v33 c4_i32_41
  let c512_i32_57 : BitVec 32 := 512#32
  let v125 : BitVec 32 := Scalar.muli v93 c512_i32_57
  v125
def k0_off10 (k0_t1 : Fin k0_t1_loop.trips) (c4_i32_41 : BitVec 32) : Fin 3 → Nat :=
  let c0_58 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v93 : BitVec 32 := Scalar.subi v33 c4_i32_41
  let c512_i32_57 : BitVec 32 := 512#32
  let v125 : BitVec 32 := Scalar.muli v93 c512_i32_57
  let v126 : BitVec 32 := v125
  let v127 : Index := Scalar.indexCast v126
  let c0_59 : Index := 0#32
  ![0, v127.toNat, 0]
def k0_mult33 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c3_i32_65 : BitVec 32 := 3#32
  let v140 : BitVec 32 := Scalar.subi v33 c3_i32_65
  let c1_i32_66 : BitVec 32 := 1#32
  let v141 : BitVec 32 := Scalar.addi v140 c1_i32_66
  let c512_i32_67 : BitVec 32 := 512#32
  let v142 : BitVec 32 := Scalar.muli v141 c512_i32_67
  v142
def k0_mult34 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c3_i32_65 : BitVec 32 := 3#32
  let v140 : BitVec 32 := Scalar.subi v33 c3_i32_65
  let c1_i32_66 : BitVec 32 := 1#32
  let v141 : BitVec 32 := Scalar.addi v140 c1_i32_66
  let c512_i32_70 : BitVec 32 := 512#32
  let v147 : BitVec 32 := Scalar.muli v141 c512_i32_70
  v147
def k0_mult35 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c3_i32 : BitVec 32 := 3#32
  let v139 : BitVec 32 := Scalar.subi v33 c3_i32
  let c512_i32_82 : BitVec 32 := 512#32
  let v171 : BitVec 32 := Scalar.muli v139 c512_i32_82
  v171
def k0_mult36 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_91 : BitVec 32 := 2#32
  let v186 : BitVec 32 := Scalar.subi v33 c2_i32_91
  let c1_i32_92 : BitVec 32 := 1#32
  let v187 : BitVec 32 := Scalar.addi v186 c1_i32_92
  let c512_i32_93 : BitVec 32 := 512#32
  let v188 : BitVec 32 := Scalar.muli v187 c512_i32_93
  v188
def k0_mult37 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_91 : BitVec 32 := 2#32
  let v186 : BitVec 32 := Scalar.subi v33 c2_i32_91
  let c1_i32_92 : BitVec 32 := 1#32
  let v187 : BitVec 32 := Scalar.addi v186 c1_i32_92
  let c512_i32_96 : BitVec 32 := 512#32
  let v193 : BitVec 32 := Scalar.muli v187 c512_i32_96
  v193
def k0_mult38 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_90 : BitVec 32 := 2#32
  let v185 : BitVec 32 := Scalar.subi v33 c2_i32_90
  let c512_i32_108 : BitVec 32 := 512#32
  let v217 : BitVec 32 := Scalar.muli v185 c512_i32_108
  v217
def k0_mult39 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_117 : BitVec 32 := 1#32
  let v232 : BitVec 32 := Scalar.subi v33 c1_i32_117
  let c1_i32_118 : BitVec 32 := 1#32
  let v233 : BitVec 32 := Scalar.addi v232 c1_i32_118
  let c512_i32_119 : BitVec 32 := 512#32
  let v234 : BitVec 32 := Scalar.muli v233 c512_i32_119
  v234
def k0_mult40 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_117 : BitVec 32 := 1#32
  let v232 : BitVec 32 := Scalar.subi v33 c1_i32_117
  let c1_i32_118 : BitVec 32 := 1#32
  let v233 : BitVec 32 := Scalar.addi v232 c1_i32_118
  let c512_i32_122 : BitVec 32 := 512#32
  let v239 : BitVec 32 := Scalar.muli v233 c512_i32_122
  v239
def k0_mult41 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_116 : BitVec 32 := 1#32
  let v231 : BitVec 32 := Scalar.subi v33 c1_i32_116
  let c512_i32_135 : BitVec 32 := 512#32
  let v268 : BitVec 32 := Scalar.muli v231 c512_i32_135
  v268
def k0_mult42 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_143 : BitVec 32 := 1#32
  let v282 : BitVec 32 := Scalar.addi v33 c1_i32_143
  let c512_i32_144 : BitVec 32 := 512#32
  let v283 : BitVec 32 := Scalar.muli v282 c512_i32_144
  v283
def k0_off11 (k0_t1 : Fin k0_t1_loop.trips) : Fin 3 → Nat :=
  let c0_145 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_143 : BitVec 32 := 1#32
  let v282 : BitVec 32 := Scalar.addi v33 c1_i32_143
  let c512_i32_144 : BitVec 32 := 512#32
  let v283 : BitVec 32 := Scalar.muli v282 c512_i32_144
  let v284 : BitVec 32 := v283
  let v285 : Index := Scalar.indexCast v284
  let c0_146 : Index := 0#32
  ![0, v285.toNat, 0]
def k0_mult43 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_143 : BitVec 32 := 1#32
  let v282 : BitVec 32 := Scalar.addi v33 c1_i32_143
  let c512_i32_147 : BitVec 32 := 512#32
  let v288 : BitVec 32 := Scalar.muli v282 c512_i32_147
  v288
def k0_mult44 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_159 : BitVec 32 := 512#32
  let v318 : BitVec 32 := Scalar.muli v33 c512_i32_159
  v318
def k0_off12 (k0_t1 : Fin k0_t1_loop.trips) : Fin 3 → Nat :=
  let c0_160 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_159 : BitVec 32 := 512#32
  let v318 : BitVec 32 := Scalar.muli v33 c512_i32_159
  let v319 : BitVec 32 := v318
  let v320 : Index := Scalar.indexCast v319
  let c0_161 : Index := 0#32
  ![0, v320.toNat, 0]
def k0_mult45 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_167 : BitVec 32 := 1#32
  let v332 : BitVec 32 := Scalar.addi v33 c1_i32_167
  let c512_i32_173 : BitVec 32 := 512#32
  let v349 : BitVec 32 := Scalar.muli v332 c512_i32_173
  v349
def k0_mult46 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c3_i32_41 : BitVec 32 := 3#32
  let v94 : BitVec 32 := Scalar.subi v33 c3_i32_41
  let c1_i32_42 : BitVec 32 := 1#32
  let v95 : BitVec 32 := Scalar.addi v94 c1_i32_42
  let c512_i32 : BitVec 32 := 512#32
  let v96 : BitVec 32 := Scalar.muli v95 c512_i32
  v96
def k0_off13 (k0_t1 : Fin k0_t1_loop.trips) (c3_i32_41 : BitVec 32) : Fin 3 → Nat :=
  let c0_43 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v94 : BitVec 32 := Scalar.subi v33 c3_i32_41
  let c1_i32_42 : BitVec 32 := 1#32
  let v95 : BitVec 32 := Scalar.addi v94 c1_i32_42
  let c512_i32 : BitVec 32 := 512#32
  let v96 : BitVec 32 := Scalar.muli v95 c512_i32
  let v97 : BitVec 32 := v96
  let v98 : Index := Scalar.indexCast v97
  let c0_44 : Index := 0#32
  ![0, v98.toNat, 0]
def k0_mult47 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c3_i32_41 : BitVec 32 := 3#32
  let v94 : BitVec 32 := Scalar.subi v33 c3_i32_41
  let c1_i32_42 : BitVec 32 := 1#32
  let v95 : BitVec 32 := Scalar.addi v94 c1_i32_42
  let c512_i32_45 : BitVec 32 := 512#32
  let v101 : BitVec 32 := Scalar.muli v95 c512_i32_45
  v101
def k0_mult48 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c3_i32 : BitVec 32 := 3#32
  let v93 : BitVec 32 := Scalar.subi v33 c3_i32
  let c512_i32_56 : BitVec 32 := 512#32
  let v125 : BitVec 32 := Scalar.muli v93 c512_i32_56
  v125
def k0_off14 (k0_t1 : Fin k0_t1_loop.trips) (c3_i32 : BitVec 32) : Fin 3 → Nat :=
  let c0_57 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v93 : BitVec 32 := Scalar.subi v33 c3_i32
  let c512_i32_56 : BitVec 32 := 512#32
  let v125 : BitVec 32 := Scalar.muli v93 c512_i32_56
  let v126 : BitVec 32 := v125
  let v127 : Index := Scalar.indexCast v126
  let c0_58 : Index := 0#32
  ![0, v127.toNat, 0]
def k0_mult49 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_65 : BitVec 32 := 2#32
  let v140 : BitVec 32 := Scalar.subi v33 c2_i32_65
  let c1_i32_66 : BitVec 32 := 1#32
  let v141 : BitVec 32 := Scalar.addi v140 c1_i32_66
  let c512_i32_67 : BitVec 32 := 512#32
  let v142 : BitVec 32 := Scalar.muli v141 c512_i32_67
  v142
def k0_mult50 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_65 : BitVec 32 := 2#32
  let v140 : BitVec 32 := Scalar.subi v33 c2_i32_65
  let c1_i32_66 : BitVec 32 := 1#32
  let v141 : BitVec 32 := Scalar.addi v140 c1_i32_66
  let c512_i32_70 : BitVec 32 := 512#32
  let v147 : BitVec 32 := Scalar.muli v141 c512_i32_70
  v147
def k0_mult51 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_64 : BitVec 32 := 2#32
  let v139 : BitVec 32 := Scalar.subi v33 c2_i32_64
  let c512_i32_82 : BitVec 32 := 512#32
  let v171 : BitVec 32 := Scalar.muli v139 c512_i32_82
  v171
def k0_mult52 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_91 : BitVec 32 := 1#32
  let v186 : BitVec 32 := Scalar.subi v33 c1_i32_91
  let c1_i32_92 : BitVec 32 := 1#32
  let v187 : BitVec 32 := Scalar.addi v186 c1_i32_92
  let c512_i32_93 : BitVec 32 := 512#32
  let v188 : BitVec 32 := Scalar.muli v187 c512_i32_93
  v188
def k0_mult53 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_91 : BitVec 32 := 1#32
  let v186 : BitVec 32 := Scalar.subi v33 c1_i32_91
  let c1_i32_92 : BitVec 32 := 1#32
  let v187 : BitVec 32 := Scalar.addi v186 c1_i32_92
  let c512_i32_96 : BitVec 32 := 512#32
  let v193 : BitVec 32 := Scalar.muli v187 c512_i32_96
  v193
def k0_mult54 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_90 : BitVec 32 := 1#32
  let v185 : BitVec 32 := Scalar.subi v33 c1_i32_90
  let c512_i32_109 : BitVec 32 := 512#32
  let v222 : BitVec 32 := Scalar.muli v185 c512_i32_109
  v222
def k0_mult55 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_117 : BitVec 32 := 1#32
  let v236 : BitVec 32 := Scalar.addi v33 c1_i32_117
  let c512_i32_118 : BitVec 32 := 512#32
  let v237 : BitVec 32 := Scalar.muli v236 c512_i32_118
  v237
def k0_off15 (k0_t1 : Fin k0_t1_loop.trips) : Fin 3 → Nat :=
  let c0_119 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_117 : BitVec 32 := 1#32
  let v236 : BitVec 32 := Scalar.addi v33 c1_i32_117
  let c512_i32_118 : BitVec 32 := 512#32
  let v237 : BitVec 32 := Scalar.muli v236 c512_i32_118
  let v238 : BitVec 32 := v237
  let v239 : Index := Scalar.indexCast v238
  let c0_120 : Index := 0#32
  ![0, v239.toNat, 0]
def k0_mult56 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_117 : BitVec 32 := 1#32
  let v236 : BitVec 32 := Scalar.addi v33 c1_i32_117
  let c512_i32_121 : BitVec 32 := 512#32
  let v242 : BitVec 32 := Scalar.muli v236 c512_i32_121
  v242
def k0_mult57 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_133 : BitVec 32 := 512#32
  let v272 : BitVec 32 := Scalar.muli v33 c512_i32_133
  v272
def k0_off16 (k0_t1 : Fin k0_t1_loop.trips) : Fin 3 → Nat :=
  let c0_134 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_133 : BitVec 32 := 512#32
  let v272 : BitVec 32 := Scalar.muli v33 c512_i32_133
  let v273 : BitVec 32 := v272
  let v274 : Index := Scalar.indexCast v273
  let c0_135 : Index := 0#32
  ![0, v274.toNat, 0]
def k0_mult58 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_141 : BitVec 32 := 1#32
  let v286 : BitVec 32 := Scalar.addi v33 c1_i32_141
  let c512_i32_147 : BitVec 32 := 512#32
  let v303 : BitVec 32 := Scalar.muli v286 c512_i32_147
  v303
def k0_mult59 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_40 : BitVec 32 := 2#32
  let v91 : BitVec 32 := Scalar.subi v33 c2_i32_40
  let c1_i32_41 : BitVec 32 := 1#32
  let v92 : BitVec 32 := Scalar.addi v91 c1_i32_41
  let c512_i32 : BitVec 32 := 512#32
  let v93 : BitVec 32 := Scalar.muli v92 c512_i32
  v93
def k0_off17 (k0_t1 : Fin k0_t1_loop.trips) (c2_i32_40 : BitVec 32) : Fin 3 → Nat :=
  let c0_42 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v91 : BitVec 32 := Scalar.subi v33 c2_i32_40
  let c1_i32_41 : BitVec 32 := 1#32
  let v92 : BitVec 32 := Scalar.addi v91 c1_i32_41
  let c512_i32 : BitVec 32 := 512#32
  let v93 : BitVec 32 := Scalar.muli v92 c512_i32
  let v94 : BitVec 32 := v93
  let v95 : Index := Scalar.indexCast v94
  let c0_43 : Index := 0#32
  ![0, v95.toNat, 0]
def k0_mult60 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_40 : BitVec 32 := 2#32
  let v91 : BitVec 32 := Scalar.subi v33 c2_i32_40
  let c1_i32_41 : BitVec 32 := 1#32
  let v92 : BitVec 32 := Scalar.addi v91 c1_i32_41
  let c512_i32_44 : BitVec 32 := 512#32
  let v98 : BitVec 32 := Scalar.muli v92 c512_i32_44
  v98
def k0_mult61 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c2_i32_39 : BitVec 32 := 2#32
  let v90 : BitVec 32 := Scalar.subi v33 c2_i32_39
  let c512_i32_55 : BitVec 32 := 512#32
  let v122 : BitVec 32 := Scalar.muli v90 c512_i32_55
  v122
def k0_off18 (k0_t1 : Fin k0_t1_loop.trips) (c2_i32_39 : BitVec 32) : Fin 3 → Nat :=
  let c0_56 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let v90 : BitVec 32 := Scalar.subi v33 c2_i32_39
  let c512_i32_55 : BitVec 32 := 512#32
  let v122 : BitVec 32 := Scalar.muli v90 c512_i32_55
  let v123 : BitVec 32 := v122
  let v124 : Index := Scalar.indexCast v123
  let c0_57 : Index := 0#32
  ![0, v124.toNat, 0]
def k0_mult62 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_64 : BitVec 32 := 1#32
  let v137 : BitVec 32 := Scalar.subi v33 c1_i32_64
  let c1_i32_65 : BitVec 32 := 1#32
  let v138 : BitVec 32 := Scalar.addi v137 c1_i32_65
  let c512_i32_66 : BitVec 32 := 512#32
  let v139 : BitVec 32 := Scalar.muli v138 c512_i32_66
  v139
def k0_mult63 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_64 : BitVec 32 := 1#32
  let v137 : BitVec 32 := Scalar.subi v33 c1_i32_64
  let c1_i32_65 : BitVec 32 := 1#32
  let v138 : BitVec 32 := Scalar.addi v137 c1_i32_65
  let c512_i32_69 : BitVec 32 := 512#32
  let v144 : BitVec 32 := Scalar.muli v138 c512_i32_69
  v144
def k0_mult64 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_63 : BitVec 32 := 1#32
  let v136 : BitVec 32 := Scalar.subi v33 c1_i32_63
  let c512_i32_82 : BitVec 32 := 512#32
  let v173 : BitVec 32 := Scalar.muli v136 c512_i32_82
  v173
def k0_mult65 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_90 : BitVec 32 := 1#32
  let v187 : BitVec 32 := Scalar.addi v33 c1_i32_90
  let c512_i32_91 : BitVec 32 := 512#32
  let v188 : BitVec 32 := Scalar.muli v187 c512_i32_91
  v188
def k0_off19 (k0_t1 : Fin k0_t1_loop.trips) : Fin 3 → Nat :=
  let c0_92 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_90 : BitVec 32 := 1#32
  let v187 : BitVec 32 := Scalar.addi v33 c1_i32_90
  let c512_i32_91 : BitVec 32 := 512#32
  let v188 : BitVec 32 := Scalar.muli v187 c512_i32_91
  let v189 : BitVec 32 := v188
  let v190 : Index := Scalar.indexCast v189
  let c0_93 : Index := 0#32
  ![0, v190.toNat, 0]
def k0_mult66 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_90 : BitVec 32 := 1#32
  let v187 : BitVec 32 := Scalar.addi v33 c1_i32_90
  let c512_i32_94 : BitVec 32 := 512#32
  let v193 : BitVec 32 := Scalar.muli v187 c512_i32_94
  v193
def k0_mult67 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_106 : BitVec 32 := 512#32
  let v223 : BitVec 32 := Scalar.muli v33 c512_i32_106
  v223
def k0_off20 (k0_t1 : Fin k0_t1_loop.trips) : Fin 3 → Nat :=
  let c0_107 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_106 : BitVec 32 := 512#32
  let v223 : BitVec 32 := Scalar.muli v33 c512_i32_106
  let v224 : BitVec 32 := v223
  let v225 : Index := Scalar.indexCast v224
  let c0_108 : Index := 0#32
  ![0, v225.toNat, 0]
def k0_mult68 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_114 : BitVec 32 := 1#32
  let v237 : BitVec 32 := Scalar.addi v33 c1_i32_114
  let c512_i32_120 : BitVec 32 := 512#32
  let v254 : BitVec 32 := Scalar.muli v237 c512_i32_120
  v254
def k0_mult69 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_38 : BitVec 32 := 1#32
  let v88 : BitVec 32 := Scalar.subi v33 c1_i32_38
  let c1_i32_39 : BitVec 32 := 1#32
  let v89 : BitVec 32 := Scalar.addi v88 c1_i32_39
  let c512_i32 : BitVec 32 := 512#32
  let v90 : BitVec 32 := Scalar.muli v89 c512_i32
  v90
def k0_off21 (k0_t1 : Fin k0_t1_loop.trips) : Fin 3 → Nat :=
  let c0_40 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_38 : BitVec 32 := 1#32
  let v88 : BitVec 32 := Scalar.subi v33 c1_i32_38
  let c1_i32_39 : BitVec 32 := 1#32
  let v89 : BitVec 32 := Scalar.addi v88 c1_i32_39
  let c512_i32 : BitVec 32 := 512#32
  let v90 : BitVec 32 := Scalar.muli v89 c512_i32
  let v91 : BitVec 32 := v90
  let v92 : Index := Scalar.indexCast v91
  let c0_41 : Index := 0#32
  ![0, v92.toNat, 0]
def k0_mult70 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_38 : BitVec 32 := 1#32
  let v88 : BitVec 32 := Scalar.subi v33 c1_i32_38
  let c1_i32_39 : BitVec 32 := 1#32
  let v89 : BitVec 32 := Scalar.addi v88 c1_i32_39
  let c512_i32_42 : BitVec 32 := 512#32
  let v95 : BitVec 32 := Scalar.muli v89 c512_i32_42
  v95
def k0_mult71 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_37 : BitVec 32 := 1#32
  let v87 : BitVec 32 := Scalar.subi v33 c1_i32_37
  let c512_i32_54 : BitVec 32 := 512#32
  let v124 : BitVec 32 := Scalar.muli v87 c512_i32_54
  v124
def k0_off22 (k0_t1 : Fin k0_t1_loop.trips) : Fin 3 → Nat :=
  let c0_55 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_37 : BitVec 32 := 1#32
  let v87 : BitVec 32 := Scalar.subi v33 c1_i32_37
  let c512_i32_54 : BitVec 32 := 512#32
  let v124 : BitVec 32 := Scalar.muli v87 c512_i32_54
  let v125 : BitVec 32 := v124
  let v126 : Index := Scalar.indexCast v125
  let c0_56 : Index := 0#32
  ![0, v126.toNat, 0]

def k0_chk1_0 (k0_t1 : Fin k0_t1_loop.trips) (v22 : BitVec 32) : Prop :=
  (∀ (k0_h2 : k0_cond2 k0_t1 v22 = 1#1), 512 ∣ (k0_mult4 v22).toNat) ∧
  (∀ (k0_h2 : k0_cond2 k0_t1 v22 = 1#1), ∀ a, (k0_off4 v22) a + S1x512x128.size a ≤ S1x8192x128.size a) ∧
  (∀ (k0_h2 : k0_cond2 k0_t1 v22 = 1#1), 512 ∣ (k0_mult5 v22).toNat) ∧
  ((k0_t2_loop k0_t1 v22).OK) ∧
  (∀ k0_t2 : Fin (k0_t2_loop k0_t1 v22).trips, 512 ∣ (k0_mult6 k0_t1 v22 k0_t2).toNat) ∧
  (∀ k0_t2 : Fin (k0_t2_loop k0_t1 v22).trips, ∀ (r : Fin 4), ∀ a, (k0_off5 k0_t1 v22 k0_t2 (BitVec.ofNat 32 r.val)) a + S1x512x128.size a ≤ S1x8192x128.size a) ∧
  (∀ k0_t2 : Fin (k0_t2_loop k0_t1 v22).trips, 512 ∣ (k0_mult7 k0_t1 v22 k0_t2).toNat) ∧
  (∀ k0_t2 : Fin (k0_t2_loop k0_t1 v22).trips, 512 ∣ (k0_mult8 k0_t1 v22 k0_t2).toNat) ∧
  (∀ k0_t2 : Fin (k0_t2_loop k0_t1 v22).trips, ∀ (r : Fin 4), ∀ a, (k0_off6 k0_t1 v22 k0_t2 (BitVec.ofNat 32 r.val)) a + S1x512x128.size a ≤ S1x8192x128.size a) ∧
  (∀ k0_t2 : Fin (k0_t2_loop k0_t1 v22).trips, 512 ∣ (k0_mult9 k0_t1 v22 k0_t2).toNat) ∧
  (∀ k0_t2 : Fin (k0_t2_loop k0_t1 v22).trips, 512 ∣ (k0_mult10 k0_t1 v22 k0_t2).toNat) ∧
  (∀ k0_t2 : Fin (k0_t2_loop k0_t1 v22).trips, 512 ∣ (k0_mult11 k0_t1 v22 k0_t2).toNat) ∧
  (∀ k0_t2 : Fin (k0_t2_loop k0_t1 v22).trips, 512 ∣ (k0_mult12 k0_t1 v22 k0_t2).toNat) ∧
  (∀ k0_t2 : Fin (k0_t2_loop k0_t1 v22).trips, 512 ∣ (k0_mult13 k0_t1 v22 k0_t2).toNat) ∧
  (∀ k0_t2 : Fin (k0_t2_loop k0_t1 v22).trips, 512 ∣ (k0_mult14 k0_t1 v22 k0_t2).toNat) ∧
  (∀ k0_t2 : Fin (k0_t2_loop k0_t1 v22).trips, 512 ∣ (k0_mult15 k0_t1 v22 k0_t2).toNat) ∧
  (∀ k0_t2 : Fin (k0_t2_loop k0_t1 v22).trips, 512 ∣ (k0_mult16 k0_t1 v22 k0_t2).toNat) ∧
  (∀ k0_t2 : Fin (k0_t2_loop k0_t1 v22).trips, 512 ∣ (k0_mult17 k0_t1 v22 k0_t2).toNat) ∧
  ((k0_t3_loop k0_t1 v22).OK) ∧
  (∀ k0_t3 : Fin (k0_t3_loop k0_t1 v22).trips, 512 ∣ (k0_mult18 k0_t1 v22 k0_t3).toNat) ∧
  (∀ k0_t3 : Fin (k0_t3_loop k0_t1 v22).trips, ∀ (r : Fin 4), ∀ a, (k0_off7 k0_t1 v22 k0_t3 (BitVec.ofNat 32 r.val)) a + S1x512x128.size a ≤ S1x8192x128.size a) ∧
  (∀ k0_t3 : Fin (k0_t3_loop k0_t1 v22).trips, 512 ∣ (k0_mult19 k0_t1 v22 k0_t3).toNat) ∧
  (∀ k0_t3 : Fin (k0_t3_loop k0_t1 v22).trips, 512 ∣ (k0_mult20 k0_t1 v22 k0_t3).toNat) ∧
  (∀ k0_t3 : Fin (k0_t3_loop k0_t1 v22).trips, ∀ (r : Fin 4), ∀ a, (k0_off8 k0_t1 v22 k0_t3 (BitVec.ofNat 32 r.val)) a + S1x512x128.size a ≤ S1x8192x128.size a) ∧
  (∀ k0_t3 : Fin (k0_t3_loop k0_t1 v22).trips, 512 ∣ (k0_mult21 k0_t1 v22 k0_t3).toNat) ∧
  (∀ k0_t3 : Fin (k0_t3_loop k0_t1 v22).trips, 512 ∣ (k0_mult22 k0_t1 v22 k0_t3).toNat) ∧
  (∀ k0_t3 : Fin (k0_t3_loop k0_t1 v22).trips, 512 ∣ (k0_mult23 k0_t1 v22 k0_t3).toNat) ∧
  (∀ k0_t3 : Fin (k0_t3_loop k0_t1 v22).trips, 512 ∣ (k0_mult24 k0_t1 v22 k0_t3).toNat) ∧
  (∀ k0_t3 : Fin (k0_t3_loop k0_t1 v22).trips, 512 ∣ (k0_mult25 k0_t1 v22 k0_t3).toNat) ∧
  (∀ k0_t3 : Fin (k0_t3_loop k0_t1 v22).trips, 512 ∣ (k0_mult26 k0_t1 v22 k0_t3).toNat) ∧
  (∀ k0_t3 : Fin (k0_t3_loop k0_t1 v22).trips, 512 ∣ (k0_mult27 k0_t1 v22 k0_t3).toNat) ∧
  (∀ k0_t3 : Fin (k0_t3_loop k0_t1 v22).trips, 512 ∣ (k0_mult28 k0_t1 v22 k0_t3).toNat)
def k0_chk1_1 (k0_t1 : Fin k0_t1_loop.trips) (v22 : BitVec 32) : Prop :=
  (∀ k0_t3 : Fin (k0_t3_loop k0_t1 v22).trips, 512 ∣ (k0_mult29 k0_t1 v22 k0_t3).toNat) ∧
  (∀ (k0_h3 : k0_cond3 k0_t1 v22 = 1#1), ∀ (k0_h4 : k0_cond4 k0_t1 v22 = 1#1), ∀ (k0_h5 : k0_cond5 k0_t1 v22 = 1#1), ∀ (k0_h6 : k0_cond6 k0_t1 v22 = 1#1), ∀ (r : Fin 4), ∀ a, (k0_off9 k0_t1 (BitVec.ofNat 32 (1 + r.val))) a + S1x512x128.size a ≤ S1x8192x128.size a) ∧
  (∀ (k0_h3 : k0_cond3 k0_t1 v22 = 1#1), ∀ (k0_h4 : k0_cond4 k0_t1 v22 = 1#1), ∀ (k0_h5 : k0_cond5 k0_t1 v22 = 1#1), ∀ (k0_h6 : k0_cond6 k0_t1 v22 = 1#1), ∀ (r : Fin 4), ∀ a, (k0_off10 k0_t1 (BitVec.ofNat 32 (1 + r.val))) a + S1x512x128.size a ≤ S1x8192x128.size a) ∧
  (∀ (k0_h3 : k0_cond3 k0_t1 v22 = 1#1), ∀ (k0_h4 : k0_cond4 k0_t1 v22 = 1#1), ∀ (k0_h5 : k0_cond5 k0_t1 v22 = 1#1), ∀ (k0_h6 : ¬(k0_cond6 k0_t1 v22 = 1#1)), ∀ (r : Fin 3), ∀ a, (k0_off13 k0_t1 (BitVec.ofNat 32 (1 + r.val))) a + S1x512x128.size a ≤ S1x8192x128.size a) ∧
  (∀ (k0_h3 : k0_cond3 k0_t1 v22 = 1#1), ∀ (k0_h4 : k0_cond4 k0_t1 v22 = 1#1), ∀ (k0_h5 : k0_cond5 k0_t1 v22 = 1#1), ∀ (k0_h6 : ¬(k0_cond6 k0_t1 v22 = 1#1)), ∀ (r : Fin 3), ∀ a, (k0_off14 k0_t1 (BitVec.ofNat 32 (1 + r.val))) a + S1x512x128.size a ≤ S1x8192x128.size a) ∧
  (∀ (k0_h3 : k0_cond3 k0_t1 v22 = 1#1), ∀ (k0_h4 : k0_cond4 k0_t1 v22 = 1#1), ∀ (k0_h5 : ¬(k0_cond5 k0_t1 v22 = 1#1)), ∀ (r : Fin 2), ∀ a, (k0_off17 k0_t1 (BitVec.ofNat 32 (1 + r.val))) a + S1x512x128.size a ≤ S1x8192x128.size a) ∧
  (∀ (k0_h3 : k0_cond3 k0_t1 v22 = 1#1), ∀ (k0_h4 : k0_cond4 k0_t1 v22 = 1#1), ∀ (k0_h5 : ¬(k0_cond5 k0_t1 v22 = 1#1)), ∀ (r : Fin 2), ∀ a, (k0_off18 k0_t1 (BitVec.ofNat 32 (1 + r.val))) a + S1x512x128.size a ≤ S1x8192x128.size a) ∧
  (∀ (k0_h3 : k0_cond3 k0_t1 v22 = 1#1), ∀ (k0_h4 : ¬(k0_cond4 k0_t1 v22 = 1#1)), ∀ a, (k0_off22 k0_t1) a + S1x512x128.size a ≤ S1x8192x128.size a)
def k0_chk1 (k0_t1 : Fin k0_t1_loop.trips) (v22 : BitVec 32) : Prop :=
  k0_chk1_0 k0_t1 v22 ∧
  k0_chk1_1 k0_t1 v22
theorem k0_mult4_dvd : ∀ (k0_t1 : Fin k0_t1_loop.trips) (v22 : BitVec 32) (k0_hw1 : k0_chk1 k0_t1 v22), ∀ (k0_h2 : k0_cond2 k0_t1 v22 = 1#1), 512 ∣ (k0_mult4 v22).toNat := fun k0_t1 v22 k0_hw1 k0_h2 => k0_hw1.1.1 k0_h2
theorem k0_off4_inb : ∀ (k0_t1 : Fin k0_t1_loop.trips) (v22 : BitVec 32) (k0_hw1 : k0_chk1 k0_t1 v22), ∀ (k0_h2 : k0_cond2 k0_t1 v22 = 1#1), ∀ a, (k0_off4 v22) a + S1x512x128.size a ≤ S1x8192x128.size a := fun k0_t1 v22 k0_hw1 k0_h2 => k0_hw1.1.2.1 k0_h2
theorem k0_mult5_dvd : ∀ (k0_t1 : Fin k0_t1_loop.trips) (v22 : BitVec 32) (k0_hw1 : k0_chk1 k0_t1 v22), ∀ (k0_h2 : k0_cond2 k0_t1 v22 = 1#1), 512 ∣ (k0_mult5 v22).toNat := fun k0_t1 v22 k0_hw1 k0_h2 => k0_hw1.1.2.2.1 k0_h2
theorem k0_t2_ok : ∀ (k0_t1 : Fin k0_t1_loop.trips) (v22 : BitVec 32) (k0_hw1 : k0_chk1 k0_t1 v22), (k0_t2_loop k0_t1 v22).OK := fun k0_t1 v22 k0_hw1 => k0_hw1.1.2.2.2.1
theorem k0_mult6_dvd : ∀ (k0_t1 : Fin k0_t1_loop.trips) (v22 : BitVec 32) (k0_hw1 : k0_chk1 k0_t1 v22) (k0_t2 : Fin (k0_t2_loop k0_t1 v22).trips), 512 ∣ (k0_mult6 k0_t1 v22 k0_t2).toNat := fun k0_t1 v22 k0_hw1 k0_t2 => k0_hw1.1.2.2.2.2.1 k0_t2
theorem k0_off5_inb : ∀ (k0_t1 : Fin k0_t1_loop.trips) (v22 : BitVec 32) (k0_hw1 : k0_chk1 k0_t1 v22) (k0_t2 : Fin (k0_t2_loop k0_t1 v22).trips), ∀ (r : Fin 4), ∀ a, (k0_off5 k0_t1 v22 k0_t2 (BitVec.ofNat 32 r.val)) a + S1x512x128.size a ≤ S1x8192x128.size a := fun k0_t1 v22 k0_hw1 k0_t2 r => k0_hw1.1.2.2.2.2.2.1 k0_t2 r
theorem k0_mult7_dvd : ∀ (k0_t1 : Fin k0_t1_loop.trips) (v22 : BitVec 32) (k0_hw1 : k0_chk1 k0_t1 v22) (k0_t2 : Fin (k0_t2_loop k0_t1 v22).trips), 512 ∣ (k0_mult7 k0_t1 v22 k0_t2).toNat := fun k0_t1 v22 k0_hw1 k0_t2 => k0_hw1.1.2.2.2.2.2.2.1 k0_t2
theorem k0_mult8_dvd : ∀ (k0_t1 : Fin k0_t1_loop.trips) (v22 : BitVec 32) (k0_hw1 : k0_chk1 k0_t1 v22) (k0_t2 : Fin (k0_t2_loop k0_t1 v22).trips), 512 ∣ (k0_mult8 k0_t1 v22 k0_t2).toNat := fun k0_t1 v22 k0_hw1 k0_t2 => k0_hw1.1.2.2.2.2.2.2.2.1 k0_t2
theorem k0_off6_inb : ∀ (k0_t1 : Fin k0_t1_loop.trips) (v22 : BitVec 32) (k0_hw1 : k0_chk1 k0_t1 v22) (k0_t2 : Fin (k0_t2_loop k0_t1 v22).trips), ∀ (r : Fin 4), ∀ a, (k0_off6 k0_t1 v22 k0_t2 (BitVec.ofNat 32 r.val)) a + S1x512x128.size a ≤ S1x8192x128.size a := fun k0_t1 v22 k0_hw1 k0_t2 r => k0_hw1.1.2.2.2.2.2.2.2.2.1 k0_t2 r
theorem k0_mult9_dvd : ∀ (k0_t1 : Fin k0_t1_loop.trips) (v22 : BitVec 32) (k0_hw1 : k0_chk1 k0_t1 v22) (k0_t2 : Fin (k0_t2_loop k0_t1 v22).trips), 512 ∣ (k0_mult9 k0_t1 v22 k0_t2).toNat := fun k0_t1 v22 k0_hw1 k0_t2 => k0_hw1.1.2.2.2.2.2.2.2.2.2.1 k0_t2
theorem k0_mult10_dvd : ∀ (k0_t1 : Fin k0_t1_loop.trips) (v22 : BitVec 32) (k0_hw1 : k0_chk1 k0_t1 v22) (k0_t2 : Fin (k0_t2_loop k0_t1 v22).trips), 512 ∣ (k0_mult10 k0_t1 v22 k0_t2).toNat := fun k0_t1 v22 k0_hw1 k0_t2 => k0_hw1.1.2.2.2.2.2.2.2.2.2.2.1 k0_t2
theorem k0_mult11_dvd : ∀ (k0_t1 : Fin k0_t1_loop.trips) (v22 : BitVec 32) (k0_hw1 : k0_chk1 k0_t1 v22) (k0_t2 : Fin (k0_t2_loop k0_t1 v22).trips), 512 ∣ (k0_mult11 k0_t1 v22 k0_t2).toNat := fun k0_t1 v22 k0_hw1 k0_t2 => k0_hw1.1.2.2.2.2.2.2.2.2.2.2.2.1 k0_t2
theorem k0_mult12_dvd : ∀ (k0_t1 : Fin k0_t1_loop.trips) (v22 : BitVec 32) (k0_hw1 : k0_chk1 k0_t1 v22) (k0_t2 : Fin (k0_t2_loop k0_t1 v22).trips), 512 ∣ (k0_mult12 k0_t1 v22 k0_t2).toNat := fun k0_t1 v22 k0_hw1 k0_t2 => k0_hw1.1.2.2.2.2.2.2.2.2.2.2.2.2.1 k0_t2
theorem k0_mult13_dvd : ∀ (k0_t1 : Fin k0_t1_loop.trips) (v22 : BitVec 32) (k0_hw1 : k0_chk1 k0_t1 v22) (k0_t2 : Fin (k0_t2_loop k0_t1 v22).trips), 512 ∣ (k0_mult13 k0_t1 v22 k0_t2).toNat := fun k0_t1 v22 k0_hw1 k0_t2 => k0_hw1.1.2.2.2.2.2.2.2.2.2.2.2.2.2.1 k0_t2
theorem k0_mult14_dvd : ∀ (k0_t1 : Fin k0_t1_loop.trips) (v22 : BitVec 32) (k0_hw1 : k0_chk1 k0_t1 v22) (k0_t2 : Fin (k0_t2_loop k0_t1 v22).trips), 512 ∣ (k0_mult14 k0_t1 v22 k0_t2).toNat := fun k0_t1 v22 k0_hw1 k0_t2 => k0_hw1.1.2.2.2.2.2.2.2.2.2.2.2.2.2.2.1 k0_t2
theorem k0_mult15_dvd : ∀ (k0_t1 : Fin k0_t1_loop.trips) (v22 : BitVec 32) (k0_hw1 : k0_chk1 k0_t1 v22) (k0_t2 : Fin (k0_t2_loop k0_t1 v22).trips), 512 ∣ (k0_mult15 k0_t1 v22 k0_t2).toNat := fun k0_t1 v22 k0_hw1 k0_t2 => k0_hw1.1.2.2.2.2.2.2.2.2.2.2.2.2.2.2.2.1 k0_t2
theorem k0_mult16_dvd : ∀ (k0_t1 : Fin k0_t1_loop.trips) (v22 : BitVec 32) (k0_hw1 : k0_chk1 k0_t1 v22) (k0_t2 : Fin (k0_t2_loop k0_t1 v22).trips), 512 ∣ (k0_mult16 k0_t1 v22 k0_t2).toNat := fun k0_t1 v22 k0_hw1 k0_t2 => k0_hw1.1.2.2.2.2.2.2.2.2.2.2.2.2.2.2.2.2.1 k0_t2
theorem k0_mult17_dvd : ∀ (k0_t1 : Fin k0_t1_loop.trips) (v22 : BitVec 32) (k0_hw1 : k0_chk1 k0_t1 v22) (k0_t2 : Fin (k0_t2_loop k0_t1 v22).trips), 512 ∣ (k0_mult17 k0_t1 v22 k0_t2).toNat := fun k0_t1 v22 k0_hw1 k0_t2 => k0_hw1.1.2.2.2.2.2.2.2.2.2.2.2.2.2.2.2.2.2.1 k0_t2
theorem k0_t3_ok : ∀ (k0_t1 : Fin k0_t1_loop.trips) (v22 : BitVec 32) (k0_hw1 : k0_chk1 k0_t1 v22), (k0_t3_loop k0_t1 v22).OK := fun k0_t1 v22 k0_hw1 => k0_hw1.1.2.2.2.2.2.2.2.2.2.2.2.2.2.2.2.2.2.2.1
theorem k0_mult18_dvd : ∀ (k0_t1 : Fin k0_t1_loop.trips) (v22 : BitVec 32) (k0_hw1 : k0_chk1 k0_t1 v22) (k0_t3 : Fin (k0_t3_loop k0_t1 v22).trips), 512 ∣ (k0_mult18 k0_t1 v22 k0_t3).toNat := fun k0_t1 v22 k0_hw1 k0_t3 => k0_hw1.1.2.2.2.2.2.2.2.2.2.2.2.2.2.2.2.2.2.2.2.1 k0_t3
theorem k0_off7_inb : ∀ (k0_t1 : Fin k0_t1_loop.trips) (v22 : BitVec 32) (k0_hw1 : k0_chk1 k0_t1 v22) (k0_t3 : Fin (k0_t3_loop k0_t1 v22).trips), ∀ (r : Fin 4), ∀ a, (k0_off7 k0_t1 v22 k0_t3 (BitVec.ofNat 32 r.val)) a + S1x512x128.size a ≤ S1x8192x128.size a := fun k0_t1 v22 k0_hw1 k0_t3 r => k0_hw1.1.2.2.2.2.2.2.2.2.2.2.2.2.2.2.2.2.2.2.2.2.1 k0_t3 r
theorem k0_mult19_dvd : ∀ (k0_t1 : Fin k0_t1_loop.trips) (v22 : BitVec 32) (k0_hw1 : k0_chk1 k0_t1 v22) (k0_t3 : Fin (k0_t3_loop k0_t1 v22).trips), 512 ∣ (k0_mult19 k0_t1 v22 k0_t3).toNat := fun k0_t1 v22 k0_hw1 k0_t3 => k0_hw1.1.2.2.2.2.2.2.2.2.2.2.2.2.2.2.2.2.2.2.2.2.2.1 k0_t3
theorem k0_mult20_dvd : ∀ (k0_t1 : Fin k0_t1_loop.trips) (v22 : BitVec 32) (k0_hw1 : k0_chk1 k0_t1 v22) (k0_t3 : Fin (k0_t3_loop k0_t1 v22).trips), 512 ∣ (k0_mult20 k0_t1 v22 k0_t3).toNat := fun k0_t1 v22 k0_hw1 k0_t3 => k0_hw1.1.2.2.2.2.2.2.2.2.2.2.2.2.2.2.2.2.2.2.2.2.2.2.1 k0_t3
theorem k0_off8_inb : ∀ (k0_t1 : Fin k0_t1_loop.trips) (v22 : BitVec 32) (k0_hw1 : k0_chk1 k0_t1 v22) (k0_t3 : Fin (k0_t3_loop k0_t1 v22).trips), ∀ (r : Fin 4), ∀ a, (k0_off8 k0_t1 v22 k0_t3 (BitVec.ofNat 32 r.val)) a + S1x512x128.size a ≤ S1x8192x128.size a := fun k0_t1 v22 k0_hw1 k0_t3 r => k0_hw1.1.2.2.2.2.2.2.2.2.2.2.2.2.2.2.2.2.2.2.2.2.2.2.2.1 k0_t3 r
theorem k0_mult21_dvd : ∀ (k0_t1 : Fin k0_t1_loop.trips) (v22 : BitVec 32) (k0_hw1 : k0_chk1 k0_t1 v22) (k0_t3 : Fin (k0_t3_loop k0_t1 v22).trips), 512 ∣ (k0_mult21 k0_t1 v22 k0_t3).toNat := fun k0_t1 v22 k0_hw1 k0_t3 => k0_hw1.1.2.2.2.2.2.2.2.2.2.2.2.2.2.2.2.2.2.2.2.2.2.2.2.2.1 k0_t3
theorem k0_mult22_dvd : ∀ (k0_t1 : Fin k0_t1_loop.trips) (v22 : BitVec 32) (k0_hw1 : k0_chk1 k0_t1 v22) (k0_t3 : Fin (k0_t3_loop k0_t1 v22).trips), 512 ∣ (k0_mult22 k0_t1 v22 k0_t3).toNat := fun k0_t1 v22 k0_hw1 k0_t3 => k0_hw1.1.2.2.2.2.2.2.2.2.2.2.2.2.2.2.2.2.2.2.2.2.2.2.2.2.2.1 k0_t3
theorem k0_mult23_dvd : ∀ (k0_t1 : Fin k0_t1_loop.trips) (v22 : BitVec 32) (k0_hw1 : k0_chk1 k0_t1 v22) (k0_t3 : Fin (k0_t3_loop k0_t1 v22).trips), 512 ∣ (k0_mult23 k0_t1 v22 k0_t3).toNat := fun k0_t1 v22 k0_hw1 k0_t3 => k0_hw1.1.2.2.2.2.2.2.2.2.2.2.2.2.2.2.2.2.2.2.2.2.2.2.2.2.2.2.1 k0_t3
theorem k0_mult24_dvd : ∀ (k0_t1 : Fin k0_t1_loop.trips) (v22 : BitVec 32) (k0_hw1 : k0_chk1 k0_t1 v22) (k0_t3 : Fin (k0_t3_loop k0_t1 v22).trips), 512 ∣ (k0_mult24 k0_t1 v22 k0_t3).toNat := fun k0_t1 v22 k0_hw1 k0_t3 => k0_hw1.1.2.2.2.2.2.2.2.2.2.2.2.2.2.2.2.2.2.2.2.2.2.2.2.2.2.2.2.1 k0_t3
theorem k0_mult25_dvd : ∀ (k0_t1 : Fin k0_t1_loop.trips) (v22 : BitVec 32) (k0_hw1 : k0_chk1 k0_t1 v22) (k0_t3 : Fin (k0_t3_loop k0_t1 v22).trips), 512 ∣ (k0_mult25 k0_t1 v22 k0_t3).toNat := fun k0_t1 v22 k0_hw1 k0_t3 => k0_hw1.1.2.2.2.2.2.2.2.2.2.2.2.2.2.2.2.2.2.2.2.2.2.2.2.2.2.2.2.2.1 k0_t3
theorem k0_mult26_dvd : ∀ (k0_t1 : Fin k0_t1_loop.trips) (v22 : BitVec 32) (k0_hw1 : k0_chk1 k0_t1 v22) (k0_t3 : Fin (k0_t3_loop k0_t1 v22).trips), 512 ∣ (k0_mult26 k0_t1 v22 k0_t3).toNat := fun k0_t1 v22 k0_hw1 k0_t3 => k0_hw1.1.2.2.2.2.2.2.2.2.2.2.2.2.2.2.2.2.2.2.2.2.2.2.2.2.2.2.2.2.2.1 k0_t3
theorem k0_mult27_dvd : ∀ (k0_t1 : Fin k0_t1_loop.trips) (v22 : BitVec 32) (k0_hw1 : k0_chk1 k0_t1 v22) (k0_t3 : Fin (k0_t3_loop k0_t1 v22).trips), 512 ∣ (k0_mult27 k0_t1 v22 k0_t3).toNat := fun k0_t1 v22 k0_hw1 k0_t3 => k0_hw1.1.2.2.2.2.2.2.2.2.2.2.2.2.2.2.2.2.2.2.2.2.2.2.2.2.2.2.2.2.2.2.1 k0_t3
theorem k0_mult28_dvd : ∀ (k0_t1 : Fin k0_t1_loop.trips) (v22 : BitVec 32) (k0_hw1 : k0_chk1 k0_t1 v22) (k0_t3 : Fin (k0_t3_loop k0_t1 v22).trips), 512 ∣ (k0_mult28 k0_t1 v22 k0_t3).toNat := fun k0_t1 v22 k0_hw1 k0_t3 => k0_hw1.1.2.2.2.2.2.2.2.2.2.2.2.2.2.2.2.2.2.2.2.2.2.2.2.2.2.2.2.2.2.2.2 k0_t3
theorem k0_mult29_dvd : ∀ (k0_t1 : Fin k0_t1_loop.trips) (v22 : BitVec 32) (k0_hw1 : k0_chk1 k0_t1 v22) (k0_t3 : Fin (k0_t3_loop k0_t1 v22).trips), 512 ∣ (k0_mult29 k0_t1 v22 k0_t3).toNat := fun k0_t1 v22 k0_hw1 k0_t3 => k0_hw1.2.1 k0_t3
theorem k0_off9_inb : ∀ (k0_t1 : Fin k0_t1_loop.trips) (v22 : BitVec 32) (k0_hw1 : k0_chk1 k0_t1 v22), ∀ (k0_h3 : k0_cond3 k0_t1 v22 = 1#1), ∀ (k0_h4 : k0_cond4 k0_t1 v22 = 1#1), ∀ (k0_h5 : k0_cond5 k0_t1 v22 = 1#1), ∀ (k0_h6 : k0_cond6 k0_t1 v22 = 1#1), ∀ (r : Fin 4), ∀ a, (k0_off9 k0_t1 (BitVec.ofNat 32 (1 + r.val))) a + S1x512x128.size a ≤ S1x8192x128.size a := fun k0_t1 v22 k0_hw1 k0_h3 k0_h4 k0_h5 k0_h6 r => k0_hw1.2.2.1 k0_h3 k0_h4 k0_h5 k0_h6 r
theorem k0_off10_inb : ∀ (k0_t1 : Fin k0_t1_loop.trips) (v22 : BitVec 32) (k0_hw1 : k0_chk1 k0_t1 v22), ∀ (k0_h3 : k0_cond3 k0_t1 v22 = 1#1), ∀ (k0_h4 : k0_cond4 k0_t1 v22 = 1#1), ∀ (k0_h5 : k0_cond5 k0_t1 v22 = 1#1), ∀ (k0_h6 : k0_cond6 k0_t1 v22 = 1#1), ∀ (r : Fin 4), ∀ a, (k0_off10 k0_t1 (BitVec.ofNat 32 (1 + r.val))) a + S1x512x128.size a ≤ S1x8192x128.size a := fun k0_t1 v22 k0_hw1 k0_h3 k0_h4 k0_h5 k0_h6 r => k0_hw1.2.2.2.1 k0_h3 k0_h4 k0_h5 k0_h6 r
theorem k0_off13_inb : ∀ (k0_t1 : Fin k0_t1_loop.trips) (v22 : BitVec 32) (k0_hw1 : k0_chk1 k0_t1 v22), ∀ (k0_h3 : k0_cond3 k0_t1 v22 = 1#1), ∀ (k0_h4 : k0_cond4 k0_t1 v22 = 1#1), ∀ (k0_h5 : k0_cond5 k0_t1 v22 = 1#1), ∀ (k0_h6 : ¬(k0_cond6 k0_t1 v22 = 1#1)), ∀ (r : Fin 3), ∀ a, (k0_off13 k0_t1 (BitVec.ofNat 32 (1 + r.val))) a + S1x512x128.size a ≤ S1x8192x128.size a := fun k0_t1 v22 k0_hw1 k0_h3 k0_h4 k0_h5 k0_h6 r => k0_hw1.2.2.2.2.1 k0_h3 k0_h4 k0_h5 k0_h6 r
theorem k0_off14_inb : ∀ (k0_t1 : Fin k0_t1_loop.trips) (v22 : BitVec 32) (k0_hw1 : k0_chk1 k0_t1 v22), ∀ (k0_h3 : k0_cond3 k0_t1 v22 = 1#1), ∀ (k0_h4 : k0_cond4 k0_t1 v22 = 1#1), ∀ (k0_h5 : k0_cond5 k0_t1 v22 = 1#1), ∀ (k0_h6 : ¬(k0_cond6 k0_t1 v22 = 1#1)), ∀ (r : Fin 3), ∀ a, (k0_off14 k0_t1 (BitVec.ofNat 32 (1 + r.val))) a + S1x512x128.size a ≤ S1x8192x128.size a := fun k0_t1 v22 k0_hw1 k0_h3 k0_h4 k0_h5 k0_h6 r => k0_hw1.2.2.2.2.2.1 k0_h3 k0_h4 k0_h5 k0_h6 r
theorem k0_off17_inb : ∀ (k0_t1 : Fin k0_t1_loop.trips) (v22 : BitVec 32) (k0_hw1 : k0_chk1 k0_t1 v22), ∀ (k0_h3 : k0_cond3 k0_t1 v22 = 1#1), ∀ (k0_h4 : k0_cond4 k0_t1 v22 = 1#1), ∀ (k0_h5 : ¬(k0_cond5 k0_t1 v22 = 1#1)), ∀ (r : Fin 2), ∀ a, (k0_off17 k0_t1 (BitVec.ofNat 32 (1 + r.val))) a + S1x512x128.size a ≤ S1x8192x128.size a := fun k0_t1 v22 k0_hw1 k0_h3 k0_h4 k0_h5 r => k0_hw1.2.2.2.2.2.2.1 k0_h3 k0_h4 k0_h5 r
theorem k0_off18_inb : ∀ (k0_t1 : Fin k0_t1_loop.trips) (v22 : BitVec 32) (k0_hw1 : k0_chk1 k0_t1 v22), ∀ (k0_h3 : k0_cond3 k0_t1 v22 = 1#1), ∀ (k0_h4 : k0_cond4 k0_t1 v22 = 1#1), ∀ (k0_h5 : ¬(k0_cond5 k0_t1 v22 = 1#1)), ∀ (r : Fin 2), ∀ a, (k0_off18 k0_t1 (BitVec.ofNat 32 (1 + r.val))) a + S1x512x128.size a ≤ S1x8192x128.size a := fun k0_t1 v22 k0_hw1 k0_h3 k0_h4 k0_h5 r => k0_hw1.2.2.2.2.2.2.2.1 k0_h3 k0_h4 k0_h5 r
theorem k0_off22_inb : ∀ (k0_t1 : Fin k0_t1_loop.trips) (v22 : BitVec 32) (k0_hw1 : k0_chk1 k0_t1 v22), ∀ (k0_h3 : k0_cond3 k0_t1 v22 = 1#1), ∀ (k0_h4 : ¬(k0_cond4 k0_t1 v22 = 1#1)), ∀ a, (k0_off22 k0_t1) a + S1x512x128.size a ≤ S1x8192x128.size a := fun k0_t1 v22 k0_hw1 k0_h3 k0_h4 => k0_hw1.2.2.2.2.2.2.2.2 k0_h3 k0_h4

def k0_mult72 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_62 : BitVec 32 := 1#32
  let v138 : BitVec 32 := Scalar.addi v33 c1_i32_62
  let c512_i32_63 : BitVec 32 := 512#32
  let v139 : BitVec 32 := Scalar.muli v138 c512_i32_63
  v139
def k0_off23 (k0_t1 : Fin k0_t1_loop.trips) : Fin 3 → Nat :=
  let c0_64 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_62 : BitVec 32 := 1#32
  let v138 : BitVec 32 := Scalar.addi v33 c1_i32_62
  let c512_i32_63 : BitVec 32 := 512#32
  let v139 : BitVec 32 := Scalar.muli v138 c512_i32_63
  let v140 : BitVec 32 := v139
  let v141 : Index := Scalar.indexCast v140
  let c0_65 : Index := 0#32
  ![0, v141.toNat, 0]
def k0_mult73 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_62 : BitVec 32 := 1#32
  let v138 : BitVec 32 := Scalar.addi v33 c1_i32_62
  let c512_i32_66 : BitVec 32 := 512#32
  let v144 : BitVec 32 := Scalar.muli v138 c512_i32_66
  v144
def k0_mult74 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_78 : BitVec 32 := 512#32
  let v174 : BitVec 32 := Scalar.muli v33 c512_i32_78
  v174
def k0_off24 (k0_t1 : Fin k0_t1_loop.trips) : Fin 3 → Nat :=
  let c0_79 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_78 : BitVec 32 := 512#32
  let v174 : BitVec 32 := Scalar.muli v33 c512_i32_78
  let v175 : BitVec 32 := v174
  let v176 : Index := Scalar.indexCast v175
  let c0_80 : Index := 0#32
  ![0, v176.toNat, 0]
def k0_mult75 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_86 : BitVec 32 := 1#32
  let v188 : BitVec 32 := Scalar.addi v33 c1_i32_86
  let c512_i32_92 : BitVec 32 := 512#32
  let v205 : BitVec 32 := Scalar.muli v188 c512_i32_92
  v205
def k0_mult76 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_35 : BitVec 32 := 1#32
  let v84 : BitVec 32 := Scalar.addi v33 c1_i32_35
  let c512_i32 : BitVec 32 := 512#32
  let v85 : BitVec 32 := Scalar.muli v84 c512_i32
  v85
def k0_off25 (k0_t1 : Fin k0_t1_loop.trips) : Fin 3 → Nat :=
  let c0_36 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_35 : BitVec 32 := 1#32
  let v84 : BitVec 32 := Scalar.addi v33 c1_i32_35
  let c512_i32 : BitVec 32 := 512#32
  let v85 : BitVec 32 := Scalar.muli v84 c512_i32
  let v86 : BitVec 32 := v85
  let v87 : Index := Scalar.indexCast v86
  let c0_37 : Index := 0#32
  ![0, v87.toNat, 0]
def k0_mult77 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_35 : BitVec 32 := 1#32
  let v84 : BitVec 32 := Scalar.addi v33 c1_i32_35
  let c512_i32_38 : BitVec 32 := 512#32
  let v90 : BitVec 32 := Scalar.muli v84 c512_i32_38
  v90
def k0_mult78 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_49 : BitVec 32 := 512#32
  let v120 : BitVec 32 := Scalar.muli v33 c512_i32_49
  v120
def k0_off26 (k0_t1 : Fin k0_t1_loop.trips) : Fin 3 → Nat :=
  let c0_50 : Index := 0#32
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c512_i32_49 : BitVec 32 := 512#32
  let v120 : BitVec 32 := Scalar.muli v33 c512_i32_49
  let v121 : BitVec 32 := v120
  let v122 : Index := Scalar.indexCast v121
  let c0_51 : Index := 0#32
  ![0, v122.toNat, 0]
def k0_mult79 (k0_t1 : Fin k0_t1_loop.trips) : BitVec 32 :=
  let c2_i32_8 : BitVec 32 := 2#32
  let c0_i32_1 : BitVec 32 := 0#32
  let c1_i32 : BitVec 32 := 1#32
  let arg10 : BitVec 32 := Scf.iv c0_i32_1 c1_i32 k0_t1
  let v33 : BitVec 32 := Scalar.muli c2_i32_8 arg10
  let c1_i32_57 : BitVec 32 := 1#32
  let v134 : BitVec 32 := Scalar.addi v33 c1_i32_57
  let c512_i32_63 : BitVec 32 := 512#32
  let v151 : BitVec 32 := Scalar.muli v134 c512_i32_63
  v151
def k0_off27 (k0_t1 : Fin k0_t1_loop.trips) : Fin 3 → Nat :=
  let c0_33 : Index := 0#32
  let c0_i32_1 : BitVec 32 := 0#32
  let c1_i32 : BitVec 32 := 1#32
  let arg10 : BitVec 32 := Scf.iv c0_i32_1 c1_i32 k0_t1
  let c1024_i32 : BitVec 32 := 1024#32
  let v23 : BitVec 32 := Scalar.muli arg10 c1024_i32
  let v24 : BitVec 32 := v23
  let v80 : Index := Scalar.indexCast v24
  let c0_34 : Index := 0#32
  ![0, v80.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x16 : Shape := ⟨2, ![32, 16]⟩
abbrev S4x8192x1024 : Shape := ⟨3, ![4, 8192, 1024]⟩
abbrev S4x8192x8192 : Shape := ⟨3, ![4, 8192, 8192]⟩
abbrev S4x8x8192 : Shape := ⟨3, ![4, 8, 8192]⟩
abbrev S4x8192x8x128 : Shape := ⟨4, ![4, 8192, 8, 128]⟩
abbrev S4x8x8192x128 : Shape := ⟨4, ![4, 8, 8192, 128]⟩
abbrev S4x8x8192x8192 : Shape := ⟨4, ![4, 8, 8192, 8192]⟩
abbrev S_ : Shape := ⟨0, ![]⟩
abbrev S4x8x8192x1 : Shape := ⟨4, ![4, 8, 8192, 1]⟩
abbrev S4x8x1x8192 : Shape := ⟨4, ![4, 8, 1, 8192]⟩
abbrev S8192 : Shape := ⟨1, ![8192]⟩
abbrev S4x8x8x2 : Shape := ⟨4, ![4, 8, 8, 2]⟩
abbrev S4x8x8x1 : Shape := ⟨4, ![4, 8, 8, 1]⟩
abbrev S4x8x8 : Shape := ⟨3, ![4, 8, 8]⟩
abbrev S4x8x8x1024 : Shape := ⟨4, ![4, 8, 8, 1024]⟩
abbrev S1x8192 : Shape := ⟨2, ![1, 8192]⟩
abbrev S8192x1 : Shape := ⟨2, ![8192, 1]⟩
abbrev S8192x8192 : Shape := ⟨2, ![8192, 8192]⟩
abbrev S1x1x1x8192 : Shape := ⟨4, ![1, 1, 1, 8192]⟩
abbrev S1x1x8192x8192 : Shape := ⟨4, ![1, 1, 8192, 8192]⟩

abbrev nBuf : Space → Nat
  | .hbm => 68
  | .vmem => 0
  | .smem => 0
  | _ => 0

abbrev bufTy : (tb : Table) → Fin (tcTables nBuf tb) → BufTy
  | .hbm, ⟨0, _⟩ => ⟨S32x16, .i32⟩
  | .hbm, ⟨1, _⟩ => ⟨S4x8192x1024, .f32⟩
  | .hbm, ⟨2, _⟩ => ⟨S4x8192x1024, .f32⟩
  | .hbm, ⟨3, _⟩ => ⟨S4x8192x8192, .bf16⟩
  | .hbm, ⟨4, _⟩ => ⟨S4x8x8192, .f32⟩
  | .hbm, ⟨5, _⟩ => ⟨S4x8192x8x128, .f32⟩
  | .hbm, ⟨6, _⟩ => ⟨S4x8x8192x128, .f32⟩
  | .hbm, ⟨7, _⟩ => ⟨S4x8192x8x128, .f32⟩
  | .hbm, ⟨8, _⟩ => ⟨S4x8x8192x128, .f32⟩
  | .hbm, ⟨9, _⟩ => ⟨S4x8192x1024, .bf16⟩
  | .hbm, ⟨10, _⟩ => ⟨S4x8192x1024, .f32⟩
  | .hbm, ⟨11, _⟩ => ⟨S4x8192x8x128, .f32⟩
  | .hbm, ⟨12, _⟩ => ⟨S4x8x8192x128, .f32⟩
  | .hbm, ⟨13, _⟩ => ⟨S4x8x8192x8192, .f32⟩
  | .hbm, ⟨14, _⟩ => ⟨S_, .f32⟩
  | .hbm, ⟨15, _⟩ => ⟨S_, .f32⟩
  | .hbm, ⟨16, _⟩ => ⟨S4x8x8192x8192, .f32⟩
  | .hbm, ⟨17, _⟩ => ⟨S4x8x8192x8192, .f32⟩
  | .hbm, ⟨18, _⟩ => ⟨S4x8x8192x1, .f32⟩
  | .hbm, ⟨19, _⟩ => ⟨S4x8x1x8192, .f32⟩
  | .hbm, ⟨20, _⟩ => ⟨S4x8x8192x8192, .f32⟩
  | .hbm, ⟨21, _⟩ => ⟨S4x8x8192x8192, .f32⟩
  | .hbm, ⟨22, _⟩ => ⟨S4x8x8192x8192, .f32⟩
  | .hbm, ⟨23, _⟩ => ⟨S4x8x8192x8192, .f32⟩
  | .hbm, ⟨24, _⟩ => ⟨S8192, .i32⟩
  | .hbm, ⟨25, _⟩ => ⟨S4x8x8x2, .i32⟩
  | .hbm, ⟨26, _⟩ => ⟨S4x8x8x1, .i32⟩
  | .hbm, ⟨27, _⟩ => ⟨S4x8x8, .i32⟩
  | .hbm, ⟨28, _⟩ => ⟨S_, .i32⟩
  | .hbm, ⟨29, _⟩ => ⟨S4x8x8, .i32⟩
  | .hbm, ⟨30, _⟩ => ⟨S4x8x8, .i32⟩
  | .hbm, ⟨31, _⟩ => ⟨S4x8x8x1024, .i32⟩
  | .hbm, ⟨32, _⟩ => ⟨S4x8x8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S4x8x8192x1, .i32⟩
  | .hbm, ⟨39, _⟩ => ⟨S1x1x1x8192, .i32⟩
  | .hbm, ⟨40, _⟩ => ⟨S4x8x8192x8192, .i32⟩
  | .hbm, ⟨41, _⟩ => ⟨S4x8x8192x8192, .i32⟩
  | .hbm, ⟨42, _⟩ => ⟨S4x8x8192x8192, .i1⟩
  | .hbm, ⟨43, _⟩ => ⟨S1x1x8192x8192, .i1⟩
  | .hbm, ⟨44, _⟩ => ⟨S4x8x8192x8192, .i1⟩
  | .hbm, ⟨45, _⟩ => ⟨S4x8x8192x8192, .i1⟩
  | .hbm, ⟨46, _⟩ => ⟨S_, .f32⟩
  | .hbm, ⟨47, _⟩ => ⟨S_, .f32⟩
  | .hbm, ⟨48, _⟩ => ⟨S4x8x8192x8192, .f32⟩
  | .hbm, ⟨49, _⟩ => ⟨S4x8x8192x8192, .f32⟩
  | .hbm, ⟨50, _⟩ => ⟨S_, .f32⟩
  | .hbm, ⟨51, _⟩ => ⟨S4x8x8192, .f32⟩
  | .hbm, ⟨52, _⟩ => ⟨S_, .f32⟩
  | .hbm, ⟨53, _⟩ => ⟨S4x8x8192, .f32⟩
  | .hbm, ⟨54, _⟩ => ⟨S4x8x8192, .f32⟩
  | .hbm, ⟨55, _⟩ => ⟨S4x8x8192x1, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S_, .f32⟩
  | .hbm, ⟨60, _⟩ => ⟨S4x8x8192, .f32⟩
  | .hbm, ⟨61, _⟩ => ⟨S4x8x8192x1, .f32⟩
  | .hbm, ⟨62, _⟩ => ⟨S4x8x8192x8192, .f32⟩
  | .hbm, ⟨63, _⟩ => ⟨S4x8x8192x8192, .f32⟩
  | .hbm, ⟨64, _⟩ => ⟨S4x8x8192x128, .f32⟩
  | .hbm, ⟨65, _⟩ => ⟨S4x8192x8x128, .f32⟩
  | .hbm, ⟨66, _⟩ => ⟨S4x8192x1024, .f32⟩
  | .hbm, ⟨67, _⟩ => ⟨S4x8192x1024, .bf16⟩
  | _, _ => ⟨S32x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_0 : Ref sig .tc := ⟨.hbm, 46, rfl⟩
abbrev main_call0_v0 : Ref sig .tc := ⟨.hbm, 47, rfl⟩
abbrev main_call0_v1 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel2.lean ====
abbrev S4x8192x2048 : Shape := ⟨3, ![4, 8192, 2048]⟩
abbrev S4x8192x1024 : Shape := ⟨3, ![4, 8192, 1024]⟩
abbrev S4x8192x8192 : Shape := ⟨3, ![4, 8192, 8192]⟩
abbrev S4x2048 : Shape := ⟨2, ![4, 2048]⟩
abbrev S128 : Shape := ⟨1, ![128]⟩
abbrev S2048x2048 : Shape := ⟨2, ![2048, 2048]⟩
abbrev S2048 : Shape := ⟨1, ![2048]⟩
abbrev S4x1x2048 : Shape := ⟨3, ![4, 1, 2048]⟩
abbrev S1x128 : Shape := ⟨2, ![1, 128]⟩
abbrev S1x2048 : Shape := ⟨2, ![1, 2048]⟩
abbrev S1x512x2048 : Shape := ⟨3, ![1, 512, 2048]⟩
abbrev S1x512x1024 : Shape := ⟨3, ![1, 512, 1024]⟩
abbrev S1x1x2048 : Shape := ⟨3, ![1, 1, 2048]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩

abbrev nBuf : Space → Nat
  | .hbm => 13
  | .vmem => 17
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .bf16⟩
  | .hbm, ⟨2, _⟩ => ⟨S4x8192x8192, .bf16⟩
  | .hbm, ⟨3, _⟩ => ⟨S4x8192x1024, .bf16⟩
  | .hbm, ⟨4, _⟩ => ⟨S4x2048, .f32⟩
  | .hbm, ⟨5, _⟩ => ⟨S128, .f32⟩
  | .hbm, ⟨6, _⟩ => ⟨S2048x2048, .f32⟩
  | .hbm, ⟨7, _⟩ => ⟨S2048, .f32⟩
  | .hbm, ⟨8, _⟩ => ⟨S4x1x2048, .f32⟩
  | .hbm, ⟨9, _⟩ => ⟨S1x128, .f32⟩
  | .hbm, ⟨10, _⟩ => ⟨S2048x2048, .bf16⟩
  | .hbm, ⟨11, _⟩ => ⟨S1x2048, .f32⟩
  | .hbm, ⟨12, _⟩ => ⟨S4x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1x2048, .f32⟩
  | .local _ .vmem, ⟨11, _⟩ => ⟨S1x1x2048, .f32⟩
  | .local _ .vmem, ⟨12, _⟩ => ⟨S1x128, .f32⟩
  | .local _ .vmem, ⟨13, _⟩ => ⟨S2048x2048, .bf16⟩
  | .local _ .vmem, ⟨14, _⟩ => ⟨S1x2048, .f32⟩
  | .local _ .vmem, ⟨15, _⟩ => ⟨S1x512x2048, .f32⟩
  | .local _ .vmem, ⟨16, _⟩ => ⟨S1x512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x8192x2048 : Shape := ⟨3, ![4, 8192, 2048]⟩
abbrev S4x8192x1024 : Shape := ⟨3, ![4, 8192, 1024]⟩
abbrev S4x8192x8192 : Shape := ⟨3, ![4, 8192, 8192]⟩
abbrev S4x2048 : Shape := ⟨2, ![4, 2048]⟩
abbrev S128 : Shape := ⟨1, ![128]⟩
abbrev S2048x2048 : Shape := ⟨2, ![2048, 2048]⟩
abbrev S2048 : Shape := ⟨1, ![2048]⟩
abbrev S_ : Shape := ⟨0, ![]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x1x2048 : Shape := ⟨3, ![4, 1, 2048]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .bf16⟩
  | .hbm, ⟨2, _⟩ => ⟨S4x8192x8192, .bf16⟩
  | .hbm, ⟨3, _⟩ => ⟨S4x8192x1024, .bf16⟩
  | .hbm, ⟨4, _⟩ => ⟨S4x2048, .f32⟩
  | .hbm, ⟨5, _⟩ => ⟨S128, .f32⟩
  | .hbm, ⟨6, _⟩ => ⟨S2048x2048, .f32⟩
  | .hbm, ⟨7, _⟩ => ⟨S2048, .f32⟩
  | .hbm, ⟨8, _⟩ => ⟨S4x8192x1024, .bf16⟩
  | .hbm, ⟨9, _⟩ => ⟨S4x8192x1024, .f32⟩
  | .hbm, ⟨10, _⟩ => ⟨S4x8192x1024, .bf16⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x8x128, .f32⟩
  | .hbm, ⟨25, _⟩ => ⟨S4x8192x8x128, .f32⟩
  | .hbm, ⟨26, _⟩ => ⟨S_, .f32⟩
  | .hbm, ⟨27, _⟩ => ⟨S4x8192x8, .f32⟩
  | .hbm, ⟨28, _⟩ => ⟨S4x8192x8x1, .f32⟩
  | .hbm, ⟨29, _⟩ => ⟨S_, .f32⟩
  | .hbm, ⟨30, _⟩ => ⟨S4x8192x8x1, .f32⟩
  | .hbm, ⟨31, _⟩ => ⟨S4x8192x8x1, .f32⟩
  | .hbm, ⟨32, _⟩ => ⟨S_, .f32⟩
  | .hbm, ⟨33, _⟩ => ⟨S4x8192x8x1, .f32⟩
  | .hbm, ⟨34, _⟩ => ⟨S4x8192x8x1, .f32⟩
  | .hbm, ⟨35, _⟩ => ⟨S4x8192x8x1, .f32⟩
  | .hbm, ⟨36, _⟩ => ⟨S4x8192x8x128, .f32⟩
  | .hbm, ⟨37, _⟩ => ⟨S4x8192x8x128, .f32⟩
  | .hbm, ⟨38, _⟩ => ⟨S1x1x1x128, .f32⟩
  | .hbm, ⟨39, _⟩ => ⟨S4x8192x8x128, .f32⟩
  | .hbm, ⟨40, _⟩ => ⟨S4x8192x8x128, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x2048, .f32⟩
  | .hbm, ⟨53, _⟩ => ⟨S4x1x2048, .f32⟩
  | .hbm, ⟨54, _⟩ => ⟨S4x8192x2048, .f32⟩
  | .hbm, ⟨55, _⟩ => ⟨S4x8192x2048, .f32⟩
  | .hbm, ⟨56, _⟩ => ⟨S4x8192x2048, .f32⟩
  | .hbm, ⟨57, _⟩ => ⟨S4x8192x2048, .f32⟩
  | .hbm, ⟨58, _⟩ => ⟨S4x8192x2048, .f32⟩
  | .hbm, ⟨59, _⟩ => ⟨S_, .f32⟩
  | .hbm, ⟨60, _⟩ => ⟨S4x8192, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S4x8192x1, .f32⟩
  | .hbm, ⟨69, _⟩ => ⟨S4x8192x2048, .f32⟩
  | .hbm, ⟨70, _⟩ => ⟨S4x8192x2048, .f32⟩
  | .hbm, ⟨71, _⟩ => ⟨S1x1x2048, .f32⟩
  | .hbm, ⟨72, _⟩ => ⟨S4x8192x2048, .f32⟩
  | .hbm, ⟨73, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]
-- ==== Kernel3.lean ====
abbrev S4x8192x2048 : Shape := ⟨3, ![4, 8192, 2048]⟩
abbrev S4x2048 : Shape := ⟨2, ![4, 2048]⟩
abbrev S2048 : Shape := ⟨1, ![2048]⟩
abbrev S2048x8216 : Shape := ⟨2, ![2048, 8216]⟩
abbrev S2048x4096 : Shape := ⟨2, ![2048, 4096]⟩
abbrev S2048x8192 : Shape := ⟨2, ![2048, 8192]⟩
abbrev S2048x8 : Shape := ⟨2, ![2048, 8]⟩
abbrev S_ : Shape := ⟨0, ![]⟩
abbrev S2048x48 : Shape := ⟨2, ![2048, 48]⟩
abbrev S2048x128 : Shape := ⟨2, ![2048, 128]⟩
abbrev S4x1x2048 : Shape := ⟨3, ![4, 1, 2048]⟩
abbrev S1x2048 : Shape := ⟨2, ![1, 2048]⟩
abbrev S4x8192x8192 : Shape := ⟨3, ![4, 8192, 8192]⟩
abbrev S4x8192x128 : Shape := ⟨3, ![4, 8192, 128]⟩
abbrev S1x1024x2048 : Shape := ⟨3, ![1, 1024, 2048]⟩
abbrev S1x1x2048 : Shape := ⟨3, ![1, 1, 2048]⟩
abbrev S2048x2048 : Shape := ⟨2, ![2048, 2048]⟩
abbrev S1x1024x128 : Shape := ⟨3, ![1, 1024, 128]⟩
abbrev S1024x2048 : Shape := ⟨2, ![1024, 2048]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S1024x128 : Shape := ⟨2, ![1024, 128]⟩

abbrev nBuf : Space → Nat
  | .hbm => 21
  | .vmem => 15
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048, .f32⟩
  | .hbm, ⟨3, _⟩ => ⟨S2048, .f32⟩
  | .hbm, ⟨4, _⟩ => ⟨S2048x8216, .f32⟩
  | .hbm, ⟨5, _⟩ => ⟨S2048x4096, .f32⟩
  | .hbm, ⟨6, _⟩ => ⟨S2048x4096, .f32⟩
  | .hbm, ⟨7, _⟩ => ⟨S2048x8192, .f32⟩
  | .hbm, ⟨8, _⟩ => ⟨S2048x8192, .bf16⟩
  | .hbm, ⟨9, _⟩ => ⟨S2048x8, .f32⟩
  | .hbm, ⟨10, _⟩ => ⟨S2048x8, .f32⟩
  | .hbm, ⟨11, _⟩ => ⟨S2048x8, .f32⟩
  | .hbm, ⟨12, _⟩ => ⟨S_, .f32⟩
  | .hbm, ⟨13, _⟩ => ⟨S2048x48, .f32⟩
  | .hbm, ⟨14, _⟩ => ⟨S2048x128, .f32⟩
  | .hbm, ⟨15, _⟩ => ⟨S2048x128, .bf16⟩
  | .hbm, ⟨16, _⟩ => ⟨S4x1x2048, .f32⟩
  | .hbm, ⟨17, _⟩ => ⟨S4x1x2048, .f32⟩
  | .hbm, ⟨18, _⟩ => ⟨S1x2048, .f32⟩
  | .hbm, ⟨19, _⟩ => ⟨S4x8192x8192, .bf16⟩
  | .hbm, ⟨20, _⟩ => ⟨S4x8192x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x2048, .bf16⟩
  | .local _ .vmem, ⟨8, _⟩ => ⟨S2048x2048, .bf16⟩
  | .local _ .vmem, ⟨9, _⟩ => ⟨S2048x128, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S1x1024x128, .f32⟩
  | .local _ .vmem, ⟨13, _⟩ => ⟨S1x1024x128, .f32⟩
  | .local _ .vmem, ⟨14, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c8_i32 : BitVec 32 := 8#32
  let v20 : BitVec 32 := Scalar.addi c0_i32_16 c8_i32
  let c1_i32 : BitVec 32 := 1#32
  ⟨c0_i32_16, v20, c1_i32⟩
def k0_mult1 (k0_t1 : Fin k0_t1_loop.trips) : BitVec 32 :=
  let c0_i32_16 : BitVec 32 := 0#32
  let c1_i32 : BitVec 32 := 1#32
  let arg12 : BitVec 32 := Scf.iv c0_i32_16 c1_i32 k0_t1
  let c128_i32 : BitVec 32 := 128#32
  let v28 : BitVec 32 := Scalar.muli arg12 c128_i32
  v28
def k0_off1 (k0_t1 : Fin k0_t1_loop.trips) : Fin 3 → Nat :=
  let c0_26 : Index := 0#32
  let c0_i32_16 : BitVec 32 := 0#32
  let c1_i32 : BitVec 32 := 1#32
  let arg12 : BitVec 32 := Scf.iv c0_i32_16 c1_i32 k0_t1
  let c128_i32 : BitVec 32 := 128#32
  let v28 : BitVec 32 := Scalar.muli arg12 c128_i32
  let v29 : BitVec 32 := v28
  let v30 : Index := Scalar.indexCast v29
  let c0_27 : Index := 0#32
  ![0, v30.toNat, 0]
def k0_off2 (k0_t1 : Fin k0_t1_loop.trips) : Fin 2 → Nat :=
  let c0_i32_16 : BitVec 32 := 0#32
  let c1_i32 : BitVec 32 := 1#32
  let arg12 : BitVec 32 := Scf.iv c0_i32_16 c1_i32 k0_t1
  let c128_i32 : BitVec 32 := 128#32
  let v28 : BitVec 32 := Scalar.muli arg12 c128_i32
  let v29 : BitVec 32 := v28
  let v48 : Index := Scalar.indexCast v29
  let c0_31 : Index := 0#32
  ![v48.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference3Ideal.lean ====
abbrev S4x8192x2048 : Shape := ⟨3, ![4, 8192, 2048]⟩
abbrev S4x2048 : Shape := ⟨2, ![4, 2048]⟩
abbrev S2048 : Shape := ⟨1, ![2048]⟩
abbrev S2048x8216 : Shape := ⟨2, ![2048, 8216]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x1x2048 : Shape := ⟨3, ![4, 1, 2048]⟩
abbrev S4x8192x8216 : Shape := ⟨3, ![4, 8192, 8216]⟩
abbrev S4x8192x8 : Shape := ⟨3, ![4, 8192, 8]⟩
abbrev S4x8192x4096 : Shape := ⟨3, ![4, 8192, 4096]⟩
abbrev S4x8192x8192 : Shape := ⟨3, ![4, 8192, 8192]⟩
abbrev S4x8192x48 : Shape := ⟨3, ![4, 8192, 48]⟩
abbrev S4x8192x128 : Shape := ⟨3, ![4, 8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048, .f32⟩
  | .hbm, ⟨3, _⟩ => ⟨S2048, .f32⟩
  | .hbm, ⟨4, _⟩ => ⟨S2048x8216, .f32⟩
  | .hbm, ⟨5, _⟩ => ⟨S4x8192x2048, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S1x1x2048, .f32⟩
  | .hbm, ⟨19, _⟩ => ⟨S4x8192x2048, .f32⟩
  | .hbm, ⟨20, _⟩ => ⟨S4x8192x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x8192x2048, .f32⟩
  | .hbm, ⟨26, _⟩ => ⟨S4x8192x2048, .f32⟩
  | .hbm, ⟨27, _⟩ => ⟨S4x1x2048, .f32⟩
  | .hbm, ⟨28, _⟩ => ⟨S4x8192x2048, .f32⟩
  | .hbm, ⟨29, _⟩ => ⟨S4x8192x2048, .f32⟩
  | .hbm, ⟨30, _⟩ => ⟨S4x8192x8216, .f32⟩
  | .hbm, ⟨31, _⟩ => ⟨S4x8192x8, .f32⟩
  | .hbm, ⟨32, _⟩ => ⟨S4x8192x8, .f32⟩
  | .hbm, ⟨33, _⟩ => ⟨S4x8192x8, .f32⟩
  | .hbm, ⟨34, _⟩ => ⟨S4x8192x4096, .f32⟩
  | .hbm, ⟨35, _⟩ => ⟨S4x8192x4096, .f32⟩
  | .hbm, ⟨36, _⟩ => ⟨S4x8192x8192, .f32⟩
  | .hbm, ⟨37, _⟩ => ⟨S4x8192x8192, .bf16⟩
  | .hbm, ⟨38, _⟩ => ⟨S_, .f32⟩
  | .hbm, ⟨39, _⟩ => ⟨S4x8192x48, .f32⟩
  | .hbm, ⟨40, _⟩ => ⟨S4x8192x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.ProjRun.lean ====
module

public import proofs.«01_k».proof.Proof.Gen.Kernel3Ideal.Skeleton
public import proofs.«01_k».proof.Proof.Gen.Kernel3Ideal.Launch
public import Idealize.ShloMosaic.Lib.Exec
public import Idealize.ShloMosaic.Lib.Pipeline.FrameBody
public import Idealize.ShloMosaic.Lib.Pipeline.ReadBack
public import Idealize.ShloMosaic.Lib.ValueIdxCore
public import Idealize.ShloMosaic.Lib.ValueIdxCoords
public import Idealize.ShloMosaic.Lib.ViewIndex
public import Idealize.ShloMosaic.Lib.WritesUnit
public import Idealize.ShloMosaic.Lib.Tactic
public import Idealize.ShloMosaic.Lib.LoopEntry
public import Idealize.ShloMosaic.Lib.Pipeline.Kit
public import Idealize.ShloMosaic.Lib.Pipeline.Launch

@[expose] public section

set_option maxRecDepth 8192
set_option maxHeartbeats 1000000

noncomputable section

/-! # The input projection's kernel at one grid point -/

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

abbrev UU := UR sig nD τ
local notation "𝕄" => MT nD τ sig Unit (Elt F) ℕ UU ℕ
abbrev 𝒱₀ : Variants := Variants.none

theorem trips1 : k0_t1_loop.trips = 8 := by decide +kernel
theorem off1 : ∀ g : Fin k0_t1_loop.trips, k0_off1 g = ![0, 128 * g.val, 0] := by decide +kernel
theorem off2 : ∀ g : Fin k0_t1_loop.trips, k0_off2 g = ![128 * g.val, 0] := by decide +kernel

/-- A group of 128 rows of a block. -/
def rows (X : Vec F S1x1024x2048 .f32) (g : ℕ) : Vec F S1x128x2048 .f32 := fun z =>
  X (ix3 (z 0) ⟨(128 * g + (z 1).val) % 1024, Nat.mod_lt _ (by decide)⟩ (z 2))

/-- The normalised rows of a block. -/
def hF (g : Vec F S1x2048 .f32) (sc sh : Vec F S1x1x2048 .f32) (X : Vec F S1x1024x2048 .f32) : Vec F S1024x2048 .bf16 := fun y =>
  k0_pay1 g sc sh (rows X ((y 0).val / 128)) (ix2 ⟨(y 0).val % 128, Nat.mod_lt _ (by decide)⟩ (y 1))

theorem readAt_rows (v : View sig .tc .vmem S1x1024x2048 .f32) (f : v.ty.Contents (Elt F)) {off : Fin 3 → ℕ} {g : ℕ}
    (inb : ∀ a, off a + S1x128x2048.size a ≤ S1x1024x2048.size a) (h : off = ![0, 128 * g, 0]) :
    v.readAt (Elt F) (Rect.unit (s := S1x1024x2048) off S1x128x2048.size inb).toLoadRect f = rows (v.read (Elt F) f) g := by
  subst h
  funext y
  refine congrArg (v.read (Elt F) f) ?_
  have h1 : 128 * g + 128 ≤ 1024 := inb 1
  have hy : (y 1).val < 128 := (y 1).isLt
  have hm : (128 * g + (y 1).val) % 1024 = 128 * g + (y 1).val := Nat.mod_eq_of_lt (by omega)
  refine Shape.idx3_ext ?_ ?_ ?_
  · show 0 + 1 * (y 0).val = (y 0).val; omega
  · show 128 * g + 1 * (y 1).val = (128 * g + (y 1).val) % 1024; omega
  · show 0 + 1 * (y 2).val = (y 2).val; omega

theorem readAt_all {s : Shape} {e : EltTy} (v : View sig .tc .vmem s e) (f : v.ty.Contents (Elt F)) (off : Fin s.rank → ℕ)
    (inb : ∀ a, off a + s.size a ≤ s.size a) :
    v.readAt (Elt F) (Rect.unit (s := s) off s.size inb).toLoadRect f = v.read (Elt F) f := by
  funext y
  refine congrArg (v.read (Elt F) f) (funext fun a => Fin.ext ?_)
  have := inb a
  show off a + 1 * (y a).val = (y a).val
  omega

theorem read_all {s : Shape} {e : EltTy} (v : View sig .tc .vmem s e) (f : v.ty.Contents (Elt F)) (off : Fin s.rank → ℕ)
    (inb : ∀ a, off a + s.size a ≤ s.size a) (w : (Rect.unit (s := s) off s.size inb).shape.Idx → Elt F e) :
    v.read (Elt F) (v.writes (Elt F) f [⟨Rect.unit (s := s) off s.size inb, w⟩]) = w := by
  funext y
  refine View.read_writes_cons_unit_of_mem v f inb w [] y y rfl fun a => ?_
  have := inb a
  omega

/-- One group's rows written over contents whose earlier groups' rows are done. -/
theorem rows_step (v : View sig .tc .vmem S1024x2048 .bf16) (a : Vec F S1x2048 .f32) (sc sh : Vec F S1x1x2048 .f32) (X : Vec F S1x1024x2048 .f32)
    (f : v.ty.Contents (Elt F)) (g : ℕ) (off : Fin 2 → ℕ) (inb : ∀ a, off a + S128x2048.size a ≤ S1024x2048.size a)
    (h : off = ![128 * g, 0]) (w : Vec F S128x2048 .bf16) (hw : w = k0_pay1 a sc sh (rows X g))
    (hf : ∀ y : S1024x2048.Idx, (y 0).val < 128 * g → v.read (Elt F) f y = hF a sc sh X y)
    (y : S1024x2048.Idx) (hy : (y 0).val < 128 * (g + 1)) :
    v.read (Elt F) (v.writes (Elt F) f [⟨Rect.unit (s := S1024x2048) off S128x2048.size inb, w⟩]) y = hF a sc sh X y := by
  by_cases h1 : (y 0).val < 128 * g
  · refine (View.read_writes_cons_unit_of_not_mem v f inb w [] y h 0 (Or.inl h1)).trans ?_
    exact hf y h1
  · have hd : (y 0).val / 128 = g := by omega
    have hm : (y 0).val = 128 * g + (y 0).val % 128 := by omega
    refine (View.read_writes_cons_unit_of_mem v f inb w [] y (ix2 ⟨(y 0).val % 128, Nat.mod_lt _ (by decide)⟩ (y 1)) h ?_).trans ?_
    · intro a
      fin_cases a
      · exact hm
      · show (y 1).val = 0 + (y 1).val; omega
    · subst hw
      unfold hF
      rw [hd]

theorem trip (c : Dev nD) (bd : Option 𝒱₀.V) (E : Set ℕ) (i : grid0.Coords) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x2048 .bf16) (harg7 : arg7.IsWhole) (arg8 : Memref sig .tc .vmem S2048x128 .bf16) (harg8 : arg8.IsWhole) (arg9 : Memref sig .tc .vmem S1x1024x2048 .bf16) (harg9 : arg9.IsWhole) (arg10 : Memref sig .tc .vmem S1x1024x128 .f32) (harg10 : arg10.IsWhole) (arg11 : Memref sig .tc .vmem S1024x2048 .bf16) (harg11 : arg11.IsWhole)
    (hc : k0_cond1 i = 1#1) (a : Vec F S1x2048 .f32) (sc sh : Vec F S1x1x2048 .f32) (g : Fin k0_t1_loop.trips) (u : Unit)
    (f3 : arg3.view.ty.Contents (Elt F)) (f11 : arg11.view.ty.Contents (Elt F))
    (hg : ∀ y : S1024x2048.Idx, (y 0).val < 128 * g.val → arg11.view.read (Elt F) f11 y = hF a sc sh (arg3.view.read (Elt F) f3) y) :
    (iprop((arg3.view.loc (c : Thread nD τ) ↦[arg3.view.set]{fullShare} f3) ∗ (arg11.view.loc (c : Thread nD τ) ↦[arg11.view.set]{fullShare} f11)) : sProp 𝕄)
    ⊢ wp frame (wpE (defs₀ (F := F)) 𝒱₀ (c : Thread nD τ) bd) E (k0_t1_body i arg3 harg3 arg4 harg4 arg5 harg5 arg6 harg6 arg7 harg7 arg8 harg8 arg9 harg9 arg10 harg10 arg11 harg11 hc a sc sh g u)
      (fun (_ : Unit) => (iprop(∃ (f11 : arg11.view.ty.Contents (Elt F)),
        (arg3.view.loc (c : Thread nD τ) ↦[arg3.view.set]{fullShare} f3) ∗ (arg11.view.loc (c : Thread nD τ) ↦[arg11.view.set]{fullShare} f11)
        ∗ ⌜∀ y : S1024x2048.Idx, (y 0).val < 128 * (g.val + 1) → arg11.view.read (Elt F) f11 y = hF a sc sh (arg3.view.read (Elt F) f3) y⌝) : sProp 𝕄)) := by
  unfold k0_t1_body
  iintro ⟨H3, H11⟩
  sl_exec
  sl_step
  iexists _
  isplitl [H3]; · iexact H3
  isplitl [H11]; · iexact H11
  ipureintro
  refine rows_step arg11.view _ _ _ _ f11 g.val _ _ (off2 g) _ ?_ hg
  exact congrArg (k0_pay1 a sc sh) (readAt_rows arg3.view f3 _ (off1 g))

theorem body_first (c : Dev nD) (bd : Option 𝒱₀.V) (E : Set ℕ) (i : grid0.Coords) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x2048 .bf16) (harg7 : arg7.IsWhole) (arg8 : Memref sig .tc .vmem S2048x128 .bf16) (harg8 : arg8.IsWhole) (arg9 : Memref sig .tc .vmem S1x1024x2048 .bf16) (harg9 : arg9.IsWhole) (arg10 : Memref sig .tc .vmem S1x1024x128 .f32) (harg10 : arg10.IsWhole) (arg11 : Memref sig .tc .vmem S1024x2048 .bf16) (harg11 : arg11.IsWhole)
    (hc : k0_cond1 i = 1#1) (X : Vec F S1x1024x2048 .f32) (sh sc : Vec F S1x1x2048 .f32) (a : Vec F S1x2048 .f32) (W : Vec F S2048x2048 .bf16)
    (Ws : Vec F S2048x128 .bf16) (Kp : PUnit → sProp 𝕄) :
    iprop((owns (c : Thread nD τ) arg3 fullShare X ∗ owns (c : Thread nD τ) arg4 fullShare sh ∗ owns (c : Thread nD τ) arg5 fullShare sc
      ∗ owns (c : Thread nD τ) arg6 fullShare a ∗ owns (c : Thread nD τ) arg7 fullShare W ∗ owns (c : Thread nD τ) arg8 fullShare Ws
      ∗ (∃ d, owns (c : Thread nD τ) arg9 fullShare d) ∗ (∃ d, owns (c : Thread nD τ) arg10 fullShare d) ∗ (∃ d, owns (c : Thread nD τ) arg11 fullShare d))
      ∗ (iprop(owns (c : Thread nD τ) arg3 fullShare X ∗ owns (c : Thread nD τ) arg4 fullShare sh ∗ owns (c : Thread nD τ) arg5 fullShare sc
      ∗ owns (c : Thread nD τ) arg6 fullShare a ∗ owns (c : Thread nD τ) arg7 fullShare W ∗ owns (c : Thread nD τ) arg8 fullShare Ws
      ∗ owns (c : Thread nD τ) arg9 fullShare (k0_pay3 (hF a sc sh X) W) ∗ owns (c : Thread nD τ) arg10 fullShare (k0_pay2 (hF a sc sh X) Ws)
      ∗ owns (c : Thread nD τ) arg11 fullShare (hF a sc sh X)) -∗ Kp ⟨⟩))
    ⊢ wp frame (wpE (defs₀ (F := F)) 𝒱₀ (c : Thread nD τ) bd) E (cc0_norm_in_proj i arg3 harg3 arg4 harg4 arg5 harg5 arg6 harg6 arg7 harg7 arg8 harg8 arg9 harg9 arg10 harg10 arg11 harg11) Kp := by
  rw [cc0_norm_in_proj_eq_skeleton]
  unfold cc0_norm_in_proj_skel
  unfold owns
  iintro ⟨⟨⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩⟩, Hk⟩
  subst h3 h4 h5 h6 h7 h8
  rw [dif_pos hc]
  sl_exec
  sl_for (fun k _ => iprop(∃ (f11 : arg11.view.ty.Contents (Elt F)),
    (arg3.view.loc (c : Thread nD τ) ↦[arg3.view.set]{fullShare} f3) ∗ (arg11.view.loc (c : Thread nD τ) ↦[arg11.view.set]{fullShare} f11)
      ∗ ⌜∀ y : S1024x2048.Idx, (y 0).val < 128 * k → arg11.view.read (Elt F) f11 y
          = hF (arg6.view.read (Elt F) f6) (arg5.view.read (Elt F) f5) (arg4.view.read (Elt F) f4) (arg3.view.read (Elt F) f3) y⌝)) $$ [H3 H11]
  · intro g _
    iintro ⟨%f11, H3, H11, %hg⟩
    rw [← readAt_all arg6.view f6 ![0, 0] inb_S1x2048_S1x2048_0_0, ← readAt_all arg5.view f5 ![0, 0, 0] inb_S1x1x2048_S1x1x2048_0_0_0,
      ← readAt_all arg4.view f4 ![0, 0, 0] inb_S1x1x2048_S1x1x2048_0_0_0] at hg ⊢
    iapply (trip c bd E i arg3 harg3 arg4 harg4 arg5 harg5 arg6 harg6 arg7 harg7 arg8 harg8 arg9 harg9 arg10 harg10 arg11 harg11 hc _ _ _ g _ f3 f11 hg)
    isplitl [H3]; · iexact H3
    iexact H11
  · iexists f11
    isplitl [H3]; · iexact H3
    isplitl [H11]; · iexact H11
    ipureintro
    intro y hy
    omega
  iintro %_ ⟨%f11, H3, H11, %hg⟩
  have hall : arg11.view.read (Elt F) f11 = hF (arg6.view.read (Elt F) f6) (arg5.view.read (Elt F) f5) (arg4.view.read (Elt F) f4) (arg3.view.read (Elt F) f3) := by
    funext y
    refine hg y ?_
    have : (y 0).val < 1024 := (y 0).isLt
    rw [show Scf.trips k0_t1_loop.lb k0_t1_loop.ub k0_t1_loop.st = 8 from trips1]
    omega
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_all arg9.view f9 _ _ _).trans ?_
    rw [← hall]
    exact congrArg₂ k0_pay3 (readAt_all arg11.view f11 _ _) (readAt_all arg7.view f7 _ _)
  isplitl [H10]
  · iexists _; isplitr
    swap; · iexact H10
    ipureintro
    refine (read_all arg10.view f10 _ _ _).trans ?_
    rw [← hall]
    exact congrArg₂ k0_pay2 (readAt_all arg11.view f11 _ _) (readAt_all arg8.view f8 _ _)
  · iexists f11; isplitr; · ipureintro; exact hall
    iexact H11

theorem body_rest (c : Dev nD) (bd : Option 𝒱₀.V) (E : Set ℕ) (i : grid0.Coords) (arg3 : Memref sig .tc .vmem S1x1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x2048 .bf16) (harg7 : arg7.IsWhole) (arg8 : Memref sig .tc .vmem S2048x128 .bf16) (harg8 : arg8.IsWhole) (arg9 : Memref sig .tc .vmem S1x1024x2048 .bf16) (harg9 : arg9.IsWhole) (arg10 : Memref sig .tc .vmem S1x1024x128 .f32) (harg10 : arg10.IsWhole) (arg11 : Memref sig .tc .vmem S1024x2048 .bf16) (harg11 : arg11.IsWhole)
    (hc : ¬ k0_cond1 i = 1#1) (H : Vec F S1024x2048 .bf16) (W : Vec F S2048x2048 .bf16) (Kp : PUnit → sProp 𝕄) :
    iprop((owns (c : Thread nD τ) arg7 fullShare W ∗ (∃ d, owns (c : Thread nD τ) arg9 fullShare d) ∗ owns (c : Thread nD τ) arg11 fullShare H)
      ∗ (iprop(owns (c : Thread nD τ) arg7 fullShare W ∗ owns (c : Thread nD τ) arg9 fullShare (k0_pay3 H W) ∗ owns (c : Thread nD τ) arg11 fullShare H) -∗ Kp ⟨⟩))
    ⊢ wp frame (wpE (defs₀ (F := F)) 𝒱₀ (c : Thread nD τ) bd) E (cc0_norm_in_proj i arg3 harg3 arg4 harg4 arg5 harg5 arg6 harg6 arg7 harg7 arg8 harg8 arg9 harg9 arg10 harg10 arg11 harg11) Kp := by
  rw [cc0_norm_in_proj_eq_skeleton]
  unfold cc0_norm_in_proj_skel
  unfold owns
  iintro ⟨⟨⟨%f7, %h7, H7⟩, ⟨%d9, %f9, -, H9⟩, ⟨%f11, %h11, H11⟩⟩, Hk⟩
  subst h7 h11
  rw [dif_neg hc]
  sl_exec
  sl_step
  iapply Hk
  isplitl [H7]
  · iexists f7; isplitr; · ipureintro; rfl
    iexact H7
  isplitl [H9]
  · iexists _; isplitr
    swap; · iexact H9
    ipureintro
    refine (read_all arg9.view f9 _ _ _).trans ?_
    exact congrArg₂ k0_pay3 (readAt_all arg11.view f11 _ _) (readAt_all arg7.view f7 _ _)
  · iexists f11; isplitr; · ipureintro; rfl
    iexact H11

end Cert.Proof.Proj

end
-- ==== Proof.ProjLaunch.lean ====
module

public import Idealize.ShloMosaic.PureOps.Ideal
public import proofs.«01_k».proof.Proof.Gen.Kernel3Ideal.Points
public import proofs.«01_k».proof.Proof.ProjRun
public import Idealize.ShloMosaic.Lib.Pipeline.ValueKit.Geometry

@[expose] public section

set_option maxRecDepth 8192
set_option maxHeartbeats 1000000

noncomputable section

/-! # The input projection's launch -/

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx
open Idealize.ShloMosaic.Pipeline (Dat Cfg Window BodyObligation BodyObligationLoose)

local notation "𝕄" => MT nD τ sig Unit (Elt F) ℕ UU ℕ

variable (m : (ℓ : Loc nD τ sig) → Buf (Elt F) ℓ) (ρ : Dev nD → PrngReg)

/-- What the host operations leave in each buffer. -/
abbrev VV (c : Dev nD) (b : Ref sig .tc) : Buf (Elt F) ((c : Thread nD τ).loc b) :=
  StableHlo.after hostOps0 (fun b => m (c, b)) b

/-- A batch's block of 1024 positions. -/
def xBlk (A : Vec F S4x8192x2048 .f32) (b i : ℕ) : Vec F S1x1024x2048 .f32 := fun y =>
  A (ix3 ⟨b % 4, Nat.mod_lt _ (by decide)⟩ ⟨(1024 * i + (y 1).val) % 8192, Nat.mod_lt _ (by decide)⟩ (y 2))

/-- A batch's row. -/
def bRow (A : Vec F S4x1x2048 .f32) (b : ℕ) : Vec F S1x1x2048 .f32 := fun y =>
  A (ix3 ⟨b % 4, Nat.mod_lt _ (by decide)⟩ 0 (y 2))

/-- A block of 2048 columns. -/
def wBlk (A : Vec F S2048x8192 .bf16) (j : ℕ) : Vec F S2048x2048 .bf16 := fun y =>
  A (ix2 (y 0) ⟨(2048 * j + (y 1).val) % 8192, Nat.mod_lt _ (by decide)⟩)

/-- The normalised block at a batch and a block of positions. -/
def hS (c : Dev nD) (b i : ℕ) : Vec F S1024x2048 .bf16 :=
  hF (VV m c main_v12) (bRow (VV m c main_v11) b) (bRow (VV m c main_v10) b) (xBlk (VV m c main_arg0) b i)

/-- The scratch between two points. -/
def phi (c : Dev nD) (n : ℕ) : sProp 𝕄 := iprop((∃ A, owns (c : Thread nD τ) (Memref.whole cc0_scratch0) fullShare A
    ∗ ⌜n % 4 ≠ 0 → A = hS m c (n / 32) (n / 4 % 8)⌝) ∗ ∃ r, prngReg c r)

/-- The proof data: the inputs' buffers at their blocks, the outputs' at the products, the scratch at the
    normalised block once the block's first point has written it. -/
def dats (p : Fin 1) (c : Dev nD) : Dat τ (Elt F) Unit ℕ (UR sig nD τ) ℕ (cfgs p) c where
  A w := VV m c (Pipeline.arrRef spec0 w)
  after w t := match w with
    | ⟨0, _⟩ => xBlk (VV m c main_arg0) (t.val / 32) (t.val / 4 % 8)
    | ⟨1, _⟩ => bRow (VV m c main_v10) (t.val / 32)
    | ⟨2, _⟩ => bRow (VV m c main_v11) (t.val / 32)
    | ⟨3, _⟩ => VV m c main_v12
    | ⟨4, _⟩ => wBlk (VV m c main_v3) (t.val % 4)
    | ⟨5, _⟩ => VV m c main_v9
    | ⟨6, _⟩ => k0_pay3 (hS m c (t.val / 32) (t.val / 4 % 8)) (wBlk (VV m c main_v3) (t.val % 4))
    | ⟨7, _⟩ => k0_pay2 (hS m c (t.val / 32) (t.val / 4 % 8)) (VV m c main_v9)
  Φ t := phi m c t.val
  q _ := fullShare
  owed _ := 0

theorem ixs : ∀ t : Fin grid0.N, cc0_transform_0 (grid0.coords t) = ![t.val / 32, t.val / 4 % 8, 0]
    ∧ cc0_transform_1 (grid0.coords t) = ![t.val / 32, 0, 0]
    ∧ cc0_transform_2 (grid0.coords t) = ![t.val / 32, 0, 0]
    ∧ cc0_transform_3 (grid0.coords t) = ![0, 0]
    ∧ cc0_transform_4 (grid0.coords t) = ![0, t.val % 4]
    ∧ cc0_transform_5 (grid0.coords t) = ![0, 0]
    ∧ cc0_transform_6 (grid0.coords t) = ![t.val / 32, t.val / 4 % 8, t.val % 4]
    ∧ cc0_transform_7 (grid0.coords t) = ![t.val / 32, t.val / 4 % 8, 0] := by decide +kernel

theorem cond_iff : ∀ t : Fin grid0.N, k0_cond1 (grid0.coords t) = 1#1 ↔ t.val % 4 = 0 := by decide +kernel

theorem t_lt (t : Fin grid0.N) : t.val < 128 := lt_of_lt_of_eq t.isLt N_0

theorem xBlk_at (A : Vec F S4x8192x2048 .f32) (ix : Fin 3 → ℕ) (b i : ℕ) (h : ix = ![b, i, 0]) (hb : b < 4) (hi : i < 8)
    (y : S1x1024x2048.Idx) (z : S4x8192x2048.Idx) (hz : ∀ a, (z a).val = ix a * S1x1024x2048.size a + 1 * (y a).val) : xBlk A b i y = A z := by
  subst h
  have h0 : (y 0).val < 1 := (y 0).isLt
  have h1 : (y 1).val < 1024 := (y 1).isLt
  refine congrArg A (funext fun a => Fin.ext ?_)
  rw [hz a]
  fin_cases a
  · show b % 4 = b * 1 + 1 * (y 0).val; omega
  · show (1024 * i + (y 1).val) % 8192 = i * 1024 + 1 * (y 1).val; omega
  · show (y 2).val = 0 * 2048 + 1 * (y 2).val; omega

theorem bRow_at (A : Vec F S4x1x2048 .f32) (ix : Fin 3 → ℕ) (b : ℕ) (h : ix = ![b, 0, 0]) (hb : b < 4)
    (y : S1x1x2048.Idx) (z : S4x1x2048.Idx) (hz : ∀ a, (z a).val = ix a * S1x1x2048.size a + 1 * (y a).val) : bRow A b y = A z := by
  subst h
  have h0 : (y 0).val < 1 := (y 0).isLt
  have h1 : (y 1).val < 1 := (y 1).isLt
  refine congrArg A (funext fun a => Fin.ext ?_)
  rw [hz a]
  fin_cases a
  · show b % 4 = b * 1 + 1 * (y 0).val; omega
  · show 0 = 0 * 1 + 1 * (y 1).val; omega
  · show (y 2).val = 0 * 2048 + 1 * (y 2).val; omega

theorem wBlk_at (A : Vec F S2048x8192 .bf16) (ix : Fin 2 → ℕ) (j : ℕ) (h : ix = ![0, j]) (hj : j < 4)
    (y : S2048x2048.Idx) (z : S2048x8192.Idx) (hz : ∀ a, (z a).val = ix a * S2048x2048.size a + 1 * (y a).val) : wBlk A j y = A z := by
  subst h
  have h1 : (y 1).val < 2048 := (y 1).isLt
  refine congrArg A (funext fun a => Fin.ext ?_)
  rw [hz a]
  fin_cases a
  · show (y 0).val = 0 * 2048 + 1 * (y 0).val; omega
  · show (2048 * j + (y 1).val) % 8192 = j * 2048 + 1 * (y 1).val; omega

theorem all_at {S : Shape} (hS : S.rank = 2) {e : EltTy} (A : Vec F S e) (ix : Fin S.rank → ℕ) (h : ∀ a, ix a = 0)
    (y z : S.Idx) (hz : ∀ a, (z a).val = ix a * S.size a + 1 * (y a).val) : A y = A z := by
  refine congrArg A (funext fun a => Fin.ext ?_)
  rw [hz a, h a]
  omega

theorem after_0 (c : Dev nD) (t : Fin grid0.N) : (dats m 0 c).after (0 : Fin 8) t = (dats m 0 c).blockOf (0 : Fin 8) t := by
  have ht := t_lt t
  funext y
  exact xBlk_at (VV m c main_arg0) _ _ _ ((ixs t).1) (by omega) (by omega) y _ (fun a => rfl)

theorem before_0 (c : Dev nD) (t : Fin grid0.N) (d) : (dats m 0 c).before (0 : Fin 8) t d = (dats m 0 c).after (0 : Fin 8) t :=
  ((dats m 0 c).before_in_eq_fetched (0 : Fin 8) rfl (fun _ => rfl) (fun _ _ _ => rfl) (fun t => after_0 m c t) t d).trans (after_0 m c t).symm

theorem after_1 (c : Dev nD) (t : Fin grid0.N) : (dats m 0 c).after (1 : Fin 8) t = (dats m 0 c).blockOf (1 : Fin 8) t := by
  have ht := t_lt t
  funext y
  exact bRow_at (VV m c main_v10) _ _ ((ixs t).2.1) (by omega) y _ (fun a => rfl)

theorem before_1 (c : Dev nD) (t : Fin grid0.N) (d) : (dats m 0 c).before (1 : Fin 8) t d = (dats m 0 c).after (1 : Fin 8) t :=
  ((dats m 0 c).before_in_eq_fetched (1 : Fin 8) rfl (fun _ => rfl) (fun _ _ _ => rfl) (fun t => after_1 m c t) t d).trans (after_1 m c t).symm

theorem after_2 (c : Dev nD) (t : Fin grid0.N) : (dats m 0 c).after (2 : Fin 8) t = (dats m 0 c).blockOf (2 : Fin 8) t := by
  have ht := t_lt t
  funext y
  exact bRow_at (VV m c main_v11) _ _ ((ixs t).2.2.1) (by omega) y _ (fun a => rfl)

theorem before_2 (c : Dev nD) (t : Fin grid0.N) (d) : (dats m 0 c).before (2 : Fin 8) t d = (dats m 0 c).after (2 : Fin 8) t :=
  ((dats m 0 c).before_in_eq_fetched (2 : Fin 8) rfl (fun _ => rfl) (fun _ _ _ => rfl) (fun t => after_2 m c t) t d).trans (after_2 m c t).symm

theorem after_3 (c : Dev nD) (t : Fin grid0.N) : (dats m 0 c).after (3 : Fin 8) t = (dats m 0 c).blockOf (3 : Fin 8) t := by
  funext y
  exact all_at (S := S1x2048) rfl (VV m c main_v12) (cc0_transform_3 (grid0.coords t)) (by rw [(ixs t).2.2.2.1]; decide) y _ (fun a => rfl)

theorem before_3 (c : Dev nD) (t : Fin grid0.N) (d) : (dats m 0 c).before (3 : Fin 8) t d = (dats m 0 c).after (3 : Fin 8) t :=
  ((dats m 0 c).before_in_eq_fetched (3 : Fin 8) rfl (fun _ => rfl) (fun _ _ _ => rfl) (fun t => after_3 m c t) t d).trans (after_3 m c t).symm

theorem after_4 (c : Dev nD) (t : Fin grid0.N) : (dats m 0 c).after (4 : Fin 8) t = (dats m 0 c).blockOf (4 : Fin 8) t := by
  funext y
  exact wBlk_at (VV m c main_v3) _ _ ((ixs t).2.2.2.2.1) (by omega) y _ (fun a => rfl)

theorem before_4 (c : Dev nD) (t : Fin grid0.N) (d) : (dats m 0 c).before (4 : Fin 8) t d = (dats m 0 c).after (4 : Fin 8) t :=
  ((dats m 0 c).before_in_eq_fetched (4 : Fin 8) rfl (fun _ => rfl) (fun _ _ _ => rfl) (fun t => after_4 m c t) t d).trans (after_4 m c t).symm

theorem after_5 (c : Dev nD) (t : Fin grid0.N) : (dats m 0 c).after (5 : Fin 8) t = (dats m 0 c).blockOf (5 : Fin 8) t := by
  funext y
  exact all_at (S := S2048x128) rfl (VV m c main_v9) (cc0_transform_5 (grid0.coords t)) (by rw [(ixs t).2.2.2.2.2.1]; decide) y _ (fun a => rfl)

theorem before_5 (c : Dev nD) (t : Fin grid0.N) (d) : (dats m 0 c).before (5 : Fin 8) t d = (dats m 0 c).after (5 : Fin 8) t :=
  ((dats m 0 c).before_in_eq_fetched (5 : Fin 8) rfl (fun _ => rfl) (fun _ _ _ => rfl) (fun t => after_5 m c t) t d).trans (after_5 m c t).symm

theorem fetch7 : ∀ t : Fin grid0.N, (cfg0.win (7 : Fin 8)).fetch t = false := fun t => rfl

theorem idle7_iff (t : Fin grid0.N) : idle0 7 (grid0.coords t) = true ↔ t.val % 4 ≠ 0 := by
  show (!(k0_cond1 (grid0.coords t) == 1#1)) = true ↔ _
  rw [ne_eq, ← not_congr (cond_iff t)]
  simp

/-- After a block's first point the gates' buffer holds the block's gates. -/
theorem before_7 (c : Dev nD) : ∀ (n : ℕ) (t : Fin grid0.N) (d), t.val = n → t.val % 4 ≠ 0 →
    (dats m 0 c).before (7 : Fin 8) t d = (dats m 0 c).after (7 : Fin 8) t := by
  intro n
  induction n with
  | zero => intro t d ht h; omega
  | succ n ih =>
    intro t d ht h
    have hp : t.val - 1 < grid0.N := Nat.lt_of_le_of_lt (Nat.sub_le _ _) t.isLt
    have hs : (dats m 0 c).after (7 : Fin 8) ⟨t.val - 1, hp⟩ = (dats m 0 c).after (7 : Fin 8) t := by
      show k0_pay2 (hS m c ((t.val - 1) / 32) ((t.val - 1) / 4 % 8)) _ = k0_pay2 (hS m c (t.val / 32) (t.val / 4 % 8)) _
      rw [show (t.val - 1) / 32 = t.val / 32 by omega, show (t.val - 1) / 4 = t.val / 4 by omega]
    rw [(dats m 0 c).before_of_pos (7 : Fin 8) t (by omega) (fetch7 t) d]
    have hf : ¬ (cfg0.win 7).flush ⟨t.val - 1, hp⟩ = true := fun hh => by
      have := (flush0_7 ⟨t.val - 1, hp⟩).1 hh
      simp only at this
      omega
    rw [if_neg hf]
    unfold Dat.left
    by_cases h4 : (t.val - 1) % 4 = 0
    · have hi : idle0 7 (grid0.coords ⟨t.val - 1, hp⟩) = false := by
        rw [Bool.eq_false_iff]
        intro hh
        exact (idle7_iff ⟨t.val - 1, hp⟩).1 hh h4
      rw [show (cfgs 0).idle (7 : Fin 8) ((cfgs 0).grid.coords ⟨t.val - 1, hp⟩) = false from hi]
      exact hs
    · have hi : idle0 7 (grid0.coords ⟨t.val - 1, hp⟩) = true := (idle7_iff ⟨t.val - 1, hp⟩).2 h4
      rw [show (cfgs 0).idle (7 : Fin 8) ((cfgs 0).grid.coords ⟨t.val - 1, hp⟩) = true from hi]
      exact (ih ⟨t.val - 1, hp⟩ d (by simp only; omega) h4).trans hs

theorem Φ_eq (c : Dev nD) (t) : (dats m 0 c).Φ t = phi m c t.val := rfl

theorem body_obligation (c : Dev nD) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl]
  simp only [before_0 m c t, before_1 m c t, before_2 m c t, before_3 m c t, before_4 m c t, before_5 m c t]
  have ht : t.val < 128 := t_lt t
  by_cases h4 : t.val % 4 = 0
  · have hi : idle0 7 (grid0.coords t) = false := by
      rw [Bool.eq_false_iff]
      intro hh
      exact (idle7_iff t).1 hh h4
    rw [hi]
    simp only [Φ_eq]
    unfold phi
    iintro ⟨⟨⟨%A, HA, -⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c none Set.univ (grid0.coords t) (stage0_0 ((cfgs 0).slots t 0)) (hstage0_0 _) (stage0_1 ((cfgs 0).slots t 1)) (hstage0_1 _)
      (stage0_2 ((cfgs 0).slots t 2)) (hstage0_2 _) (stage0_3 ((cfgs 0).slots t 3)) (hstage0_3 _) (stage0_4 ((cfgs 0).slots t 4)) (hstage0_4 _)
      (stage0_5 ((cfgs 0).slots t 5)) (hstage0_5 _) (stage0_6 ((cfgs 0).slots t 6)) (hstage0_6 _) (stage0_7 ((cfgs 0).slots t 7)) (hstage0_7 _)
      (Memref.whole cc0_scratch0) (Memref.isWhole_whole _) ((cond_iff t).2 h4) _ _ _ _ _ _)
    isplitl [HA H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact HA
    iintro ⟨H0, H1, H2, H3, H4, H5, H6, H7, HA⟩
    isplitl [HA Hr]
    · isplitl [HA]
      · iexists _
        isplitl [HA]; · iexact HA
        ipureintro
        intro _
        show hS m c (t.val / 32) (t.val / 4 % 8) = hS m c ((t.val + 1) / 32) ((t.val + 1) / 4 % 8)
        rw [show (t.val + 1) / 32 = t.val / 32 by omega, show (t.val + 1) / 4 = t.val / 4 by omega]
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hi : idle0 7 (grid0.coords t) = true := (idle7_iff t).2 h4
    rw [hi]
    simp only [Φ_eq]
    unfold phi
    iintro ⟨⟨⟨%A, HA, %hA⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := hA h4
    iapply (body_rest c none Set.univ (grid0.coords t) (stage0_0 ((cfgs 0).slots t 0)) (hstage0_0 _) (stage0_1 ((cfgs 0).slots t 1)) (hstage0_1 _)
      (stage0_2 ((cfgs 0).slots t 2)) (hstage0_2 _) (stage0_3 ((cfgs 0).slots t 3)) (hstage0_3 _) (stage0_4 ((cfgs 0).slots t 4)) (hstage0_4 _)
      (stage0_5 ((cfgs 0).slots t 5)) (hstage0_5 _) (stage0_6 ((cfgs 0).slots t 6)) (hstage0_6 _) (stage0_7 ((cfgs 0).slots t 7)) (hstage0_7 _)
      (Memref.whole cc0_scratch0) (Memref.isWhole_whole _) (fun hh => h4 ((cond_iff t).1 hh)) _ _)
    isplitl [HA H4 H6]
    · isplitl [H4]; · iexact H4
      isplitl [H6]; · iexists _; iexact H6
      iexact HA
    iintro ⟨H4, H6, HA⟩
    isplitl [HA Hr]
    · isplitl [HA]
      · iexists _
        isplitl [HA]; · iexact HA
        ipureintro
        intro hne
        have hne' : (t.val + 1) % 4 ≠ 0 := hne
        show hS m c (t.val / 32) (t.val / 4 % 8) = hS m c ((t.val + 1) / 32) ((t.val + 1) / 4 % 8)
        rw [show (t.val + 1) / 32 = t.val / 32 by omega, show (t.val + 1) / 4 = t.val / 4 by omega]
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    by_cases hf : (cfg0.win 7).flush t = true
    · rw [show (win0 7).flush t = true from hf, before_7 m c t.val t d7 rfl h4]
      iexact H7
    · rw [Bool.not_eq_true] at hf
      rw [show (win0 7).flush t = false from hf]
      iexists d7
      iexact H7

theorem keeps (c : Dev nD) (b : Ref sig .tc) (hb : b = main_arg0 ∨ b = main_arg1 ∨ b = main_arg2 ∨ b = main_arg3 ∨ b = main_arg4) :
    VV m c b = m ((c : Thread nD τ).loc b) := by
  rcases hb with h | h | h | h | h <;> subst h <;> rfl

theorem hfresh0 : (hostOps0 : List (HloOp τ sig (Elt F))).Forall fun op => op.fresh = ∅ := by
  simp only [hostOps0, List.Forall]; repeat' constructor

theorem phi_in (c : Dev nD) : Pipeline.ΦA spec0 c ⊢ (dats m 0 c).Φ 0 := by
  unfold Pipeline.ΦA
  rw [scopedRest0_eq, Φ_eq]
  unfold phi
  iintro ⟨⟨%A, HA⟩, Hr⟩
  isplitl [HA]
  · iexists A
    isplitl [HA]
    · rw [owns_whole]; iexact HA
    · ipureintro
      intro h
      exact absurd rfl h
  · iexact Hr

theorem phi_out (c : Dev nD) : (dats m 0 c).Φ (Fin.last grid0.N) ⊢ Pipeline.ΦA spec0 c := by
  unfold Pipeline.ΦA
  rw [scopedRest0_eq, Φ_eq]
  unfold phi
  iintro ⟨⟨%A, HA, -⟩, Hr⟩
  isplitl [HA]
  · iexists A
    rw [owns_whole]; exact Entails.refl _
  · iexact Hr

set_option backward.isDefEq.respectTransparency.types false in
theorem run_main :
    θ_run (defs (F := F)) (onTc (τ := τ) (main (F := F))) ⟨m, fun _ => 0, ρ⟩
      (fun r => Pipeline.FramePost cfgs (dats m) 0 (VV m) r ∧ r.2.sem = fun _ => 0) :=
  Pipeline.θ_run_frame_track cfgs (dats m) (0 : Fin 1) launch0 defs₀ 𝒱₀ m ρ main
    (hbody := fun c => body_obligation m c) (hshare := fun c w => (dats m 0 c).share_full (fun _ => rfl) w) (howed := fun _ _ => rfl)
    (V := VV m) (hmain := Pipeline.hmain_prefix cfgs 0 defs₀ 𝒱₀ m main hostOps0 hostOps0_sub hfresh0 main_chain)
    (hA := fun _ _ => rfl) (hin := phi_in m) (hout := phi_out m) (Q' := _) (hQ' := fun _ h => h)

/-- The wide result's contents. -/
def wide (c : Dev nD) : Vec F S4x8192x8192 .bf16 := fun z =>
  k0_pay3 (hS m c (z 0).val ((z 1).val / 1024)) (wBlk (VV m c main_v3) ((z 2).val / 2048))
    (ix3 0 ⟨(z 1).val % 1024, Nat.mod_lt _ (by decide)⟩ ⟨(z 2).val % 2048, Nat.mod_lt _ (by decide)⟩)

/-- The gates' contents. -/
def gates (c : Dev nD) : Vec F S4x8192x128 .f32 := fun z =>
  k0_pay2 (hS m c (z 0).val ((z 1).val / 1024)) (VV m c main_v9) (ix3 0 ⟨(z 1).val % 1024, Nat.mod_lt _ (by decide)⟩ (z 2))

theorem covers6 : win0_6.Covers := by decide +kernel
theorem covers7 : win0_7.Covers := by decide +kernel

theorem wide_eq (c : Dev nD) (ix : Fin 3 → ℕ) (b i j : ℕ) (h : ix = ![b, i, j]) (y : S1x1024x2048.Idx) (z : S4x8192x8192.Idx)
    (hz : ∀ a, (z a).val = ix a * S1x1024x2048.size a + 1 * (y a).val) :
    k0_pay3 (hS m c b i) (wBlk (VV m c main_v3) j) y = wide m c z := by
  subst h
  have h0 : (z 0).val = b * 1 + 1 * (y 0).val := hz 0
  have h1 : (z 1).val = i * 1024 + 1 * (y 1).val := hz 1
  have h2 : (z 2).val = j * 2048 + 1 * (y 2).val := hz 2
  have b0 : (y 0).val < 1 := (y 0).isLt
  have b1 : (y 1).val < 1024 := (y 1).isLt
  have b2 : (y 2).val < 2048 := (y 2).isLt
  unfold wide
  rw [show (z 0).val = b by omega, show (z 1).val / 1024 = i by omega, show (z 2).val / 2048 = j by omega]
  refine congrArg _ (funext fun a => Fin.ext ?_)
  fin_cases a
  · show (y 0).val = 0; omega
  · show (y 1).val = (z 1).val % 1024; omega
  · show (y 2).val = (z 2).val % 2048; omega

theorem gates_eq (c : Dev nD) (ix : Fin 3 → ℕ) (b i : ℕ) (h : ix = ![b, i, 0]) (y : S1x1024x128.Idx) (z : S4x8192x128.Idx)
    (hz : ∀ a, (z a).val = ix a * S1x1024x128.size a + 1 * (y a).val) :
    k0_pay2 (hS m c b i) (VV m c main_v9) y = gates m c z := by
  subst h
  have h0 : (z 0).val = b * 1 + 1 * (y 0).val := hz 0
  have h1 : (z 1).val = i * 1024 + 1 * (y 1).val := hz 1
  have h2 : (z 2).val = 0 * 128 + 1 * (y 2).val := hz 2
  have b0 : (y 0).val < 1 := (y 0).isLt
  have b1 : (y 1).val < 1024 := (y 1).isLt
  unfold gates
  rw [show (z 0).val = b by omega, show (z 1).val / 1024 = i by omega]
  refine congrArg _ (funext fun a => Fin.ext ?_)
  fin_cases a
  · show (y 0).val = 0; omega
  · show (y 1).val = (z 1).val % 1024; omega
  · show (y 2).val = (z 2).val; omega

theorem wide_at (c : Dev nD) : (dats m 0 c).arrAt (6 : Fin 8) grid0.N = wide m c :=
  (dats m 0 c).arrAt_eq_of_covers (6 : Fin 8) _ covers6 (fun t hf y => wide_eq m c _ _ _ _ (ixs t).2.2.2.2.2.2.1 y _ (fun _ => rfl))

theorem gates_at (c : Dev nD) : (dats m 0 c).arrAt (7 : Fin 8) grid0.N = gates m c :=
  (dats m 0 c).arrAt_eq_of_covers (7 : Fin 8) _ covers7 (fun t hf y => gates_eq m c _ _ _ (ixs t).2.2.2.2.2.2.2 y _ (fun _ => rfl))

/-- The run, by arrays: the arguments unchanged, the results named. -/
theorem run_arrays :
    θ_run (defs (F := F)) (onTc (τ := τ) (main (F := F))) ⟨m, fun _ => 0, ρ⟩
      (fun r => (∀ c : Dev nD, (r.2.mem ((c.tc : Thread nD τ).loc main_v13_0) = wide m c ∧ r.2.mem ((c.tc : Thread nD τ).loc main_v13_1) = gates m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  refine (θ_run _ _ _).mono (fun r h => ⟨fun c => ⟨⟨?_, ?_⟩, ?_, ?_, ?_, ?_, ?_⟩, h.2⟩) (run_main m ρ)
  · exact (h.1.out_eq c (6 : Fin 8)).trans (wide_at m c)
  · exact (h.1.out_eq c (7 : Fin 8)).trans (gates_at m c)
  · exact (h.1.in_eq c (0 : Fin 8) rfl).trans (keeps m c main_arg0 (by simp))
  · exact (h.1.rest_eq c main_arg1 (show _ ∈ Pipeline.restRefs sig spec0 by decide)).trans (keeps m c main_arg1 (by simp))
  · exact (h.1.rest_eq c main_arg2 (show _ ∈ Pipeline.restRefs sig spec0 by decide)).trans (keeps m c main_arg2 (by simp))
  · exact (h.1.rest_eq c main_arg3 (show _ ∈ Pipeline.restRefs sig spec0 by decide)).trans (keeps m c main_arg3 (by simp))
  · exact (h.1.rest_eq c main_arg4 (show _ ∈ Pipeline.restRefs sig spec0 by decide)).trans (keeps m c main_arg4 (by simp))

end Cert.Proof.Proj

end
-- ==== Proof.ProjFrame.lean ====
/- The input projection's frame at the hardware's arithmetic: the same run, at that reading of the floats. -/
module

public import proofs.«01_k».proof.Defs
public import proofs.«01_k».proof.Proof.Gen.Kernel3.Launch
public import proofs.«01_k».proof.Proof.ProjLaunch

@[expose] public section

set_option maxRecDepth 100000
set_option maxHeartbeats 0

noncomputable section

namespace Cert.Proof.Proj

open Idealize.ShloMosaic Idealize.ShloMosaic.TcCoe Idealize.SL.Sem

variable {F : FTy → Type} [FloatOps F]

theorem ops_same : Cert.Kernel3.Gen.hostOps0 (F := F) = Cert.Kernel3Ideal.Gen.hostOps0 := by
  unfold Cert.Kernel3.Gen.hostOps0 Cert.Kernel3Ideal.Gen.hostOps0
  repeat (refine congrArg₂ List.cons ?_ ?_)
  all_goals rfl

theorem main_same : Cert.Kernel3.main (F := F) = Cert.Kernel3Ideal.main := funext fun c =>
  (Cert.Kernel3.Gen.main_chain c).trans (Eq.trans (by rw [ops_same]; rfl) (Cert.Kernel3Ideal.Gen.main_chain c).symm)

theorem defs₀_same : Cert.Kernel3.defs₀ (F := F) = Cert.Kernel3Ideal.defs₀ := by
  unfold Cert.Kernel3.defs₀ Cert.Kernel3Ideal.defs₀
  refine congrArg Defs.onTc (funext fun l => funext fun x => ?_)
  match l, x with
  | 0, (t, s) => rfl

theorem defs_same : Cert.Kernel3.defs (F := F) = Cert.Kernel3Ideal.defs :=
  congrArg (Pipeline.defs Cert.Kernel3Ideal.pcfgs) defs₀_same

theorem frame_Kernel3 : Cert.quiescent_Kernel3 (hKernel3 := Cert.Kernel3.Gen.facts) := fun m ρ _ => by
  have hr := run_arrays (F := Bits) m ρ
  rw [defs_same, main_same]
  exact (θ_run Cert.Kernel3Ideal.defs _ _).mono (fun _ h => ⟨fun c => (h.1 c).2, h.2⟩) hr

theorem frame_Kernel3Ideal : Cert.quiescent_Kernel3Ideal (hKernel3Ideal := Cert.Kernel3Ideal.Gen.facts) := fun m ρ _ =>
  (θ_run Cert.Kernel3Ideal.defs _ _).mono (fun _ h => ⟨fun c => (h.1 c).2, h.2⟩) (run_arrays (F := Ideal) m ρ)

end Cert.Proof.Proj

end
-- ==== Proof.OutK.lean ====
module

public import proofs.«01_k».proof.Proof.Gen.Kernel2Ideal.Value
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 8192
set_option maxHeartbeats 1000000

noncomputable section

/-! # The output projection's arithmetic, one row at a time, at the extended reals -/

namespace Cert.Proof.Out

/-- The gate's activation. -/
def sil (z : EReal) : EReal := z * Idealize.ShloMosaic.Ideal.logistic z

/-- One over the root of a row's mean square. -/
def rn {N : ℕ} (w : BitVec 32) (row : Fin N → EReal) : EReal :=
  Idealize.ShloMosaic.Ideal.rsqrt (Idealize.ShloMosaic.Ideal.div (∑ d : Fin N, row d * row d) (Idealize.ShloMosaic.Ideal.ofBits .f32 w)
    + Idealize.ShloMosaic.Ideal.ofBits .f32 0x358637BD#32)

/-- A row over the root of its mean square, times the gains. -/
def nrm {N : ℕ} (w : BitVec 32) (row g : Fin N → EReal) (d : Fin N) : EReal := row d * rn w row * g d

/-- A row of eight heads, each over the root of its mean square. -/
def gn (o : Fin 1024 → EReal) (g : Fin 128 → EReal) (k : Fin 1024) : EReal :=
  nrm 0x43000000#32 (fun d : Fin 128 => o ⟨128 * (k.val / 128) + d.val, by omega⟩) g ⟨k.val % 128, Nat.mod_lt _ (by decide)⟩

/-- The residual row after the gated projection. -/
def xn (x gate : Fin 2048 → EReal) (fo fz go gz : Fin 1024 → EReal) (g : Fin 128 → EReal) (w : Fin 2048 → Fin 2048 → EReal)
    (c : Fin 2048) : EReal :=
  x c + gate c * ((∑ k : Fin 1024, fo k * sil (fz k) * w ⟨k.val, by omega⟩ c)
    + ∑ k : Fin 1024, gn go g k * sil (gz k) * w ⟨1024 + k.val, by omega⟩ c)

/-- The layer's output row. -/
def outRow (x gate : Fin 2048 → EReal) (fo fz go gz : Fin 1024 → EReal) (g : Fin 128 → EReal) (w : Fin 2048 → Fin 2048 → EReal)
    (fg : Fin 2048 → EReal) (c : Fin 2048) : EReal :=
  nrm 0x45000000#32 (xn x gate fo fz go gz g w) fg c

open Cert.Kernel2Ideal Cert.Kernel2Ideal.Gen
open Idealize.ShloMosaic Idealize.ShloMosaic.TcCoe Idealize.ShloMosaic.ValueIdx

attribute [local instance] Cert.Kernel2Ideal.Gen.facts

theorem dot_plain {M K N : ℕ} {φ₁ φ₂ : FTy}
    (w : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (acc : FVec Ideal ⟨2, ![M, N]⟩ .f32) (r : Fin M) (c : Fin N) :
    FloatOps.matmul (⟨[1], [0], [0], [1], [], [], w⟩ : DotDims _ _ _) prec lhs rhs acc (ix2 r c)
      = acc (ix2 r c) + ∑ k : Fin K, lhs (ix2 r k) * rhs (ix2 k c) := by
  rw [Ideal.matmul_apply, ← Equiv.sum_comp (contrEquiv1 (⟨[1], [0], [0], [1], [], [], w⟩ : DotDims _ _ _) K rfl rfl).symm]
  refine congrArg (acc (ix2 r c) + ·) (Finset.sum_congr rfl fun k _ => ?_)
  have hk := contrEquiv1_symm_val
    (⟨[1], [0], [0], [1], [], [], w⟩ : DotDims ⟨2, ![M, K]⟩ ⟨2, ![K, N]⟩ ⟨2, ![M, N]⟩) K rfl rfl k
  have el : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext a; apply Fin.ext
    match a with
    | ⟨0, _⟩ => simp [DotDims.lhsIdx]; rfl
    | ⟨1, _⟩ => simp [DotDims.lhsIdx]; exact hk
  have er : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext a; apply Fin.ext
    match a with
    | ⟨0, _⟩ => simp [DotDims.rhsIdx]; exact hk
    | ⟨1, _⟩ => simp [DotDims.rhsIdx]; rfl
  rw [el, er]

theorem lift_col {n m : ℕ} (h : Shape.Reduces ⟨2, ![n, m]⟩ [1] ⟨1, ![n]⟩) (r : Fin n) (c : Fin m) :
    h.lift (ix1 r) c = ix2 r c := by
  funext a; apply Fin.ext
  match a with
  | ⟨0, _⟩ => rfl
  | ⟨1, _⟩ => rfl

theorem norm_apply {N : ℕ} (v : FVec Ideal ⟨2, ![512, N]⟩ .f32) (g : FVec Ideal ⟨2, ![1, N]⟩ .f32) (w : BitVec 32)
    (hr : Shape.Reduces ⟨2, ![512, N]⟩ [1] ⟨1, ![512]⟩) (hs : (⟨1, ![512]⟩ : Shape).ShapeCasts ⟨2, ![512, 1]⟩)
    (hb : (⟨2, ![512, 1]⟩ : Shape).Broadcasts ⟨2, ![512, N]⟩) (hg : (⟨2, ![1, N]⟩ : Shape).ShapeCasts ⟨2, ![1, N]⟩)
    (hb' : (⟨2, ![1, N]⟩ : Shape).Broadcasts ⟨2, ![512, N]⟩) (r : Fin 512) (d : Fin N) :
    mulf (mulf v (broadcastTo ⟨2, ![512, N]⟩ (rsqrt (addf (divf (shapeCast ⟨2, ![512, 1]⟩
      (multiReduction .add [1] ⟨1, ![512]⟩ (mulf v v) 0x00000000#32 hr (.inl rfl) rfl) hs)
      (broadcast ⟨2, ![512, 1]⟩ (Scalar.ofBits .f32 w))) (broadcast ⟨2, ![512, 1]⟩ (Scalar.ofBits .f32 0x358637BD#32)))) hb))
      (broadcastTo ⟨2, ![512, N]⟩ (shapeCast ⟨2, ![1, N]⟩ g hg) hb') (ix2 r d)
      = nrm w (fun e => v (ix2 r e)) (fun e => g (ix2 0 e)) d := by
  rw [mulf_apply, mulf_apply, shapeCast_self, broadcastTo_1b_ab_apply]
  refine congrArg (fun y : EReal => v (ix2 r d) * y * g (ix2 0 d)) ?_
  refine (broadcastTo_apply _ hb _ (ix2 r (0 : Fin 1)) fun a => ?_).trans ?_
  · match a with
    | ⟨0, _⟩ => rfl
    | ⟨1, _⟩ => rfl
  refine congrArg (fun y : EReal => Ideal.rsqrt (Ideal.div y (Ideal.ofBits .f32 w) + Ideal.ofBits .f32 0x358637BD#32)) ?_
  rw [shapeCast_a_a1_apply]
  refine (Ideal.multiReduction_add_single _ _ _ _ _ _).trans ?_
  exact Finset.sum_congr rfl fun e _ => congrArg (mulf v v) (lift_col hr r e)

theorem head_apply (x : Vec Ideal S1x512x128 .bf16) (r : Fin 512) (d : Fin 128) :
    k0_pay4 x (ix2 r d) = x (ix3 (0 : Fin 1) r d) := by
  unfold k0_pay4
  exact shapeCast_1ab_ab_apply _ _ _ _

theorem pay3_apply (x : Vec Ideal S1x512x128 .bf16) (g : Vec Ideal S1x128 .f32) (r : Fin 512) (d : Fin 128) :
    k0_pay3 x g (ix2 r d) = nrm 0x43000000#32 (fun e : Fin 128 => x (ix3 (0 : Fin 1) r e)) (fun e => g (ix2 0 e)) d := by
  refine Eq.trans (b := nrm 0x43000000#32 (fun e : Fin 128 => k0_pay4 x (ix2 r e)) (fun e => g (ix2 0 e)) d) ?_ ?_
  · exact norm_apply (k0_pay4 x) g _ _ _ _ _ _ r d
  · exact congrArg (fun f => nrm 0x43000000#32 f _ d) (funext fun e => head_apply x r e)

theorem silu_apply (z : Vec Ideal S1x512x1024 .bf16) (h) (h') (r : Fin 512) (k : Fin 1024) :
    mulf (extf .f32 (shapeCast S512x1024 z h : FVec Ideal S512x1024 .bf16) h') (logistic (extf .f32 (shapeCast S512x1024 z h : FVec Ideal S512x1024 .bf16) h')) (ix2 r k)
      = sil (z (ix3 (0 : Fin 1) r k)) := by
  show sil (shapeCast S512x1024 z h (ix2 r k)) = _
  exact congrArg sil (shapeCast_1ab_ab_apply _ _ _ _)

theorem pay2_apply (x z : Vec Ideal S1x512x1024 .bf16) (r : Fin 512) (k : Fin 1024) :
    k0_pay2 x z (ix2 r k) = x (ix3 (0 : Fin 1) r k) * sil (z (ix3 (0 : Fin 1) r k)) := by
  unfold k0_pay2
  refine congrArg₂ (fun a b : EReal => a * b) ?_ (silu_apply z _ _ r k)
  exact shapeCast_1ab_ab_apply _ _ _ _

theorem concat8_apply (f : Fin 8 → FVec Ideal S512x128 .f32) (h) (r : Fin 512) (k : Fin 1024) :
    concatenate S512x1024 1 [⟨S512x128, f 0⟩, ⟨S512x128, f 1⟩, ⟨S512x128, f 2⟩, ⟨S512x128, f 3⟩, ⟨S512x128, f 4⟩, ⟨S512x128, f 5⟩,
      ⟨S512x128, f 6⟩, ⟨S512x128, f 7⟩] h (ix2 r k)
      = f ⟨k.val / 128, by omega⟩ (ix2 r ⟨k.val % 128, Nat.mod_lt _ (by decide)⟩) := by
  refine concatenate_ofFn_apply (t := S512x1024) (s₁ := S512x128) (1 : Fin 2) f h rfl 128 rfl (ix2 r k) _ rfl _ rfl fun b hb => ?_
  match b with
  | ⟨0, _⟩ => rfl
  | ⟨1, _⟩ => exact absurd rfl hb

theorem pay14_apply (x : Fin 8 → Vec Ideal S1x512x128 .bf16) (g : Vec Ideal S1x128 .f32) (z : Vec Ideal S1x512x1024 .bf16)
    (r : Fin 512) (k : Fin 1024) :
    k0_pay14 (k0_pay3 (x 0) g) (k0_pay6 (k0_pay4 (x 1)) (k0_pay5 (x 1)) g) (k0_pay7 (x 2) g) (k0_pay8 (x 3) g) (k0_pay9 (x 4) g)
      (k0_pay10 (x 5) g) (k0_pay11 (x 6)) (k0_pay12 (x 6)) g (x 7) g z (ix2 r k)
      = nrm 0x43000000#32 (fun e : Fin 128 => x ⟨k.val / 128, by omega⟩ (ix3 (0 : Fin 1) r e)) (fun e => g (ix2 0 e))
          ⟨k.val % 128, Nat.mod_lt _ (by decide)⟩ * sil (z (ix3 (0 : Fin 1) r k)) := by
  refine congrArg₂ (fun a b : EReal => a * b) ?_ (silu_apply z _ _ r k)
  refine Eq.trans ?_ (pay3_apply (x ⟨k.val / 128, by omega⟩) g r ⟨k.val % 128, Nat.mod_lt _ (by decide)⟩)
  exact concat8_apply (fun j => k0_pay3 (x j) g) _ r k

theorem pay1_apply (a : FVec Ideal S512x2048 .f32) (b : FVec Ideal S512x1024 .bf16) (w : FVec Ideal S1024x2048 .bf16)
    (x : Vec Ideal S1x512x2048 .f32) (gate : Vec Ideal S1x1x2048 .f32) (fg : Vec Ideal S1x2048 .f32) (r : Fin 512) (c : Fin 2048) :
    k0_pay1 a b w (constant S512x2048 .f32 0x00000000#32) x gate fg (ix3 (0 : Fin 1) r c)
      = nrm 0x45000000#32 (fun e : Fin 2048 => x (ix3 (0 : Fin 1) r e) + gate (ix3 (0 : Fin 1) (0 : Fin 1) e)
          * (a (ix2 r e) + ∑ k : Fin 1024, b (ix2 r k) * w (ix2 k e))) (fun e => fg (ix2 0 e)) c := by
  unfold k0_pay1
  refine (shapeCast_ab_1ab_apply _ _ _ _ _).trans ?_
  refine (norm_apply (addf (shapeCast S512x2048 x _) (mulf (broadcastTo S512x2048 (shapeCast S1x2048 gate _) _)
    (addf a (matmul dot_S512x1024_S1024x2048_S512x2048_1_0_0_1_n_n none b w (constant S512x2048 .f32 0x00000000#32)))))
    fg 0x45000000#32 _ _ _ _ _ r c).trans ?_
  refine congrArg (fun f => nrm 0x45000000#32 f (fun e => fg (ix2 0 e)) c) (funext fun e => ?_)
  refine congrArg₂ (fun p q : EReal => p + q) (shapeCast_1ab_ab_apply _ _ _ _) ?_
  refine congrArg₂ (fun p q : EReal => p * q) ?_ ?_
  · rw [broadcastTo_1b_ab_apply]
    exact shapeCast_1ab_ab_apply _ _ _ _
  · refine congrArg (fun q : EReal => a (ix2 r e) + q) ?_
    refine (dot_plain _ none b w _ r e).trans ?_
    rw [constant_apply, Ideal.ofBits_zero_f32, zero_add]

theorem pay13_apply (a : FVec Ideal S512x1024 .f32) (w : Vec Ideal S1024x2048 .bf16) (r : Fin 512) (c : Fin 2048) :
    k0_pay13 a w (ix2 r c) = ∑ k : Fin 1024, a (ix2 r k) * w (ix2 k c) := by
  unfold k0_pay13
  rw [shapeCast_self]
  refine (dot_plain _ none _ w _ r c).trans ?_
  rw [constant_apply, Ideal.ofBits_zero_f32, zero_add]
  rfl

theorem ld_cols (x : Vec Ideal S1x512x1024 .bf16) (o : ℕ) (ho : o + 128 ≤ 1024) (inb) (r : Fin 512) (d : Fin 128) :
    View.ld x (Rect.unit (s := S1x512x1024) ![0, 0, o] S1x512x128.size inb) (ix3 (0 : Fin 1) r d)
      = x (ix3 (0 : Fin 1) r ⟨o + d.val, by omega⟩) := by
  refine congrArg x (funext fun a => Fin.ext ?_)
  match a with
  | ⟨0, _⟩ => rfl
  | ⟨1, _⟩ => show 0 + 1 * r.val = r.val; omega
  | ⟨2, _⟩ => show o + 1 * d.val = o + d.val; omega

theorem ld_rows (x : Vec Ideal S2048x2048 .bf16) (o : ℕ) (ho : o + 1024 ≤ 2048) (inb) (r : Fin 1024) (d : Fin 2048) :
    View.ld x (Rect.unit (s := S2048x2048) ![o, 0] S1024x2048.size inb) (ix2 r d) = x (ix2 ⟨o + r.val, by omega⟩ d) := by
  refine congrArg x (funext fun a => Fin.ext ?_)
  match a with
  | ⟨0, _⟩ => show o + 1 * r.val = o + r.val; omega
  | ⟨1, _⟩ => show 0 + 1 * d.val = d.val; omega

theorem zero2 : (![0, 0] : Fin 2 → ℕ) = fun _ => 0 := by decide
theorem zero3 : (![0, 0, 0] : Fin 3 → ℕ) = fun _ => 0 := by decide

/-- The eight heads' columns as the body loads them. -/
def heads (x : Vec Ideal S1x512x1024 .bf16) : Fin 8 → Vec Ideal S1x512x128 .bf16
  | 0 => View.ld x r0_1
  | 1 => View.ld x r0_3
  | 2 => View.ld x r0_4
  | 3 => View.ld x r0_5
  | 4 => View.ld x r0_6
  | 5 => View.ld x r0_7
  | 6 => View.ld x r0_8
  | 7 => View.ld x r0_9

theorem heads_apply (x : Vec Ideal S1x512x1024 .bf16) (j : Fin 8) (r : Fin 512) (d : Fin 128) :
    heads x j (ix3 (0 : Fin 1) r d) = x (ix3 (0 : Fin 1) r ⟨128 * j.val + d.val, by omega⟩) :=
  match j with
  | 0 => ld_cols x 0 (by decide) _ r d
  | 1 => ld_cols x 128 (by decide) _ r d
  | 2 => ld_cols x 256 (by decide) _ r d
  | 3 => ld_cols x 384 (by decide) _ r d
  | 4 => ld_cols x 512 (by decide) _ r d
  | 5 => ld_cols x 640 (by decide) _ r d
  | 6 => ld_cols x 768 (by decide) _ r d
  | 7 => ld_cols x 896 (by decide) _ r d

theorem out_apply (x0 : Vec Ideal S1x512x2048 .f32) (x1 x2 x3 x4 : Vec Ideal S1x512x1024 .bf16) (x5 : Vec Ideal S1x1x2048 .f32)
    (x6 : Vec Ideal S1x128 .f32) (x7 : Vec Ideal S2048x2048 .bf16) (x8 : Vec Ideal S1x2048 .f32) (r : Fin 512) (c : Fin 2048) :
    out0_9 x0 x1 x2 x3 x4 x5 x6 x7 x8 (ix3 (0 : Fin 1) r c)
      = outRow (fun e => x0 (ix3 (0 : Fin 1) r e)) (fun e => x5 (ix3 (0 : Fin 1) (0 : Fin 1) e))
          (fun k => x1 (ix3 (0 : Fin 1) r k)) (fun k => x2 (ix3 (0 : Fin 1) r k)) (fun k => x3 (ix3 (0 : Fin 1) r k))
          (fun k => x4 (ix3 (0 : Fin 1) r k)) (fun e => x6 (ix2 0 e)) (fun k e => x7 (ix2 k e)) (fun e => x8 (ix2 0 e)) c := by
  have h0 : View.ld x0 r0_12 = x0 := View.ld_unit_zero zero3 _ _
  have h1 : View.ld x1 r0_0 = x1 := View.ld_unit_zero zero3 _ _
  have h2 : View.ld x2 r0_0 = x2 := View.ld_unit_zero zero3 _ _
  have h4 : View.ld x4 r0_0 = x4 := View.ld_unit_zero zero3 _ _
  have h5 : View.ld x5 r0_13 = x5 := View.ld_unit_zero zero3 _ _
  have h6 : View.ld x6 r0_2 = x6 := View.ld_unit_zero zero2 _ _
  have h8 : View.ld x8 r0_14 = x8 := View.ld_unit_zero zero2 _ _
  unfold out0_9
  rw [View.canon_unit_zero zero3, h0, h1, h2, h4, h5, h6, h8]
  refine (pay1_apply _ _ _ x0 x5 x8 r c).trans ?_
  refine congrArg (fun f => nrm 0x45000000#32 f (fun e => x8 (ix2 0 e)) c) (funext fun e => ?_)
  refine congrArg (fun q : EReal => x0 (ix3 (0 : Fin 1) r e) + x5 (ix3 (0 : Fin 1) (0 : Fin 1) e) * q) ?_
  refine congrArg₂ (fun p q : EReal => p + q) ?_ ?_
  · refine (pay13_apply _ _ r e).trans (Finset.sum_congr rfl fun k _ => ?_)
    refine congrArg₂ (fun p q : EReal => p * q) (pay2_apply x1 x2 r k) ?_
    refine (ld_rows x7 0 (by decide) _ k e).trans (congrArg (fun q => x7 (ix2 q e)) (Fin.ext ?_))
    show 0 + k.val = k.val
    omega
  · refine Finset.sum_congr rfl fun k _ => congrArg₂ (fun p q : EReal => p * q) ?_ ?_
    · refine (pay14_apply (heads x3) x6 x4 r k).trans (congrArg (fun p : EReal => p * sil (x4 (ix3 (0 : Fin 1) r k))) ?_)
      exact congrArg (fun f => nrm 0x43000000#32 f (fun e => x6 (ix2 0 e)) ⟨k.val % 128, Nat.mod_lt _ (by decide)⟩)
        (funext fun d => heads_apply x3 ⟨k.val / 128, by omega⟩ r d)
    · unfold k0_pay15
      rw [shapeCast_self]
      exact ld_rows x7 1024 (by decide) _ k e

end Cert.Proof.Out

end
-- ==== Proof.OutArr.lean ====
module

public import proofs.«01_k».proof.Proof.OutK

@[expose] public section

set_option maxRecDepth 8192
set_option maxHeartbeats 1000000

noncomputable section

/-! # The output projection's result array as one function of its arguments -/

namespace Cert.Proof.Out

open Idealize.ShloMosaic Idealize.ShloMosaic.TcCoe Idealize.ShloMosaic.ValueIdx Idealize.SL.Sem

theorem ix3_of {a b d : ℕ} (j : (⟨3, ![a, b, d]⟩ : Shape).Idx) : j = ix3 (j 0) (j 1) (j 2) := by
  funext k
  match k with
  | ⟨0, _⟩ => rfl
  | ⟨1, _⟩ => rfl
  | ⟨2, _⟩ => rfl

/-- The result, index by index. -/
def layer (a0 : (⟨3, ![4, 8192, 2048]⟩ : Shape).Idx → EReal) (a1 : (⟨3, ![4, 8192, 1024]⟩ : Shape).Idx → EReal)
    (a2 : (⟨3, ![4, 8192, 8192]⟩ : Shape).Idx → EReal) (a3 : (⟨3, ![4, 8192, 1024]⟩ : Shape).Idx → EReal)
    (a4 : (⟨2, ![4, 2048]⟩ : Shape).Idx → EReal) (a5 : (⟨1, ![128]⟩ : Shape).Idx → EReal)
    (a6 : (⟨2, ![2048, 2048]⟩ : Shape).Idx → EReal) (a7 : (⟨1, ![2048]⟩ : Shape).Idx → EReal)
    (b : Fin 4) (n : Fin 8192) (e : Fin 2048) : EReal :=
  outRow (fun e => a0 (ix3 b n e)) (fun e => a4 (ix2 b e)) (fun k => a1 (ix3 b n k))
    (fun k => a2 (ix3 b n ⟨3072 + k.val, by omega⟩)) (fun k => a3 (ix3 b n k)) (fun k => a2 (ix3 b n ⟨7168 + k.val, by omega⟩))
    (fun d => a5 (ix1 d)) (fun k e => a6 (ix2 k e)) (fun e => a7 (ix1 e)) e

theorem outRow_congr {x x' gate gate' : Fin 2048 → EReal} {fo fo' fz fz' go go' gz gz' : Fin 1024 → EReal} {g g' : Fin 128 → EReal}
    {w w' : Fin 2048 → Fin 2048 → EReal} {fg fg' : Fin 2048 → EReal} (h0 : x = x') (h1 : gate = gate') (h2 : fo = fo') (h3 : fz = fz')
    (h4 : go = go') (h5 : gz = gz') (h6 : g = g') (h7 : w = w') (h8 : fg = fg') (c : Fin 2048) :
    outRow x gate fo fz go gz g w fg c = outRow x' gate' fo' fz' go' gz' g' w' fg' c := by
  rw [h0, h1, h2, h3, h4, h5, h6, h7, h8]

open Cert.Kernel2Ideal Cert.Kernel2Ideal.Gen

attribute [local instance] Cert.Kernel2Ideal.Gen.facts

variable (m : (ℓ : Loc nD τ sig) → Buf (Elt Ideal) ℓ) (c : Dev nD)

/-- The result array. -/
def arr : Buf (Elt Ideal) ((c.tc : Thread nD τ).loc main_v4) := fun j : S4x8192x2048.Idx =>
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (j 0) (j 1) (j 2)

theorem pt_lt (t : Fin cfg0.N) : t.val < 64 := t.isLt

/-- The batch of point `t`, and the position of its row `r`. -/
def bt (t : Fin cfg0.N) : Fin 4 := ⟨t.val / 16, by have := pt_lt t; omega⟩
def nt (t : Fin cfg0.N) (r : Fin 512) : Fin 8192 := ⟨t.val % 16 * 512 + r.val, by omega⟩

theorem at0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem at1 : ∀ t : Fin cfg0.N, win0_1.index t 0 = t.val / 16 ∧ win0_1.index t 1 = t.val % 16 ∧ win0_1.index t 2 = 0 :=
  (by decide +kernel : ∀ t : Fin grid0.N, win0_1.index t 0 = t.val / 16 ∧ win0_1.index t 1 = t.val % 16 ∧ win0_1.index t 2 = 0)
theorem at2 : ∀ t : Fin cfg0.N, win0_2.index t 0 = t.val / 16 ∧ win0_2.index t 1 = t.val % 16 ∧ win0_2.index t 2 = 3 :=
  (by decide +kernel : ∀ t : Fin grid0.N, win0_2.index t 0 = t.val / 16 ∧ win0_2.index t 1 = t.val % 16 ∧ win0_2.index t 2 = 3)
theorem at3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)
theorem at4 : ∀ t : Fin cfg0.N, win0_4.index t 0 = t.val / 16 ∧ win0_4.index t 1 = t.val % 16 ∧ win0_4.index t 2 = 7 :=
  (by decide +kernel : ∀ t : Fin grid0.N, win0_4.index t 0 = t.val / 16 ∧ win0_4.index t 1 = t.val % 16 ∧ win0_4.index t 2 = 7)
theorem at5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = 0 ∧ win0_7.index t 1 = 0 :=
  (by decide +kernel : ∀ t : Fin grid0.N, win0_7.index t 0 = 0 ∧ win0_7.index t 1 = 0)
theorem at8 : ∀ t : Fin cfg0.N, win0_8.index t 0 = 0 ∧ win0_8.index t 1 = 0 :=
  (by decide +kernel : ∀ t : Fin grid0.N, win0_8.index t 0 = 0 ∧ win0_8.index t 1 = 0)
theorem at9 : ∀ t : Fin cfg0.N, win0_9.index t 0 = t.val / 16 ∧ win0_9.index t 1 = t.val % 16 ∧ win0_9.index t 2 = 0 :=
  (by decide +kernel : ∀ t : Fin grid0.N, win0_9.index t 0 = t.val / 16 ∧ win0_9.index t 1 = t.val % 16 ∧ win0_9.index t 2 = 0)

theorem blk0 (t : Fin cfg0.N) (r : Fin 512) (e : Fin 2048) :
    iblk m c 0 t (ix3 (0 : Fin 1) r e) = m ((c : Thread nD τ).loc main_arg0) (ix3 (bt t) (nt t r) e) := by
  obtain ⟨i0, i1, i2⟩ := at0 t
  rw [← V_main_arg0 m c]
  refine congrArg (V m c main_arg0) (funext fun a => Fin.ext ?_)
  match a with
  | ⟨0, _⟩ => show win0_0.index t 0 * 1 + 1 * 0 = t.val / 16; omega
  | ⟨1, _⟩ => show win0_0.index t 1 * 512 + 1 * r.val = t.val % 16 * 512 + r.val; omega
  | ⟨2, _⟩ => show win0_0.index t 2 * 2048 + 1 * e.val = e.val; omega

theorem blk1 (t : Fin cfg0.N) (r : Fin 512) (e : Fin 1024) :
    iblk m c 1 t (ix3 (0 : Fin 1) r e) = m ((c : Thread nD τ).loc main_arg1) (ix3 (bt t) (nt t r) e) := by
  obtain ⟨i0, i1, i2⟩ := at1 t
  rw [← V_main_arg1 m c]
  refine congrArg (V m c main_arg1) (funext fun a => Fin.ext ?_)
  match a with
  | ⟨0, _⟩ => show win0_1.index t 0 * 1 + 1 * 0 = t.val / 16; omega
  | ⟨1, _⟩ => show win0_1.index t 1 * 512 + 1 * r.val = t.val % 16 * 512 + r.val; omega
  | ⟨2, _⟩ => show win0_1.index t 2 * 1024 + 1 * e.val = e.val; omega

theorem blk2 (t : Fin cfg0.N) (r : Fin 512) (e : Fin 1024) :
    iblk m c 2 t (ix3 (0 : Fin 1) r e) = m ((c : Thread nD τ).loc main_arg2) (ix3 (bt t) (nt t r) ⟨3072 + e.val, by omega⟩) := by
  obtain ⟨i0, i1, i2⟩ := at2 t
  rw [← V_main_arg2 m c]
  refine congrArg (V m c main_arg2) (funext fun a => Fin.ext ?_)
  match a with
  | ⟨0, _⟩ => show win0_2.index t 0 * 1 + 1 * 0 = t.val / 16; omega
  | ⟨1, _⟩ => show win0_2.index t 1 * 512 + 1 * r.val = t.val % 16 * 512 + r.val; omega
  | ⟨2, _⟩ => show win0_2.index t 2 * 1024 + 1 * e.val = 3072 + e.val; omega

theorem blk3 (t : Fin cfg0.N) (r : Fin 512) (e : Fin 1024) :
    iblk m c 3 t (ix3 (0 : Fin 1) r e) = m ((c : Thread nD τ).loc main_arg3) (ix3 (bt t) (nt t r) e) := by
  obtain ⟨i0, i1, i2⟩ := at3 t
  rw [← V_main_arg3 m c]
  refine congrArg (V m c main_arg3) (funext fun a => Fin.ext ?_)
  match a with
  | ⟨0, _⟩ => show win0_3.index t 0 * 1 + 1 * 0 = t.val / 16; omega
  | ⟨1, _⟩ => show win0_3.index t 1 * 512 + 1 * r.val = t.val % 16 * 512 + r.val; omega
  | ⟨2, _⟩ => show win0_3.index t 2 * 1024 + 1 * e.val = e.val; omega

theorem blk4 (t : Fin cfg0.N) (r : Fin 512) (e : Fin 1024) :
    iblk m c 4 t (ix3 (0 : Fin 1) r e) = m ((c : Thread nD τ).loc main_arg2) (ix3 (bt t) (nt t r) ⟨7168 + e.val, by omega⟩) := by
  obtain ⟨i0, i1, i2⟩ := at4 t
  rw [← V_main_arg2 m c]
  refine congrArg (V m c main_arg2) (funext fun a => Fin.ext ?_)
  match a with
  | ⟨0, _⟩ => show win0_4.index t 0 * 1 + 1 * 0 = t.val / 16; omega
  | ⟨1, _⟩ => show win0_4.index t 1 * 512 + 1 * r.val = t.val % 16 * 512 + r.val; omega
  | ⟨2, _⟩ => show win0_4.index t 2 * 1024 + 1 * e.val = 7168 + e.val; omega

theorem blk5 (t : Fin cfg0.N) (e : Fin 2048) :
    iblk m c 5 t (ix3 (0 : Fin 1) (0 : Fin 1) e) = m ((c : Thread nD τ).loc main_arg4) (ix2 (bt t) e) := by
  obtain ⟨i0, i1, i2⟩ := at5 t
  refine Eq.trans (b := V m c main_v0 (ix3 (bt t) (0 : Fin 1) e)) (congrArg (V m c main_v0) (funext fun a => Fin.ext ?_)) ?_
  · match a with
    | ⟨0, _⟩ => show win0_5.index t 0 * 1 + 1 * 0 = t.val / 16; omega
    | ⟨1, _⟩ => show win0_5.index t 1 * 1 + 1 * 0 = 0; omega
    | ⟨2, _⟩ => show win0_5.index t 2 * 2048 + 1 * e.val = e.val; omega
  · refine shapeCast_apply (s := S4x2048) (t := S4x1x2048) (m ((c : Thread nD τ).loc main_arg4)) _ _ _ ?_
    rw [Shape.rowMajor_val_two, Shape.rowMajor_val_three]
    show (bt t).val * 2048 + e.val = ((bt t).val * 1 + 0) * 2048 + e.val
    omega

theorem blk6 (t : Fin cfg0.N) (e : Fin 128) : iblk m c 6 t (ix2 (0 : Fin 1) e) = m ((c : Thread nD τ).loc main_arg5) (ix1 e) := by
  obtain ⟨i0, i1⟩ := at6 t
  refine Eq.trans (b := V m c main_v1 (ix2 (0 : Fin 1) e)) (congrArg (V m c main_v1) (funext fun a => Fin.ext ?_)) ?_
  · match a with
    | ⟨0, _⟩ => show win0_6.index t 0 * 1 + 1 * 0 = 0; omega
    | ⟨1, _⟩ => show win0_6.index t 1 * 128 + 1 * e.val = e.val; omega
  · exact shapeCast_a_1a_apply (m ((c : Thread nD τ).loc main_arg5)) _ _ _

theorem blk7 (t : Fin cfg0.N) (k e : Fin 2048) : iblk m c 7 t (ix2 k e) = m ((c : Thread nD τ).loc main_arg6) (ix2 k e) := by
  obtain ⟨i0, i1⟩ := at7 t
  refine Eq.trans (b := V m c main_v2 (ix2 k e)) (congrArg (V m c main_v2) (funext fun a => Fin.ext ?_)) rfl
  match a with
  | ⟨0, _⟩ => show win0_7.index t 0 * 2048 + 1 * k.val = k.val; omega
  | ⟨1, _⟩ => show win0_7.index t 1 * 2048 + 1 * e.val = e.val; omega

theorem blk8 (t : Fin cfg0.N) (e : Fin 2048) : iblk m c 8 t (ix2 (0 : Fin 1) e) = m ((c : Thread nD τ).loc main_arg7) (ix1 e) := by
  obtain ⟨i0, i1⟩ := at8 t
  refine Eq.trans (b := V m c main_v3 (ix2 (0 : Fin 1) e)) (congrArg (V m c main_v3) (funext fun a => Fin.ext ?_)) ?_
  · match a with
    | ⟨0, _⟩ => show win0_8.index t 0 * 1 + 1 * 0 = 0; omega
    | ⟨1, _⟩ => show win0_8.index t 1 * 2048 + 1 * e.val = e.val; omega
  · exact shapeCast_a_1a_apply (m ((c : Thread nD τ).loc main_arg7)) _ _ _

theorem flushed_arr (t : Fin cfg0.N) : (dats m 0 c).flushed 9 t = (win0_9.blk t).view.read (Elt Ideal) (arr m c) := by
  rw [Value.flushed9]
  refine funext fun j : S1x512x2048.Idx => ?_
  obtain ⟨i0, i1, i2⟩ := at9 t
  have hj : j = ix3 (0 : Fin 1) (j 1 : Fin 512) (j 2 : Fin 2048) := by
    funext a; apply Fin.ext
    match a with
    | ⟨0, _⟩ => show (j 0).val = 0; have : (j 0).val < 1 := (j 0).isLt; omega
    | ⟨1, _⟩ => rfl
    | ⟨2, _⟩ => rfl
  generalize (j 1 : Fin 512) = r at hj
  generalize (j 2 : Fin 2048) = e at hj
  subst hj
  have he : (win0_9.rect t).idx (ix3 (0 : Fin 1) r e) = ix3 (bt t) (nt t r) e := by
    funext a; apply Fin.ext
    match a with
    | ⟨0, _⟩ => show win0_9.index t 0 * 1 + 1 * 0 = t.val / 16; omega
    | ⟨1, _⟩ => show win0_9.index t 1 * 512 + 1 * r.val = t.val % 16 * 512 + r.val; omega
    | ⟨2, _⟩ => show win0_9.index t 2 * 2048 + 1 * e.val = e.val; omega
  refine Eq.trans (out_apply _ _ _ _ _ _ _ _ _ r e) ?_
  refine Eq.trans ?_ (congrArg (arr m c) he).symm
  unfold arr layer
  refine outRow_congr ?_ ?_ ?_ ?_ ?_ ?_ ?_ ?_ ?_ e
  · exact funext fun e => blk0 m c t r e
  · exact funext fun e => blk5 m c t e
  · exact funext fun e => blk1 m c t r e
  · exact funext fun e => blk2 m c t r e
  · exact funext fun e => blk3 m c t r e
  · exact funext fun e => blk4 m c t r e
  · exact funext fun e => blk6 m c t e
  · exact funext fun k => funext fun e => blk7 m c t k e
  · exact funext fun e => blk8 m c t e

theorem mem_blk (t : Fin cfg0.N) (i : S4x8192x2048.Idx) (h0 : (i 0).val = t.val / 16) (h1 : (i 1).val / 512 = t.val % 16) :
    i ∈ ((cfg0.win 9).blk t).view.set := by
  show i ∈ ((View.whole main_v4).slice (win0_9.rect t)).set
  rw [View.set_slice_whole, Rect.mem_set_unit]
  obtain ⟨i0, i1, i2⟩ := at9 t
  have hi : (i 2).val < 2048 := (i 2).isLt
  intro a
  match a with
  | ⟨0, _⟩ => show win0_9.index t 0 * 1 ≤ (i 0).val ∧ (i 0).val < win0_9.index t 0 * 1 + 1; omega
  | ⟨1, _⟩ => show win0_9.index t 1 * 512 ≤ (i 1).val ∧ (i 1).val < win0_9.index t 1 * 512 + 512; omega
  | ⟨2, _⟩ => show win0_9.index t 2 * 2048 ≤ (i 2).val ∧ (i 2).val < win0_9.index t 2 * 2048 + 2048; omega

theorem cover (i : S4x8192x2048.Idx) : ∃ t : Fin cfg0.N, (cfg0.win 9).flush t = true ∧ i ∈ ((cfg0.win 9).blk t).view.set := by
  have h0 : (i 0).val < 4 := (i 0).isLt
  have h1 : (i 1).val < 8192 := (i 1).isLt
  have hN : cfg0.N = 64 := rfl
  refine ⟨⟨16 * (i 0).val + (i 1).val / 512, by omega⟩, flush0_9 _, mem_blk _ i ?_ ?_⟩
  · dsimp only; omega
  · dsimp only; omega

theorem final_arr : (dats m 0 c).arrAt 9 cfg0.N = arr m c :=
  (dats m 0 c).arrAt_eq_of_cover 9 (arr m c) (fun t _ => flushed_arr m c t) cover

end Cert.Proof.Out

end
-- ==== Proof.ProjVal.lean ====
module

public import proofs.«01_k».proof.Proof.ProjLaunch
public import proofs.«01_k».proof.Proof.OutArr
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 8192
set_option maxHeartbeats 1000000

noncomputable section

/-! # The input projection's arithmetic, one row at a time, at the extended reals -/

namespace Cert.Proof.Proj

open Cert.Kernel3Ideal Cert.Kernel3Ideal.Gen
open Idealize.ShloMosaic Idealize.ShloMosaic.TcCoe Idealize.ShloMosaic.ValueIdx
open Cert.Proof.Out (rn dot_plain lift_col ix3_of)

attribute [local instance] Cert.Kernel3Ideal.Gen.facts

/-- A row over the root of its mean square, scaled and shifted. -/
def hrow (x g sc sh : Fin 2048 → EReal) (d : Fin 2048) : EReal :=
  x d * rn 0x45000000#32 x * (g d * (Ideal.ofBits .f32 0x3F800000#32 + sc d)) + sh d

/-- Where each group of eight gate columns starts in the weight. -/
def off : Fin 10 → ℕ := ![4096, 8200, 8208, 8200, 8200, 4096, 4096, 8200, 8200, 8200]

theorem off_le : ∀ i : Fin 10, off i ≤ 8208 := by decide

/-- A row against one of the wide columns: the weight's first 4096, then those from 4104. -/
def wideVal (h : Fin 2048 → EReal) (w : Fin 2048 → Fin 8216 → EReal) (j : Fin 8192) : EReal :=
  ∑ k : Fin 2048, h k * w k ⟨if j.val < 4096 then j.val else j.val + 8, by split <;> omega⟩

/-- A row against one of the gate columns: ten groups of eight, then zeros. -/
def gateVal (h : Fin 2048 → EReal) (w : Fin 2048 → Fin 8216 → EReal) (j : Fin 128) : EReal :=
  if hj : j.val < 80 then
    ∑ k : Fin 2048, h k * w k ⟨off ⟨j.val / 8, by omega⟩ + j.val % 8, by have := off_le ⟨j.val / 8, by omega⟩; omega⟩
  else 0

theorem rn_apply {R N : ℕ} (v : FVec Ideal ⟨2, ![R, N]⟩ .f32) (w : BitVec 32)
    (hr : Shape.Reduces ⟨2, ![R, N]⟩ [1] ⟨1, ![R]⟩) (hs : (⟨1, ![R]⟩ : Shape).ShapeCasts ⟨2, ![R, 1]⟩)
    (hb : (⟨2, ![R, 1]⟩ : Shape).Broadcasts ⟨2, ![R, N]⟩) (hR : R ≠ 1) (r : Fin R) (d : Fin N) :
    broadcastTo ⟨2, ![R, N]⟩ (rsqrt (addf (divf (shapeCast ⟨2, ![R, 1]⟩
      (multiReduction .add [1] ⟨1, ![R]⟩ (mulf v v) 0x00000000#32 hr (.inl rfl) rfl) hs)
      (broadcast ⟨2, ![R, 1]⟩ (Scalar.ofBits .f32 w))) (broadcast ⟨2, ![R, 1]⟩ (Scalar.ofBits .f32 0x358637BD#32)))) hb (ix2 r d)
      = rn w (fun e => v (ix2 r e)) := by
  refine (broadcastTo_apply _ hb _ (ix2 r (0 : Fin 1)) fun a => ?_).trans ?_
  · match a with
    | ⟨0, _⟩ => exact (if_neg hR).symm
    | ⟨1, _⟩ => rfl
  refine congrArg (fun y : EReal => Ideal.rsqrt (Ideal.div y (Ideal.ofBits .f32 w) + Ideal.ofBits .f32 0x358637BD#32)) ?_
  rw [shapeCast_a_a1_apply]
  refine (Ideal.multiReduction_add_single _ _ _ _ _ _).trans ?_
  exact Finset.sum_congr rfl fun e _ => congrArg (mulf v v) (lift_col hr r e)

theorem pay1_apply (g : Vec Ideal S1x2048 .f32) (sc sh : Vec Ideal S1x1x2048 .f32) (x : Vec Ideal S1x128x2048 .f32)
    (r : Fin 128) (d : Fin 2048) :
    k0_pay1 g sc sh x (ix2 r d) = hrow (fun e => x (ix3 (0 : Fin 1) r e)) (fun e => g (ix2 (0 : Fin 1) e))
      (fun e => sc (ix3 (0 : Fin 1) (0 : Fin 1) e)) (fun e => sh (ix3 (0 : Fin 1) (0 : Fin 1) e)) d := by
  have hx : ∀ e : Fin 2048, (shapeCast S128x2048 x shapeCasts_S1x128x2048_S128x2048 : FVec Ideal S128x2048 .f32) (ix2 r e)
      = x (ix3 (0 : Fin 1) r e) := fun e => shapeCast_1ab_ab_apply _ _ _ _
  unfold k0_pay1
  simp only [shapeCast_self]
  refine congrArg₂ (fun p q : EReal => p + q) (congrArg₂ (fun p q : EReal => p * q) (congrArg₂ (fun p q : EReal => p * q) (hx d) ?_) ?_) ?_
  · refine (rn_apply (shapeCast S128x2048 x shapeCasts_S1x128x2048_S128x2048 : FVec Ideal S128x2048 .f32) 0x45000000#32 _ _ _ (by decide) r d).trans ?_
    exact congrArg (rn 0x45000000#32) (funext hx)
  · rw [broadcastTo_1b_ab_apply]
    refine congrArg (fun y : EReal => g (ix2 (0 : Fin 1) d) * (Ideal.ofBits .f32 0x3F800000#32 + y)) ?_
    exact shapeCast_1ab_ab_apply _ _ _ _
  · rw [broadcastTo_1b_ab_apply]
    exact shapeCast_1ab_ab_apply _ _ _ _

theorem pay3_apply (h : Vec Ideal S1024x2048 .bf16) (w : Vec Ideal S2048x2048 .bf16) (r : Fin 1024) (j : Fin 2048) :
    k0_pay3 h w (ix3 (0 : Fin 1) r j) = ∑ k : Fin 2048, (h (ix2 r k) : EReal) * w (ix2 k j) := by
  unfold k0_pay3
  rw [shapeCast_self]
  refine (shapeCast_ab_1ab_apply _ _ _ _ _).trans ?_
  refine (dot_plain (φ₁ := .bf16) (φ₂ := .bf16) _ none h w (constant S1024x2048 .f32 0x00000000#32) r j).trans ?_
  rw [constant_apply, Ideal.ofBits_zero_f32, zero_add]

theorem pay2_apply (h : Vec Ideal S1024x2048 .bf16) (w : Vec Ideal S2048x128 .bf16) (r : Fin 1024) (j : Fin 128) :
    k0_pay2 h w (ix3 (0 : Fin 1) r j) = ∑ k : Fin 2048, (h (ix2 r k) : EReal) * w (ix2 k j) := by
  unfold k0_pay2
  rw [shapeCast_self]
  refine (shapeCast_ab_1ab_apply _ _ _ _ _).trans ?_
  refine (dot_plain (φ₁ := .bf16) (φ₂ := .bf16) _ none h w (constant S1024x128 .f32 0x00000000#32) r j).trans ?_
  rw [constant_apply, Ideal.ofBits_zero_f32, zero_add]

/-! ## The operands the host lays out -/

section Lay

variable (w : FVec Ideal S2048x8216 .f32)

theorem wide_col (h) (k : Fin 2048) (j : Fin 8192) :
    concatenate S2048x8192 1 [⟨S2048x4096, extractStridedSlice S2048x4096 ![0, 0] w slices_S2048x8216_S2048x4096_0_0⟩,
      ⟨S2048x4096, extractStridedSlice S2048x4096 ![0, 4104] w slices_S2048x8216_S2048x4096_0_4104⟩] h (ix2 k j)
      = w (ix2 k ⟨if j.val < 4096 then j.val else j.val + 8, by split <;> omega⟩) := by
  by_cases hj : j.val < 4096
  · refine (concatenate_pair_apply_left (t := S2048x8192) (s₁ := S2048x4096) (s₂ := S2048x4096) (1 : Fin 2) _ _ _ _ rfl
      (ix2 k (⟨j.val, hj⟩ : Fin 4096)) ?_).trans ?_
    · intro a
      match a with
      | ⟨0, _⟩ => rfl
      | ⟨1, _⟩ => rfl
    refine extractStridedSlice_apply _ w _ _ _ fun a => ?_
    match a with
    | ⟨0, _⟩ => show k.val = 0 + k.val; omega
    | ⟨1, _⟩ => show (if j.val < 4096 then j.val else j.val + 8) = 0 + j.val; rw [if_pos hj]; omega
  · refine (concatenate_pair_apply_right (t := S2048x8192) (s₁ := S2048x4096) (s₂ := S2048x4096) (1 : Fin 2) _ _ _ _ rfl rfl
      (ix2 k (⟨j.val - 4096, by omega⟩ : Fin 4096)) ?_ ?_).trans ?_
    · intro a ha
      match a with
      | ⟨0, _⟩ => rfl
      | ⟨1, _⟩ => exact absurd rfl ha
    · show j.val - 4096 + 4096 = j.val
      omega
    refine extractStridedSlice_apply _ w _ _ _ fun a => ?_
    match a with
    | ⟨0, _⟩ => show k.val = 0 + k.val; omega
    | ⟨1, _⟩ => show (if j.val < 4096 then j.val else j.val + 8) = 4104 + (j.val - 4096); rw [if_neg hj]; omega

theorem groups_apply (f : Fin 10 → FVec Ideal S2048x8 .f32) (z : FVec Ideal S2048x48 .f32) (h) (k : Fin 2048) (i : Fin 10) (e : Fin 8) :
    concatenate S2048x128 1 [⟨S2048x8, f 0⟩, ⟨S2048x8, f 1⟩, ⟨S2048x8, f 2⟩, ⟨S2048x8, f 3⟩, ⟨S2048x8, f 4⟩, ⟨S2048x8, f 5⟩, ⟨S2048x8, f 6⟩, ⟨S2048x8, f 7⟩, ⟨S2048x8, f 8⟩, ⟨S2048x8, f 9⟩, ⟨S2048x48, z⟩] h (ix2 k ⟨8 * i.val + e.val, by omega⟩) = f i (ix2 k e) := by
  match i with
  | ⟨0, _⟩ =>
    exact concatenate_apply_piece (t := S2048x128) (1 : Fin 2) _ h (ix2 k ⟨8 * 0 + e.val, by omega⟩) 0 (by simp) S2048x8 (f 0) rfl rfl 0 rfl (ix2 k e)
      (fun b hb => by match b with | ⟨0, _⟩ => rfl | ⟨1, _⟩ => exact absurd rfl hb) rfl
  | ⟨1, _⟩ =>
    exact concatenate_apply_piece (t := S2048x128) (1 : Fin 2) _ h (ix2 k ⟨8 * 1 + e.val, by omega⟩) 1 (by simp) S2048x8 (f 1) rfl rfl 8 rfl (ix2 k e)
      (fun b hb => by match b with | ⟨0, _⟩ => rfl | ⟨1, _⟩ => exact absurd rfl hb) rfl
  | ⟨2, _⟩ =>
    exact concatenate_apply_piece (t := S2048x128) (1 : Fin 2) _ h (ix2 k ⟨8 * 2 + e.val, by omega⟩) 2 (by simp) S2048x8 (f 2) rfl rfl 16 rfl (ix2 k e)
      (fun b hb => by match b with | ⟨0, _⟩ => rfl | ⟨1, _⟩ => exact absurd rfl hb) rfl
  | ⟨3, _⟩ =>
    exact concatenate_apply_piece (t := S2048x128) (1 : Fin 2) _ h (ix2 k ⟨8 * 3 + e.val, by omega⟩) 3 (by simp) S2048x8 (f 3) rfl rfl 24 rfl (ix2 k e)
      (fun b hb => by match b with | ⟨0, _⟩ => rfl | ⟨1, _⟩ => exact absurd rfl hb) rfl
  | ⟨4, _⟩ =>
    exact concatenate_apply_piece (t := S2048x128) (1 : Fin 2) _ h (ix2 k ⟨8 * 4 + e.val, by omega⟩) 4 (by simp) S2048x8 (f 4) rfl rfl 32 rfl (ix2 k e)
      (fun b hb => by match b with | ⟨0, _⟩ => rfl | ⟨1, _⟩ => exact absurd rfl hb) rfl
  | ⟨5, _⟩ =>
    exact concatenate_apply_piece (t := S2048x128) (1 : Fin 2) _ h (ix2 k ⟨8 * 5 + e.val, by omega⟩) 5 (by simp) S2048x8 (f 5) rfl rfl 40 rfl (ix2 k e)
      (fun b hb => by match b with | ⟨0, _⟩ => rfl | ⟨1, _⟩ => exact absurd rfl hb) rfl
  | ⟨6, _⟩ =>
    exact concatenate_apply_piece (t := S2048x128) (1 : Fin 2) _ h (ix2 k ⟨8 * 6 + e.val, by omega⟩) 6 (by simp) S2048x8 (f 6) rfl rfl 48 rfl (ix2 k e)
      (fun b hb => by match b with | ⟨0, _⟩ => rfl | ⟨1, _⟩ => exact absurd rfl hb) rfl
  | ⟨7, _⟩ =>
    exact concatenate_apply_piece (t := S2048x128) (1 : Fin 2) _ h (ix2 k ⟨8 * 7 + e.val, by omega⟩) 7 (by simp) S2048x8 (f 7) rfl rfl 56 rfl (ix2 k e)
      (fun b hb => by match b with | ⟨0, _⟩ => rfl | ⟨1, _⟩ => exact absurd rfl hb) rfl
  | ⟨8, _⟩ =>
    exact concatenate_apply_piece (t := S2048x128) (1 : Fin 2) _ h (ix2 k ⟨8 * 8 + e.val, by omega⟩) 8 (by simp) S2048x8 (f 8) rfl rfl 64 rfl (ix2 k e)
      (fun b hb => by match b with | ⟨0, _⟩ => rfl | ⟨1, _⟩ => exact absurd rfl hb) rfl
  | ⟨9, _⟩ =>
    exact concatenate_apply_piece (t := S2048x128) (1 : Fin 2) _ h (ix2 k ⟨8 * 9 + e.val, by omega⟩) 9 (by simp) S2048x8 (f 9) rfl rfl 72 rfl (ix2 k e)
      (fun b hb => by match b with | ⟨0, _⟩ => rfl | ⟨1, _⟩ => exact absurd rfl hb) rfl

theorem groups_rest (f : Fin 10 → FVec Ideal S2048x8 .f32) (z : FVec Ideal S2048x48 .f32) (h) (k : Fin 2048) (e : Fin 48) :
    concatenate S2048x128 1 [⟨S2048x8, f 0⟩, ⟨S2048x8, f 1⟩, ⟨S2048x8, f 2⟩, ⟨S2048x8, f 3⟩, ⟨S2048x8, f 4⟩, ⟨S2048x8, f 5⟩, ⟨S2048x8, f 6⟩, ⟨S2048x8, f 7⟩, ⟨S2048x8, f 8⟩, ⟨S2048x8, f 9⟩, ⟨S2048x48, z⟩] h (ix2 k ⟨80 + e.val, by omega⟩) = z (ix2 k e) :=
  concatenate_apply_piece (t := S2048x128) (1 : Fin 2) _ h (ix2 k ⟨80 + e.val, by omega⟩) 10 (by simp) S2048x48 z rfl rfl 80 rfl (ix2 k e)
    (fun b hb => by match b with | ⟨0, _⟩ => rfl | ⟨1, _⟩ => exact absurd rfl hb) rfl

theorem group_slices : ∀ i : Fin 10, S2048x8216.Slices ![0, off i] S2048x8 := by decide

/-- A group of the weight's columns. -/
def group (i : Fin 10) : FVec Ideal S2048x8 .f32 := extractStridedSlice S2048x8 ![0, off i] w (group_slices i)

theorem group_apply (i : Fin 10) (k : Fin 2048) (e : Fin 8) :
    group w i (ix2 k e) = w (ix2 k ⟨off i + e.val, by have := off_le i; omega⟩) := by
  refine extractStridedSlice_apply _ w _ _ _ fun a => ?_
  match a with
  | ⟨0, _⟩ => show k.val = 0 + k.val; omega
  | ⟨1, _⟩ => rfl

end Lay

/-! ## The two results, index by index -/

variable (m : (ℓ : Loc nD τ sig) → Buf (Elt Ideal) ℓ) (c : Dev nD)

theorem v3_apply (k : Fin 2048) (j : Fin 8192) :
    (VV m c main_v3 (ix2 k j) : EReal) = m ((c : Thread nD τ).loc main_arg4) (ix2 k ⟨if j.val < 4096 then j.val else j.val + 8, by split <;> omega⟩) :=
  wide_col (m ((c : Thread nD τ).loc main_arg4)) concatenates_S2048x4096_S2048x4096_S2048x8192_d1 k j

theorem v9_group (k : Fin 2048) (i : Fin 10) (e : Fin 8) :
    (VV m c main_v9 (ix2 k ⟨8 * i.val + e.val, by omega⟩) : EReal)
      = m ((c : Thread nD τ).loc main_arg4) (ix2 k ⟨off i + e.val, by have := off_le i; omega⟩) :=
  (groups_apply (group (m ((c : Thread nD τ).loc main_arg4))) (VV m c main_v7) concatenates_S2048x8_S2048x8_S2048x8_S2048x8_S2048x8_S2048x8_S2048x8_S2048x8_S2048x8_S2048x8_S2048x48_S2048x128_d1 k i e).trans (group_apply _ i k e)

theorem v9_rest (k : Fin 2048) (e : Fin 48) : (VV m c main_v9 (ix2 k ⟨80 + e.val, by omega⟩) : EReal) = (0 : EReal) :=
  (groups_rest (group (m ((c : Thread nD τ).loc main_arg4))) (VV m c main_v7) concatenates_S2048x8_S2048x8_S2048x8_S2048x8_S2048x8_S2048x8_S2048x8_S2048x8_S2048x8_S2048x8_S2048x48_S2048x128_d1 k e).trans Ideal.ofBits_zero_f32

theorem row_v10 (b : Fin 4) (e : Fin 2048) :
    VV m c main_v10 (ix3 b (0 : Fin 1) e) = m ((c : Thread nD τ).loc main_arg1) (ix2 b e) := by
  refine shapeCast_apply (s := S4x2048) (t := S4x1x2048) (m ((c : Thread nD τ).loc main_arg1)) _ _ _ ?_
  rw [Shape.rowMajor_val_two, Shape.rowMajor_val_three]
  show b.val * 2048 + e.val = (b.val * 1 + 0) * 2048 + e.val
  omega

theorem row_v11 (b : Fin 4) (e : Fin 2048) :
    VV m c main_v11 (ix3 b (0 : Fin 1) e) = m ((c : Thread nD τ).loc main_arg2) (ix2 b e) := by
  refine shapeCast_apply (s := S4x2048) (t := S4x1x2048) (m ((c : Thread nD τ).loc main_arg2)) _ _ _ ?_
  rw [Shape.rowMajor_val_two, Shape.rowMajor_val_three]
  show b.val * 2048 + e.val = (b.val * 1 + 0) * 2048 + e.val
  omega

theorem row_v12 (e : Fin 2048) : VV m c main_v12 (ix2 (0 : Fin 1) e) = m ((c : Thread nD τ).loc main_arg3) (ix1 e) :=
  shapeCast_a_1a_apply (m ((c : Thread nD τ).loc main_arg3)) _ _ _

/-- A position's row of the normalised block. -/
abbrev hval (b : Fin 4) (n : Fin 8192) : Fin 2048 → EReal :=
  hrow (fun e => m ((c : Thread nD τ).loc main_arg0) (ix3 b n e)) (fun e => m ((c : Thread nD τ).loc main_arg3) (ix1 e))
    (fun e => m ((c : Thread nD τ).loc main_arg2) (ix2 b e)) (fun e => m ((c : Thread nD τ).loc main_arg1) (ix2 b e))

theorem hS_apply (b : Fin 4) (n : Fin 8192) (d : Fin 2048) :
    hS m c b.val (n.val / 1024) (ix2 (⟨n.val % 1024, Nat.mod_lt _ (by decide)⟩ : Fin 1024) d) = hval m c b n d := by
  refine (pay1_apply _ _ _ _ _ _).trans ?_
  have e0 : (⟨b.val % 4, Nat.mod_lt _ (by decide)⟩ : Fin 4) = b := Fin.ext (Nat.mod_eq_of_lt b.isLt)
  refine congrArg (fun F : Fin 2048 → EReal => F d) ?_
  refine congr (congr (congr (congrArg hrow (funext fun e => ?_)) (funext fun e => row_v12 m c e)) (funext fun e => ?_)) (funext fun e => ?_)
  · refine congrArg (m ((c : Thread nD τ).loc main_arg0)) (funext fun a => Fin.ext ?_)
    match a with
    | ⟨0, _⟩ => show b.val % 4 = b.val; omega
    | ⟨1, _⟩ =>
      show (1024 * (n.val / 1024) + (128 * (n.val % 1024 / 128) + n.val % 1024 % 128) % 1024) % 8192 = n.val
      omega
    | ⟨2, _⟩ => rfl
  · refine Eq.trans ?_ (row_v11 m c b e)
    exact congrArg (fun q : Fin 4 => VV m c main_v11 (ix3 q (0 : Fin 1) e)) e0
  · refine Eq.trans ?_ (row_v10 m c b e)
    exact congrArg (fun q : Fin 4 => VV m c main_v10 (ix3 q (0 : Fin 1) e)) e0

theorem wide_apply (b : Fin 4) (n : Fin 8192) (j : Fin 8192) :
    (wide m c (ix3 b n j) : EReal) = wideVal (hval m c b n) (fun k j => m ((c : Thread nD τ).loc main_arg4) (ix2 k j)) j := by
  refine (pay3_apply _ _ _ _).trans (Finset.sum_congr rfl fun k _ => congrArg₂ (fun p q : EReal => p * q) (hS_apply m c b n k) ?_)
  refine Eq.trans ?_ (v3_apply m c k j)
  refine congrArg (VV m c main_v3) (funext fun a => Fin.ext ?_)
  match a with
  | ⟨0, _⟩ => rfl
  | ⟨1, _⟩ => show (2048 * (j.val / 2048) + j.val % 2048) % 8192 = j.val; omega

theorem gates_apply (b : Fin 4) (n : Fin 8192) (j : Fin 128) :
    (gates m c (ix3 b n j) : EReal) = gateVal (hval m c b n) (fun k j => m ((c : Thread nD τ).loc main_arg4) (ix2 k j)) j := by
  refine (pay2_apply _ _ _ _).trans ?_
  by_cases hj : j.val < 80
  · rw [gateVal, dif_pos hj]
    refine Finset.sum_congr rfl fun k _ => congrArg₂ (fun p q : EReal => p * q) (hS_apply m c b n k) ?_
    refine Eq.trans (congrArg (fun q : Fin 128 => VV m c main_v9 (ix2 k q)) (Fin.ext ?_))
      (v9_group m c k ⟨j.val / 8, by omega⟩ ⟨j.val % 8, Nat.mod_lt _ (by decide)⟩)
    show j.val = 8 * (j.val / 8) + j.val % 8
    omega
  · rw [gateVal, dif_neg hj]
    refine Finset.sum_eq_zero fun k _ => ?_
    refine Eq.trans (congrArg (fun y : EReal => (_ : EReal) * y) (Eq.trans (congrArg (fun q : Fin 128 => VV m c main_v9 (ix2 k q)) (Fin.ext ?_))
      (v9_rest m c k ⟨j.val - 80, by omega⟩))) (mul_zero _)
    show j.val = 80 + (j.val - 80)
    omega

end Cert.Proof.Proj

end
-- ==== Proof.OutRef.lean ====
module

public import proofs.«01_k».proof.Proof.OutArr
public import proofs.«01_k».proof.Proof.Gen.Reference2Ideal.Run
public import Idealize.ShloMosaic.Lib.IdealHost

@[expose] public section

set_option maxRecDepth 8192
set_option maxHeartbeats 1000000

noncomputable section

/-! # The second reference's result, index by index -/

namespace Cert.Proof.Out.Ref

open Cert.Reference2Ideal Cert.Reference2Ideal.Gen
open Idealize.ShloMosaic Idealize.ShloMosaic.TcCoe Idealize.ShloMosaic.ValueIdx Idealize.SL.Sem

attribute [local instance] Cert.Reference2Ideal.Gen.facts

theorem unit_bits : Ideal.ofBits .f32 0x3F800000#32 = 1 := by
  simp [Ideal.ofBits, Ideal.ieee]
  rw [← EReal.coe_mul, ← EReal.coe_one]; exact congrArg _ (by norm_num)

theorem dot_last {B M N K : ℕ} {φ₁ φ₂ : FTy}
    (w : DotDims.WF ⟨3, ![B, M, K]⟩ ⟨2, ![K, N]⟩ ⟨3, ![B, M, N]⟩ [2] [0] [0, 1] [1] [] [])
    (prec : Option ContractPrecision) (x : FVec Ideal ⟨3, ![B, M, K]⟩ φ₁) (y : FVec Ideal ⟨2, ![K, N]⟩ φ₂)
    (b : Fin B) (i : Fin M) (j : Fin N) :
    Host.dotGeneral (⟨[2], [0], [0, 1], [1], [], [], w⟩ : DotDims _ _ _) prec x y (ix3 b i j)
      = ∑ d : Fin K, x (ix3 b i d) * y (ix2 d j) := by
  show FloatOps.dotGeneral _ prec _ x y (ix3 b i j) = _
  rw [Ideal.dotGeneral_apply,
    ← Equiv.sum_comp (contrEquiv1 (⟨[2], [0], [0, 1], [1], [], [], w⟩ : DotDims _ _ _) K rfl rfl).symm]
  refine Finset.sum_congr rfl fun c _ => ?_
  have hk := contrEquiv1_symm_val
    (⟨[2], [0], [0, 1], [1], [], [], w⟩ : DotDims ⟨3, ![B, M, K]⟩ ⟨2, ![K, N]⟩ ⟨3, ![B, M, N]⟩) K rfl rfl c
  have el : (⟨[2], [0], [0, 1], [1], [], [], w⟩ : DotDims ⟨3, ![B, M, K]⟩ ⟨2, ![K, N]⟩ ⟨3, ![B, M, N]⟩).lhsIdx (ix3 b i j)
      ((contrEquiv1 _ K rfl rfl).symm c) = ix3 b i c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hk
  have er : (⟨[2], [0], [0, 1], [1], [], [], w⟩ : DotDims ⟨3, ![B, M, K]⟩ ⟨2, ![K, N]⟩ ⟨3, ![B, M, N]⟩).rhsIdx (ix3 b i j)
      ((contrEquiv1 _ K rfl rfl).symm c) = ix2 c j := by
    funext ax; apply Fin.ext
    match ax with
    | ⟨0, _⟩ => simp [DotDims.rhsIdx]; exact hk
    | ⟨1, _⟩ => simp [DotDims.rhsIdx]; rfl
  rw [el, er]

/-- The gate's activation as the reference spells it. -/
def act (z : FVec Ideal S4x8192x1024 .f32) : FVec Ideal S4x8192x1024 .f32 :=
  mulf z (Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf z))))

theorem act_apply (z : FVec Ideal S4x8192x1024 .f32) (j : S4x8192x1024.Idx) : act z j = sil (z j) := by
  show (z j : EReal) * Ideal.div (Ideal.ofBits .f32 0x3F800000#32) (Ideal.ofBits .f32 0x3F800000#32 + Ideal.exp (-(z j : EReal))) = _
  rw [unit_bits]
  rfl

/-- The heads over the roots of their mean squares. -/
def normed (t : FVec Ideal S4x8192x8x128 .f32) (g : FVec Ideal S128 .f32) : FVec Ideal S4x8192x8x128 .f32 :=
  mulf (mulf t (broadcastInDim S4x8192x8x128 ![0, 1, 2, 3] bcast_S4x8192x8x1_S4x8192x8x128_0_1_2_3 (Host.rsqrt (addf (Host.divf
    (broadcastInDim S4x8192x8x1 ![0, 1, 2] bcast_S4x8192x8_S4x8192x8x1_0_1_2 (Host.reduceAdd (mulf t t)
      (constant S_ .f32 0x00000000#32) reducesTo_S4x8192x8x128_S4x8192x8_d3 h_S_))
    (broadcastInDim S4x8192x8x1 ![] bcast_S_S4x8192x8x1 (constant S_ .f32 0x43000000#32)))
    (broadcastInDim S4x8192x8x1 ![] bcast_S_S4x8192x8x1 (constant S_ .f32 0x358637BD#32))))))
    (broadcastInDim S4x8192x8x128 ![0, 1, 2, 3] bcast_S1x1x1x128_S4x8192x8x128_0_1_2_3
      (broadcastInDim S1x1x1x128 ![3] bcast_S128_S1x1x1x128_3 g))

theorem red4 : S4x8192x8x128.Reduces [3] S4x8192x8 := by decide
theorem red3 : S4x8192x2048.Reduces [2] S4x8192 := by decide

theorem normed_apply (t : FVec Ideal S4x8192x8x128 .f32) (g : FVec Ideal S128 .f32) (b : Fin 4) (n : Fin 8192) (h : Fin 8) (d : Fin 128) :
    normed t g (ix4 b n h d) = nrm 0x43000000#32 (fun e : Fin 128 => t (ix4 b n h e)) (fun e => g (ix1 e)) d := by
  refine congrArg₂ (fun x y : EReal => t (ix4 b n h d) * x * y) ?_ ?_
  · refine (broadcastInDim_apply _ _ _ _ (ix4 b n h (0 : Fin 1)) fun a => ?_).trans ?_
    · match a with
      | ⟨0, _⟩ => rfl
      | ⟨1, _⟩ => rfl
      | ⟨2, _⟩ => rfl
      | ⟨3, _⟩ => rfl
    refine congrArg (fun y : EReal => Ideal.rsqrt (Ideal.div y (Ideal.ofBits .f32 0x43000000#32) + Ideal.ofBits .f32 0x358637BD#32)) ?_
    refine (broadcastInDim_apply _ _ _ _ (ix3 b n h) fun a => ?_).trans ?_
    · match a with
      | ⟨0, _⟩ => rfl
      | ⟨1, _⟩ => rfl
      | ⟨2, _⟩ => rfl
    refine (hostReduceAdd_apply _ _ _ _ _).trans ((Ideal.hostReduceAdd_single _ red4 _ _ _).trans ?_)
    rw [constant_apply, Ideal.ofBits_zero_f32, zero_add]
    refine Finset.sum_congr rfl fun e _ => congrArg (mulf t t) (funext fun a => Fin.ext ?_)
    match a with
    | ⟨0, _⟩ => rfl
    | ⟨1, _⟩ => rfl
    | ⟨2, _⟩ => rfl
    | ⟨3, _⟩ => rfl
  · refine (broadcastInDim_apply _ _ _ _ (ix4 (0 : Fin 1) (0 : Fin 1) (0 : Fin 1) d) fun a => ?_).trans ?_
    · match a with
      | ⟨0, _⟩ => rfl
      | ⟨1, _⟩ => rfl
      | ⟨2, _⟩ => rfl
      | ⟨3, _⟩ => rfl
    refine broadcastInDim_apply _ _ _ _ (ix1 d) fun a => ?_
    match a with
    | ⟨0, _⟩ => rfl

/-- The two mixers' rows, gated, side by side. -/
def mix (a1 : FVec Ideal S4x8192x1024 .bf16) (a2 : FVec Ideal S4x8192x8192 .bf16) (a3 : FVec Ideal S4x8192x1024 .bf16)
    (a5 : FVec Ideal S128 .f32) : FVec Ideal S4x8192x2048 .f32 :=
  concatenate S4x8192x2048 2 [⟨S4x8192x1024, (mulf (extf .f32 a1 bitsLt_bf16_f32)
      (act (extf .f32 (extractStridedSlice S4x8192x1024 ![0, 0, 3072] a2 slices_S4x8192x8192_S4x8192x1024_0_0_3072) bitsLt_bf16_f32)))⟩,
    ⟨S4x8192x1024, (mulf (shapeCast _ (normed (shapeCast _ (extf .f32 a3 bitsLt_bf16_f32) shapeCasts_S4x8192x1024_S4x8192x8x128) a5)
        shapeCasts_S4x8192x8x128_S4x8192x1024)
      (act (extf .f32 (extractStridedSlice S4x8192x1024 ![0, 0, 7168] a2 slices_S4x8192x8192_S4x8192x1024_0_0_7168) bitsLt_bf16_f32)))⟩]
    concatenates_S4x8192x1024_S4x8192x1024_S4x8192x2048_d2

variable (a0 : FVec Ideal S4x8192x2048 .f32) (a1 : FVec Ideal S4x8192x1024 .bf16) (a2 : FVec Ideal S4x8192x8192 .bf16)
  (a3 : FVec Ideal S4x8192x1024 .bf16) (a4 : FVec Ideal S4x2048 .f32) (a5 : FVec Ideal S128 .f32)
  (a6 : FVec Ideal S2048x2048 .f32) (a7 : FVec Ideal S2048 .f32)

theorem cols_apply (o : ℕ) (ho : o + 1024 ≤ 8192) (hs : S4x8192x8192.Slices ![0, 0, o] S4x8192x1024) (b : Fin 4) (n : Fin 8192) (k : Fin 1024) :
    extractStridedSlice S4x8192x1024 ![0, 0, o] a2 hs (ix3 b n k) = a2 (ix3 b n ⟨o + k.val, by omega⟩) := by
  refine extractStridedSlice_apply _ a2 _ _ _ fun a => ?_
  match a with
  | ⟨0, _⟩ => show b.val = 0 + b.val; omega
  | ⟨1, _⟩ => show n.val = 0 + n.val; omega
  | ⟨2, _⟩ => rfl

theorem mix_left (b : Fin 4) (n : Fin 8192) (k : Fin 1024) :
    mix a1 a2 a3 a5 (ix3 b n ⟨k.val, by omega⟩) = (a1 (ix3 b n k) : EReal) * sil (a2 (ix3 b n ⟨3072 + k.val, by omega⟩)) := by
  refine (concatenate_pair_apply_left (t := S4x8192x2048) (s₁ := S4x8192x1024) (s₂ := S4x8192x1024) (2 : Fin 3) _ _ _ _ rfl (ix3 b n k) ?_).trans ?_
  · intro a
    match a with
    | ⟨0, _⟩ => rfl
    | ⟨1, _⟩ => rfl
    | ⟨2, _⟩ => rfl
  · refine congrArg (fun y : EReal => (a1 (ix3 b n k) : EReal) * y) ((act_apply _ _).trans (congrArg sil ?_))
    exact cols_apply a2 3072 (by decide) slices_S4x8192x8192_S4x8192x1024_0_0_3072 b n k

theorem mix_right (b : Fin 4) (n : Fin 8192) (k : Fin 1024) :
    mix a1 a2 a3 a5 (ix3 b n ⟨1024 + k.val, by omega⟩)
      = gn (fun k => a3 (ix3 b n k)) (fun e => a5 (ix1 e)) k * sil (a2 (ix3 b n ⟨7168 + k.val, by omega⟩)) := by
  refine (concatenate_pair_apply_right (t := S4x8192x2048) (s₁ := S4x8192x1024) (s₂ := S4x8192x1024) (2 : Fin 3) _ _ _ _ rfl rfl (ix3 b n k) ?_ ?_).trans ?_
  · intro a ha
    match a with
    | ⟨0, _⟩ => rfl
    | ⟨1, _⟩ => rfl
    | ⟨2, _⟩ => exact absurd rfl ha
  · show k.val + 1024 = 1024 + k.val
    omega
  · refine congrArg₂ (fun x y : EReal => x * y) ?_ ((act_apply _ _).trans (congrArg sil (cols_apply a2 7168 (by decide) slices_S4x8192x8192_S4x8192x1024_0_0_7168 b n k)))
    refine (shapeCast_apply (s := S4x8192x8x128) (t := S4x8192x1024) _ _ _
      (ix4 b n (⟨k.val / 128, by omega⟩ : Fin 8) (⟨k.val % 128, Nat.mod_lt _ (by decide)⟩ : Fin 128)) ?_).trans ?_
    · rw [Shape.rowMajor_val_three, Shape.rowMajor_val_four]
      show ((b.val * 8192 + n.val) * 8 + k.val / 128) * 128 + k.val % 128 = (b.val * 8192 + n.val) * 1024 + k.val
      omega
    refine (normed_apply _ a5 b n _ _).trans (congrArg (fun f => nrm 0x43000000#32 f (fun e => a5 (ix1 e)) _) (funext fun e => ?_))
    refine (shapeCast_apply (s := S4x8192x1024) (t := S4x8192x8x128) _ _ _
      (ix3 b n (⟨128 * (k.val / 128) + e.val, by omega⟩ : Fin 1024)) ?_).trans rfl
    rw [Shape.rowMajor_val_three, Shape.rowMajor_val_four]
    show (b.val * 8192 + n.val) * 1024 + (128 * (k.val / 128) + e.val) = ((b.val * 8192 + n.val) * 8 + k.val / 128) * 128 + e.val
    omega

/-- The residual array after the gated projection. -/
def resid : FVec Ideal S4x8192x2048 .f32 :=
  addf a0 (mulf (broadcastInDim S4x8192x2048 ![0, 1, 2] bcast_S4x1x2048_S4x8192x2048_0_1_2
    (broadcastInDim S4x1x2048 ![0, 2] bcast_S4x2048_S4x1x2048_0_2 a4))
    (Host.dotGeneral dot_S4x8192x2048_S2048x2048_S4x8192x2048_2_0_01_1_n_n none (mix a1 a2 a3 a5) a6))

theorem resid_apply (b : Fin 4) (n : Fin 8192) (e : Fin 2048) :
    resid a0 a1 a2 a3 a4 a5 a6 (ix3 b n e)
      = xn (fun e => a0 (ix3 b n e)) (fun e => a4 (ix2 b e)) (fun k => a1 (ix3 b n k))
          (fun k => a2 (ix3 b n ⟨3072 + k.val, by omega⟩)) (fun k => a3 (ix3 b n k)) (fun k => a2 (ix3 b n ⟨7168 + k.val, by omega⟩))
          (fun d => a5 (ix1 d)) (fun k e => a6 (ix2 k e)) e := by
  refine congrArg₂ (fun x y : EReal => a0 (ix3 b n e) + x * y) ?_ ?_
  · refine (broadcastInDim_apply _ _ _ _ (ix3 b (0 : Fin 1) e) fun a => ?_).trans ?_
    · match a with
      | ⟨0, _⟩ => rfl
      | ⟨1, _⟩ => rfl
      | ⟨2, _⟩ => rfl
    refine broadcastInDim_apply _ _ _ _ (ix2 b e) fun a => ?_
    match a with
    | ⟨0, _⟩ => rfl
    | ⟨1, _⟩ => rfl
  · refine (dot_last _ none _ _ b n e).trans ?_
    refine (Fin.sum_univ_add (a := 1024) (b := 1024) fun k : Fin 2048 => (mix a1 a2 a3 a5 (ix3 b n k) : EReal) * a6 (ix2 k e)).trans ?_
    refine congrArg₂ (fun x y : EReal => x + y) (Finset.sum_congr rfl fun k _ => ?_) (Finset.sum_congr rfl fun k _ => ?_)
    · exact congrArg (fun x : EReal => x * a6 (ix2 (⟨k.val, by omega⟩ : Fin 2048) e)) (mix_left a1 a2 a3 a5 b n k)
    · exact congrArg (fun x : EReal => x * a6 (ix2 (⟨1024 + k.val, by omega⟩ : Fin 2048) e)) (mix_right a1 a2 a3 a5 b n k)

/-- The rows over the roots of their mean squares. -/
def final (x : FVec Ideal S4x8192x2048 .f32) (g : FVec Ideal S2048 .f32) : FVec Ideal S4x8192x2048 .f32 :=
  mulf (mulf x (broadcastInDim S4x8192x2048 ![0, 1, 2] bcast_S4x8192x1_S4x8192x2048_0_1_2 (Host.rsqrt (addf (Host.divf
    (broadcastInDim S4x8192x1 ![0, 1] bcast_S4x8192_S4x8192x1_0_1 (Host.reduceAdd (mulf x x) (constant S_ .f32 0x00000000#32)
      reducesTo_S4x8192x2048_S4x8192_d2 h_S_))
    (broadcastInDim S4x8192x1 ![] bcast_S_S4x8192x1 (constant S_ .f32 0x45000000#32)))
    (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 g))

theorem final_apply (x : FVec Ideal S4x8192x2048 .f32) (g : FVec Ideal S2048 .f32) (b : Fin 4) (n : Fin 8192) (d : Fin 2048) :
    final x g (ix3 b n d) = nrm 0x45000000#32 (fun e : Fin 2048 => x (ix3 b n e)) (fun e => g (ix1 e)) d := by
  refine congrArg₂ (fun p q : EReal => x (ix3 b n d) * p * q) ?_ ?_
  · refine (broadcastInDim_apply _ _ _ _ (ix3 b n (0 : Fin 1)) fun a => ?_).trans ?_
    · match a with
      | ⟨0, _⟩ => rfl
      | ⟨1, _⟩ => rfl
      | ⟨2, _⟩ => rfl
    refine congrArg (fun y : EReal => Ideal.rsqrt (Ideal.div y (Ideal.ofBits .f32 0x45000000#32) + Ideal.ofBits .f32 0x358637BD#32)) ?_
    refine (broadcastInDim_apply _ _ _ _ (ix2 b n) fun a => ?_).trans ?_
    · match a with
      | ⟨0, _⟩ => rfl
      | ⟨1, _⟩ => rfl
    refine (hostReduceAdd_apply _ _ _ _ _).trans ((Ideal.hostReduceAdd_single _ red3 _ _ _).trans ?_)
    rw [constant_apply, Ideal.ofBits_zero_f32, zero_add]
    refine Finset.sum_congr rfl fun e _ => congrArg (mulf x x) (funext fun a => Fin.ext ?_)
    match a with
    | ⟨0, _⟩ => rfl
    | ⟨1, _⟩ => rfl
    | ⟨2, _⟩ => rfl
  · refine (broadcastInDim_apply _ _ _ _ (ix3 (0 : Fin 1) (0 : Fin 1) d) fun a => ?_).trans ?_
    · match a with
      | ⟨0, _⟩ => rfl
      | ⟨1, _⟩ => rfl
      | ⟨2, _⟩ => rfl
    refine broadcastInDim_apply _ _ _ _ (ix1 d) fun a => ?_
    match a with
    | ⟨0, _⟩ => rfl

theorem whole_apply (b : Fin 4) (n : Fin 8192) (e : Fin 2048) :
    final (resid a0 a1 a2 a3 a4 a5 a6) a7 (ix3 b n e) = layer a0 a1 a2 a3 a4 a5 a6 a7 b n e := by
  refine (final_apply _ a7 b n e).trans ?_
  exact congrArg (fun f => nrm 0x45000000#32 f (fun e => a7 (ix1 e)) e) (funext fun e => resid_apply a0 a1 a2 a3 a4 a5 a6 b n e)

variable (m : (ℓ : Loc nD τ sig) → Buf (Elt Ideal) ℓ) (c : Dev nD)

theorem res_eq : Value.res_main_v43 m c
    = final (resid (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))) (m ((c.tc : Thread nD τ).loc main_arg7)) := rfl

end Cert.Proof.Out.Ref

end
-- ==== Proof.ProjRef.lean ====
module

public import proofs.«01_k».proof.Proof.ProjVal
public import proofs.«01_k».proof.Proof.OutRef
public import proofs.«01_k».proof.Proof.Gen.Reference3Ideal.Run
public import Idealize.ShloMosaic.Lib.IdealHost

@[expose] public section

set_option maxRecDepth 8192
set_option maxHeartbeats 1000000

noncomputable section

/-! # The third reference's results, index by index -/

namespace Cert.Proof.Proj.Ref

open Cert.Reference3Ideal Cert.Reference3Ideal.Gen
open Idealize.ShloMosaic Idealize.ShloMosaic.TcCoe Idealize.ShloMosaic.ValueIdx Idealize.SL.Sem
open Cert.Proof.Out.Ref (final final_apply dot_last)

attribute [local instance] Cert.Reference3Ideal.Gen.facts

variable (a0 : FVec Ideal S4x8192x2048 .f32) (a1 a2 : FVec Ideal S4x2048 .f32) (a3 : FVec Ideal S2048 .f32)
  (a4 : FVec Ideal S2048x8216 .f32)

/-- The rows over the roots of their mean squares, scaled and shifted. -/
def hid : FVec Ideal S4x8192x2048 .f32 :=
  addf (mulf (final a0 a3) (broadcastInDim S4x8192x2048 ![0, 1, 2] bcast_S4x1x2048_S4x8192x2048_0_1_2
      (addf (broadcastInDim S4x1x2048 ![] bcast_S_S4x1x2048 (constant S_ .f32 0x3F800000#32))
        (broadcastInDim S4x1x2048 ![0, 2] bcast_S4x2048_S4x1x2048_0_2 a2))))
    (broadcastInDim S4x8192x2048 ![0, 1, 2] bcast_S4x1x2048_S4x8192x2048_0_1_2
      (broadcastInDim S4x1x2048 ![0, 2] bcast_S4x2048_S4x1x2048_0_2 a1))

theorem along_apply (a : FVec Ideal S4x2048 .f32) (b : Fin 4) (e : Fin 2048) :
    broadcastInDim S4x1x2048 ![0, 2] bcast_S4x2048_S4x1x2048_0_2 a (ix3 b (0 : Fin 1) e) = a (ix2 b e) := by
  refine broadcastInDim_apply _ _ _ _ (ix2 b e) fun x => ?_
  match x with
  | ⟨0, _⟩ => rfl
  | ⟨1, _⟩ => rfl

theorem over_apply (a : FVec Ideal S4x1x2048 .f32) (b : Fin 4) (n : Fin 8192) (e : Fin 2048) :
    broadcastInDim S4x8192x2048 ![0, 1, 2] bcast_S4x1x2048_S4x8192x2048_0_1_2 a (ix3 b n e) = a (ix3 b (0 : Fin 1) e) := by
  refine broadcastInDim_apply _ _ _ _ (ix3 b (0 : Fin 1) e) fun x => ?_
  match x with
  | ⟨0, _⟩ => rfl
  | ⟨1, _⟩ => rfl
  | ⟨2, _⟩ => rfl

theorem hid_apply (b : Fin 4) (n : Fin 8192) (d : Fin 2048) :
    hid a0 a1 a2 a3 (ix3 b n d) = hrow (fun e => a0 (ix3 b n e)) (fun e => a3 (ix1 e)) (fun e => a2 (ix2 b e)) (fun e => a1 (ix2 b e)) d := by
  refine Eq.trans (b := ((a0 (ix3 b n d) * Out.rn 0x45000000#32 (fun e : Fin 2048 => a0 (ix3 b n e)) * a3 (ix1 d))
      * (Ideal.ofBits .f32 0x3F800000#32 + a2 (ix2 b d)) + a1 (ix2 b d) : EReal)) ?_ ?_
  · refine congrArg₂ (fun p q : EReal => p + q) (congrArg₂ (fun p q : EReal => p * q) (final_apply a0 a3 b n d) ?_) ?_
    · refine (over_apply _ b n d).trans ?_
      exact congrArg (fun y : EReal => Ideal.ofBits .f32 0x3F800000#32 + y) (along_apply a2 b d)
    · exact (over_apply _ b n d).trans (along_apply a1 b d)
  · rw [mul_assoc (a0 (ix3 b n d) * Out.rn 0x45000000#32 (fun e : Fin 2048 => a0 (ix3 b n e)) : EReal)]
    rfl

/-- The projection. -/
def prod : FVec Ideal S4x8192x8216 .f32 :=
  Host.dotGeneral dot_S4x8192x2048_S2048x8216_S4x8192x8216_2_0_01_1_n_n none (hid a0 a1 a2 a3) a4

theorem prod_apply (b : Fin 4) (n : Fin 8192) (j : Fin 8216) :
    prod a0 a1 a2 a3 a4 (ix3 b n j) = ∑ k : Fin 2048, hrow (fun e => a0 (ix3 b n e)) (fun e => a3 (ix1 e)) (fun e => a2 (ix2 b e))
      (fun e => a1 (ix2 b e)) k * a4 (ix2 k j) := by
  refine (dot_last _ none _ _ b n j).trans (Finset.sum_congr rfl fun k _ => ?_)
  exact congrArg (fun y : EReal => y * a4 (ix2 k j)) (hid_apply a0 a1 a2 a3 b n k)

section Lay

variable (p : FVec Ideal S4x8192x8216 .f32)

/-- The wide columns side by side. -/
def wideOf : FVec Ideal S4x8192x8192 .f32 :=
  concatenate S4x8192x8192 2 [⟨S4x8192x4096, extractStridedSlice S4x8192x4096 ![0, 0, 0] p slices_S4x8192x8216_S4x8192x4096_0_0_0⟩,
    ⟨S4x8192x4096, extractStridedSlice S4x8192x4096 ![0, 0, 4104] p slices_S4x8192x8216_S4x8192x4096_0_0_4104⟩]
    concatenates_S4x8192x4096_S4x8192x4096_S4x8192x8192_d2

theorem wideOf_apply (b : Fin 4) (n : Fin 8192) (j : Fin 8192) :
    wideOf p (ix3 b n j) = p (ix3 b n ⟨if j.val < 4096 then j.val else j.val + 8, by split <;> omega⟩) := by
  by_cases hj : j.val < 4096
  · refine (concatenate_pair_apply_left (t := S4x8192x8192) (s₁ := S4x8192x4096) (s₂ := S4x8192x4096) (2 : Fin 3) _ _ _ _ rfl
      (ix3 b n (⟨j.val, hj⟩ : Fin 4096)) ?_).trans ?_
    · intro a
      match a with
      | ⟨0, _⟩ => rfl
      | ⟨1, _⟩ => rfl
      | ⟨2, _⟩ => rfl
    refine extractStridedSlice_apply _ p _ _ _ fun a => ?_
    match a with
    | ⟨0, _⟩ => show b.val = 0 + b.val; omega
    | ⟨1, _⟩ => show n.val = 0 + n.val; omega
    | ⟨2, _⟩ => show (if j.val < 4096 then j.val else j.val + 8) = 0 + j.val; rw [if_pos hj]; omega
  · refine (concatenate_pair_apply_right (t := S4x8192x8192) (s₁ := S4x8192x4096) (s₂ := S4x8192x4096) (2 : Fin 3) _ _ _ _ rfl rfl
      (ix3 b n (⟨j.val - 4096, by omega⟩ : Fin 4096)) ?_ ?_).trans ?_
    · intro a ha
      match a with
      | ⟨0, _⟩ => rfl
      | ⟨1, _⟩ => rfl
      | ⟨2, _⟩ => exact absurd rfl ha
    · show j.val - 4096 + 4096 = j.val
      omega
    refine extractStridedSlice_apply _ p _ _ _ fun a => ?_
    match a with
    | ⟨0, _⟩ => show b.val = 0 + b.val; omega
    | ⟨1, _⟩ => show n.val = 0 + n.val; omega
    | ⟨2, _⟩ => show (if j.val < 4096 then j.val else j.val + 8) = 4104 + (j.val - 4096); rw [if_neg hj]; omega

theorem groups_apply (f : Fin 10 → FVec Ideal S4x8192x8 .f32) (z : FVec Ideal S4x8192x48 .f32) (h) (b : Fin 4) (n : Fin 8192)
    (i : Fin 10) (e : Fin 8) :
    concatenate S4x8192x128 2 [⟨S4x8192x8, f 0⟩, ⟨S4x8192x8, f 1⟩, ⟨S4x8192x8, f 2⟩, ⟨S4x8192x8, f 3⟩, ⟨S4x8192x8, f 4⟩, ⟨S4x8192x8, f 5⟩, ⟨S4x8192x8, f 6⟩, ⟨S4x8192x8, f 7⟩, ⟨S4x8192x8, f 8⟩, ⟨S4x8192x8, f 9⟩, ⟨S4x8192x48, z⟩] h (ix3 b n ⟨8 * i.val + e.val, by omega⟩) = f i (ix3 b n e) := by
  match i with
  | ⟨0, _⟩ =>
    exact concatenate_apply_piece (t := S4x8192x128) (2 : Fin 3) _ h (ix3 b n ⟨8 * 0 + e.val, by omega⟩) 0 (by simp) S4x8192x8 (f 0) rfl rfl 0 rfl (ix3 b n e)
      (fun a ha => by match a with | ⟨0, _⟩ => rfl | ⟨1, _⟩ => rfl | ⟨2, _⟩ => exact absurd rfl ha) rfl
  | ⟨1, _⟩ =>
    exact concatenate_apply_piece (t := S4x8192x128) (2 : Fin 3) _ h (ix3 b n ⟨8 * 1 + e.val, by omega⟩) 1 (by simp) S4x8192x8 (f 1) rfl rfl 8 rfl (ix3 b n e)
      (fun a ha => by match a with | ⟨0, _⟩ => rfl | ⟨1, _⟩ => rfl | ⟨2, _⟩ => exact absurd rfl ha) rfl
  | ⟨2, _⟩ =>
    exact concatenate_apply_piece (t := S4x8192x128) (2 : Fin 3) _ h (ix3 b n ⟨8 * 2 + e.val, by omega⟩) 2 (by simp) S4x8192x8 (f 2) rfl rfl 16 rfl (ix3 b n e)
      (fun a ha => by match a with | ⟨0, _⟩ => rfl | ⟨1, _⟩ => rfl | ⟨2, _⟩ => exact absurd rfl ha) rfl
  | ⟨3, _⟩ =>
    exact concatenate_apply_piece (t := S4x8192x128) (2 : Fin 3) _ h (ix3 b n ⟨8 * 3 + e.val, by omega⟩) 3 (by simp) S4x8192x8 (f 3) rfl rfl 24 rfl (ix3 b n e)
      (fun a ha => by match a with | ⟨0, _⟩ => rfl | ⟨1, _⟩ => rfl | ⟨2, _⟩ => exact absurd rfl ha) rfl
  | ⟨4, _⟩ =>
    exact concatenate_apply_piece (t := S4x8192x128) (2 : Fin 3) _ h (ix3 b n ⟨8 * 4 + e.val, by omega⟩) 4 (by simp) S4x8192x8 (f 4) rfl rfl 32 rfl (ix3 b n e)
      (fun a ha => by match a with | ⟨0, _⟩ => rfl | ⟨1, _⟩ => rfl | ⟨2, _⟩ => exact absurd rfl ha) rfl
  | ⟨5, _⟩ =>
    exact concatenate_apply_piece (t := S4x8192x128) (2 : Fin 3) _ h (ix3 b n ⟨8 * 5 + e.val, by omega⟩) 5 (by simp) S4x8192x8 (f 5) rfl rfl 40 rfl (ix3 b n e)
      (fun a ha => by match a with | ⟨0, _⟩ => rfl | ⟨1, _⟩ => rfl | ⟨2, _⟩ => exact absurd rfl ha) rfl
  | ⟨6, _⟩ =>
    exact concatenate_apply_piece (t := S4x8192x128) (2 : Fin 3) _ h (ix3 b n ⟨8 * 6 + e.val, by omega⟩) 6 (by simp) S4x8192x8 (f 6) rfl rfl 48 rfl (ix3 b n e)
      (fun a ha => by match a with | ⟨0, _⟩ => rfl | ⟨1, _⟩ => rfl | ⟨2, _⟩ => exact absurd rfl ha) rfl
  | ⟨7, _⟩ =>
    exact concatenate_apply_piece (t := S4x8192x128) (2 : Fin 3) _ h (ix3 b n ⟨8 * 7 + e.val, by omega⟩) 7 (by simp) S4x8192x8 (f 7) rfl rfl 56 rfl (ix3 b n e)
      (fun a ha => by match a with | ⟨0, _⟩ => rfl | ⟨1, _⟩ => rfl | ⟨2, _⟩ => exact absurd rfl ha) rfl
  | ⟨8, _⟩ =>
    exact concatenate_apply_piece (t := S4x8192x128) (2 : Fin 3) _ h (ix3 b n ⟨8 * 8 + e.val, by omega⟩) 8 (by simp) S4x8192x8 (f 8) rfl rfl 64 rfl (ix3 b n e)
      (fun a ha => by match a with | ⟨0, _⟩ => rfl | ⟨1, _⟩ => rfl | ⟨2, _⟩ => exact absurd rfl ha) rfl
  | ⟨9, _⟩ =>
    exact concatenate_apply_piece (t := S4x8192x128) (2 : Fin 3) _ h (ix3 b n ⟨8 * 9 + e.val, by omega⟩) 9 (by simp) S4x8192x8 (f 9) rfl rfl 72 rfl (ix3 b n e)
      (fun a ha => by match a with | ⟨0, _⟩ => rfl | ⟨1, _⟩ => rfl | ⟨2, _⟩ => exact absurd rfl ha) rfl

theorem groups_rest (f : Fin 10 → FVec Ideal S4x8192x8 .f32) (z : FVec Ideal S4x8192x48 .f32) (h) (b : Fin 4) (n : Fin 8192) (e : Fin 48) :
    concatenate S4x8192x128 2 [⟨S4x8192x8, f 0⟩, ⟨S4x8192x8, f 1⟩, ⟨S4x8192x8, f 2⟩, ⟨S4x8192x8, f 3⟩, ⟨S4x8192x8, f 4⟩, ⟨S4x8192x8, f 5⟩, ⟨S4x8192x8, f 6⟩, ⟨S4x8192x8, f 7⟩, ⟨S4x8192x8, f 8⟩, ⟨S4x8192x8, f 9⟩, ⟨S4x8192x48, z⟩] h (ix3 b n ⟨80 + e.val, by omega⟩) = z (ix3 b n e) :=
  concatenate_apply_piece (t := S4x8192x128) (2 : Fin 3) _ h (ix3 b n ⟨80 + e.val, by omega⟩) 10 (by simp) S4x8192x48 z rfl rfl 80 rfl (ix3 b n e)
    (fun a ha => by match a with | ⟨0, _⟩ => rfl | ⟨1, _⟩ => rfl | ⟨2, _⟩ => exact absurd rfl ha) rfl

theorem group_slices : ∀ i : Fin 10, S4x8192x8216.Slices ![0, 0, off i] S4x8192x8 := by decide

/-- A group of the product's columns. -/
def group (i : Fin 10) : FVec Ideal S4x8192x8 .f32 := extractStridedSlice S4x8192x8 ![0, 0, off i] p (group_slices i)

theorem group_apply (i : Fin 10) (b : Fin 4) (n : Fin 8192) (e : Fin 8) :
    group p i (ix3 b n e) = p (ix3 b n ⟨off i + e.val, by have := off_le i; omega⟩) := by
  refine extractStridedSlice_apply _ p _ _ _ fun a => ?_
  match a with
  | ⟨0, _⟩ => show b.val = 0 + b.val; omega
  | ⟨1, _⟩ => show n.val = 0 + n.val; omega
  | ⟨2, _⟩ => rfl

/-- The gate columns, then zeros. -/
def gatesOf : FVec Ideal S4x8192x128 .f32 :=
  concatenate S4x8192x128 2 [⟨S4x8192x8, group p 0⟩, ⟨S4x8192x8, group p 1⟩, ⟨S4x8192x8, group p 2⟩, ⟨S4x8192x8, group p 3⟩, ⟨S4x8192x8, group p 4⟩, ⟨S4x8192x8, group p 5⟩, ⟨S4x8192x8, group p 6⟩, ⟨S4x8192x8, group p 7⟩, ⟨S4x8192x8, group p 8⟩, ⟨S4x8192x8, group p 9⟩, ⟨S4x8192x48, broadcastInDim S4x8192x48 ![] bcast_S_S4x8192x48 (constant S_ .f32 0x00000000#32)⟩]
    concatenates_S4x8192x8_S4x8192x8_S4x8192x8_S4x8192x8_S4x8192x8_S4x8192x8_S4x8192x8_S4x8192x8_S4x8192x8_S4x8192x8_S4x8192x48_S4x8192x128_d2

theorem gatesOf_apply (b : Fin 4) (n : Fin 8192) (j : Fin 128) :
    gatesOf p (ix3 b n j) = if hj : j.val < 80 then
      p (ix3 b n ⟨off ⟨j.val / 8, by omega⟩ + j.val % 8, by have := off_le ⟨j.val / 8, by omega⟩; omega⟩) else (0 : EReal) := by
  by_cases hj : j.val < 80
  · rw [dif_pos hj]
    refine Eq.trans (congrArg (fun q : Fin 128 => gatesOf p (ix3 b n q)) (Fin.ext ?_))
      ((groups_apply (group p) _ _ b n ⟨j.val / 8, by omega⟩ ⟨j.val % 8, Nat.mod_lt _ (by decide)⟩).trans (group_apply p _ b n _))
    show j.val = 8 * (j.val / 8) + j.val % 8
    omega
  · rw [dif_neg hj]
    refine Eq.trans (congrArg (fun q : Fin 128 => gatesOf p (ix3 b n q)) (Fin.ext ?_))
      ((groups_rest (group p) _ _ b n ⟨j.val - 80, by omega⟩).trans Ideal.ofBits_zero_f32)
    show j.val = 80 + (j.val - 80)
    omega

end Lay

theorem wide_whole (b : Fin 4) (n : Fin 8192) (j : Fin 8192) :
    wideOf (prod a0 a1 a2 a3 a4) (ix3 b n j) = wideVal (hrow (fun e => a0 (ix3 b n e)) (fun e => a3 (ix1 e)) (fun e => a2 (ix2 b e))
      (fun e => a1 (ix2 b e))) (fun k j => a4 (ix2 k j)) j :=
  (wideOf_apply _ b n j).trans (prod_apply a0 a1 a2 a3 a4 b n _)

theorem gates_whole (b : Fin 4) (n : Fin 8192) (j : Fin 128) :
    gatesOf (prod a0 a1 a2 a3 a4) (ix3 b n j) = gateVal (hrow (fun e => a0 (ix3 b n e)) (fun e => a3 (ix1 e)) (fun e => a2 (ix2 b e))
      (fun e => a1 (ix2 b e))) (fun k j => a4 (ix2 k j)) j := by
  refine (gatesOf_apply _ b n j).trans ?_
  unfold gateVal
  split
  · exact prod_apply a0 a1 a2 a3 a4 b n _
  · rfl

end Cert.Proof.Proj.Ref

end
-- ==== Proof.Step.lean ====
module

public import proofs.«01_k».proof.Proof.Gen.KernelIdeal.Skeleton
public import Idealize.ShloMosaic.Lib.Exec
public import Idealize.ShloMosaic.Lib.Pipeline.FrameBody
public import Idealize.ShloMosaic.Lib.Pipeline.ReadBack
public import Idealize.ShloMosaic.Lib.ValueIdxCore
public import Idealize.ShloMosaic.Lib.ValueIdxCoords
public import Idealize.ShloMosaic.Lib.ViewIndex
public import Idealize.ShloMosaic.Lib.VecWindow

@[expose] public section

set_option maxRecDepth 8192
set_option maxHeartbeats 1000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

/-! ## What one grid point computes, as pure functions of its four blocks -/

/-- One batch's array of one head: 8192 rows of 128 lanes. -/
abbrev Rows (F : FTy → Type) := Vec F S1x8192x128 .bf16

/-- Rows `512 j …` of an array. -/
def blk (X : Rows F) (j : ℕ) : Vec F S1x512x128 .bf16 :=
  fun y => X (ix3 (y 0) ⟨(512 * j + (y 1).val) % 8192, Nat.mod_lt _ (by decide)⟩ (y 2))

/-- Rows `1024 g …` of an array. -/
def qblk (X : Rows F) (g : ℕ) : Vec F S1x1024x128 .bf16 :=
  fun y => X (ix3 (y 0) ⟨(1024 * g + (y 1).val) % 8192, Nat.mod_lt _ (by decide)⟩ (y 2))

/-- The running row maximum, row sum and weighted sum of values. -/
structure St (F : FTy → Type) where
  m : FVec F S1x1024 .f32
  l : FVec F S1x1024 .f32
  acc : FVec F S128x1024 .f32

/-- One online-softmax step over a block of scores and its values. -/
def step (s : St F) (x : Vec F S1x512x1024 .f32) (v : Vec F S1x512x128 .bf16) : St F :=
  ⟨k0_pay24 s.m x, k0_pay27 s.m s.l x, k0_pay28 (k0_pay25 s.m x) (k0_pay26 s.m x) v s.acc⟩

/-- The right half of the weighted sum. -/
def accR (a : FVec F S128x1024 .f32) : Vec F S128x512 .f32 :=
  fun y => a (ix2 (y 0) ⟨512 + (y 1).val, Nat.add_lt_add_left (y 1).isLt 512⟩)

/-- The last step, over the right half of the queries: the row sums after it. -/
def lateL (s : St F) (x : Vec F S1x512x512 .f32) : FVec F S1x1024 .f32 := k0_pay20 s.l (k0_pay223 s.m s.l x)

/-- An accumulator with its right half replaced. -/
def halves (a : FVec F S128x1024 .f32) (w : Vec F S128x512 .f32) : FVec F S128x1024 .f32 :=
  fun y => if h : 512 ≤ (y 1).val then w (ix2 (y 0) ⟨(y 1).val - 512, by have := (y 1).isLt; exact Nat.sub_lt_left_of_lt_add h this⟩)
    else a y

/-- The last step: the weighted sum after it. -/
def lateAcc (s : St F) (x : Vec F S1x512x512 .f32) (v : Vec F S1x512x128 .bf16) : FVec F S128x1024 .f32 :=
  halves s.acc (k0_pay19 (k0_pay224 s.m x v (accR s.acc)))

section
variable (pk : FVec F S1024x128 .bf16) (Q K V X : Rows F)

/-- A pair of query blocks with the gate columns to pick. -/
def qp (g : ℕ) : FVec F S1024x256 .bf16 := k0_pay225 pk (qblk Q g)

/-- The scores of key block `l + j`, masked when it is the first block of the pair itself. -/
def sc (g l j : ℕ) : Vec F S1x512x1024 .f32 :=
  if l + j < 2 * g then k0_pay22 (qp pk Q g) (blk K (l + j)) (blk X (l + j))
  else k0_pay227 pk (qblk Q g) (blk K (2 * g)) (blk X (2 * g))

/-- The scores of the second block of the pair, on the right half of the queries. -/
def lateSc (g : ℕ) : Vec F S1x512x512 .f32 :=
  k0_pay211 (qp pk Q g) (blk K (2 * g + 1)) (blk X (2 * g + 1))

/-- The state after `j` key blocks from `l`. -/
def stAt (g l : ℕ) : ℕ → St F
  | 0 => ⟨k0_pay229, k0_pay230, k0_pay226⟩
  | j + 1 => step (stAt g l j) (sc pk Q K X g l j) (blk V (l + j))

/-- One pair's output rows. -/
def outG (g l : ℕ) : FVec F S1x1024x128 .bf16 :=
  k0_pay21 (lateL (stAt pk Q K V X g l (2 * g - l + 1)) (lateSc pk Q K X g))
    (lateAcc (stAt pk Q K V X g l (2 * g - l + 1)) (lateSc pk Q K X g) (blk V (2 * g + 1)))

/-- A grid point's output: eight pairs, each from the first key block its table names. -/
def outF (lo : ℕ → ℕ) : Rows F :=
  fun y => outG pk Q K V X ((y 1).val / 1024) (lo ((y 1).val / 1024))
    (ix3 (y 0) ⟨(y 1).val % 1024, Nat.mod_lt _ (by decide)⟩ (y 2))

theorem sc_full {g l j : ℕ} (h : l + j < 2 * g) :
    sc pk Q K X g l j = k0_pay22 (qp pk Q g) (blk K (l + j)) (blk X (l + j)) := if_pos h

theorem sc_diag {g l j : ℕ} (h : l + j = 2 * g) :
    sc pk Q K X g l j = k0_pay227 pk (qblk Q g) (blk K (2 * g)) (blk X (2 * g)) := if_neg (by omega)

theorem stAt_succ (g l j : ℕ) :
    stAt pk Q K V X g l (j + 1) = step (stAt pk Q K V X g l j) (sc pk Q K X g l j) (blk V (l + j)) := rfl
end

/-! ## Loads and stores read as those functions -/

section
variable {sig' : RefSig} {κ : Kind} {sp : Space}

theorem idx_rows {n o : ℕ} {off : Fin 3 → ℕ} (inb : ∀ a, off a + (⟨3, ![1, n, 128]⟩ : Shape).size a ≤ S1x8192x128.size a)
    (h : off = ![0, o, 0]) (y : (⟨3, ![1, n, 128]⟩ : Shape).Idx) :
    (Rect.unit (s := S1x8192x128) off (⟨3, ![1, n, 128]⟩ : Shape).size inb).toLoadRect.idx y
      = ix3 (y 0) ⟨(o + (y 1).val) % 8192, Nat.mod_lt _ (by decide)⟩ (y 2) := by
  subst h
  have h1 : o + n ≤ 8192 := inb 1
  have hy : (y 1).val < n := (y 1).isLt
  have hm : (o + (y 1).val) % 8192 = o + (y 1).val := Nat.mod_eq_of_lt (by omega)
  refine Shape.idx3_ext ?_ ?_ ?_
  · show 0 + 1 * (y 0).val = (y 0).val; omega
  · show o + 1 * (y 1).val = (o + (y 1).val) % 8192; omega
  · show 0 + 1 * (y 2).val = (y 2).val; omega

theorem readAt_blk (v : View sig' κ sp S1x8192x128 .bf16) (f : v.ty.Contents (Elt F)) {off : Fin 3 → ℕ} {j : ℕ}
    (inb : ∀ a, off a + S1x512x128.size a ≤ S1x8192x128.size a) (h : off = ![0, 512 * j, 0]) :
    v.readAt (Elt F) (Rect.unit (s := S1x8192x128) off S1x512x128.size inb).toLoadRect f = blk (v.read (Elt F) f) j := by
  funext y
  exact congrArg (v.read (Elt F) f) (idx_rows (n := 512) inb h y)

theorem readAt_qblk (v : View sig' κ sp S1x8192x128 .bf16) (f : v.ty.Contents (Elt F)) {off : Fin 3 → ℕ} {j : ℕ}
    (inb : ∀ a, off a + S1x1024x128.size a ≤ S1x8192x128.size a) (h : off = ![0, 1024 * j, 0]) :
    v.readAt (Elt F) (Rect.unit (s := S1x8192x128) off S1x1024x128.size inb).toLoadRect f = qblk (v.read (Elt F) f) j := by
  funext y
  exact congrArg (v.read (Elt F) f) (idx_rows (n := 1024) inb h y)

/-- The last store's rectangle, read back. -/
theorem readAt_top {s : Shape} {e : EltTy} (v : View sig' κ sp s e) (f : v.ty.Contents (Elt F)) (r : Rect s) (w : r.shape.Idx → Elt F e)
    (L : List (View.Piece (Elt F) s e)) : v.readAt (Elt F) r.toLoadRect (v.writes (Elt F) f (⟨r, w⟩ :: L)) = w :=
  funext fun x => View.read_writes_cons_emb v f r w L x

/-- A slot read over a store into the other slot. -/
theorem slot1_skip (v : View sig' κ sp S2x512x1024 .f32) (inb : ∀ a, (![0, 0, 0] : Fin 3 → ℕ) a + S1x512x1024.size a ≤ S2x512x1024.size a)
    (inb' : ∀ a, (![1, 0, 0] : Fin 3 → ℕ) a + S1x512x1024.size a ≤ S2x512x1024.size a) (w : (Rect.unit (s := S2x512x1024) ![0, 0, 0] S1x512x1024.size inb).shape.Idx → Elt F .f32)
    (L : List (View.Piece (Elt F) S2x512x1024 .f32)) :
    v.readCov (⟨Rect.unit (s := S2x512x1024) ![0, 0, 0] S1x512x1024.size inb, w⟩ :: L) (Rect.unit (s := S2x512x1024) ![1, 0, 0] S1x512x1024.size inb').toLoadRect
      = v.readCov L (Rect.unit (s := S2x512x1024) ![1, 0, 0] S1x512x1024.size inb').toLoadRect :=
  View.readCov_skip v _ w L _ rfl

theorem slot0_skip (v : View sig' κ sp S2x512x1024 .f32) (inb : ∀ a, (![1, 0, 0] : Fin 3 → ℕ) a + S1x512x1024.size a ≤ S2x512x1024.size a)
    (inb' : ∀ a, (![0, 0, 0] : Fin 3 → ℕ) a + S1x512x1024.size a ≤ S2x512x1024.size a) (w : (Rect.unit (s := S2x512x1024) ![1, 0, 0] S1x512x1024.size inb).shape.Idx → Elt F .f32)
    (L : List (View.Piece (Elt F) S2x512x1024 .f32)) :
    v.readCov (⟨Rect.unit (s := S2x512x1024) ![1, 0, 0] S1x512x1024.size inb, w⟩ :: L) (Rect.unit (s := S2x512x1024) ![0, 0, 0] S1x512x1024.size inb').toLoadRect
      = v.readCov L (Rect.unit (s := S2x512x1024) ![0, 0, 0] S1x512x1024.size inb').toLoadRect :=
  View.readCov_skip v _ w L _ rfl

theorem slot1_skip_half (v : View sig' κ sp S2x512x1024 .f32) (inb : ∀ a, (![0, 0, 512] : Fin 3 → ℕ) a + S1x512x512.size a ≤ S2x512x1024.size a)
    (inb' : ∀ a, (![1, 0, 0] : Fin 3 → ℕ) a + S1x512x1024.size a ≤ S2x512x1024.size a) (w : (Rect.unit (s := S2x512x1024) ![0, 0, 512] S1x512x512.size inb).shape.Idx → Elt F .f32)
    (L : List (View.Piece (Elt F) S2x512x1024 .f32)) :
    v.readCov (⟨Rect.unit (s := S2x512x1024) ![0, 0, 512] S1x512x512.size inb, w⟩ :: L) (Rect.unit (s := S2x512x1024) ![1, 0, 0] S1x512x1024.size inb').toLoadRect
      = v.readCov L (Rect.unit (s := S2x512x1024) ![1, 0, 0] S1x512x1024.size inb').toLoadRect :=
  View.readCov_skip v _ w L _ rfl

theorem slot0_skip_half (v : View sig' κ sp S2x512x1024 .f32) (inb : ∀ a, (![1, 0, 512] : Fin 3 → ℕ) a + S1x512x512.size a ≤ S2x512x1024.size a)
    (inb' : ∀ a, (![0, 0, 0] : Fin 3 → ℕ) a + S1x512x1024.size a ≤ S2x512x1024.size a) (w : (Rect.unit (s := S2x512x1024) ![1, 0, 512] S1x512x512.size inb).shape.Idx → Elt F .f32)
    (L : List (View.Piece (Elt F) S2x512x1024 .f32)) :
    v.readCov (⟨Rect.unit (s := S2x512x1024) ![1, 0, 512] S1x512x512.size inb, w⟩ :: L) (Rect.unit (s := S2x512x1024) ![0, 0, 0] S1x512x1024.size inb').toLoadRect
      = v.readCov L (Rect.unit (s := S2x512x1024) ![0, 0, 0] S1x512x1024.size inb').toLoadRect :=
  View.readCov_skip v _ w L _ rfl

theorem readAt_acc (v : View sig' κ sp S128x1024 .f32) (f : v.ty.Contents (Elt F))
    (inb : ∀ a, (![0, 0] : Fin 2 → ℕ) a + S128x1024.size a ≤ S128x1024.size a) :
    v.readAt (Elt F) (Rect.unit (s := S128x1024) ![0, 0] S128x1024.size inb).toLoadRect f = v.read (Elt F) f :=
  View.readAt_full v f inb

theorem read_acc (v : View sig' κ sp S128x1024 .f32) (f : v.ty.Contents (Elt F))
    (inb : ∀ a, (![0, 0] : Fin 2 → ℕ) a + S128x1024.size a ≤ S128x1024.size a) (w : Vec F S128x1024 .f32)
    (L : List (View.Piece (Elt F) S128x1024 .f32)) :
    v.read (Elt F) (v.writes (Elt F) f (⟨Rect.unit (s := S128x1024) ![0, 0] S128x1024.size inb, w⟩ :: L)) = w :=
  View.read_writes_full v f inb w L

theorem readCov_right (v : View sig' κ sp S128x1024 .f32) (inb : ∀ a, (![0, 0] : Fin 2 → ℕ) a + S128x1024.size a ≤ S128x1024.size a)
    (inb' : ∀ a, (![0, 512] : Fin 2 → ℕ) a + S128x512.size a ≤ S128x1024.size a) (A : (Rect.unit (s := S128x1024) ![0, 0] S128x1024.size inb).shape.Idx → Elt F .f32)
    (L : List (View.Piece (Elt F) S128x1024 .f32)) :
    v.readCov (⟨Rect.unit (s := S128x1024) ![0, 0] S128x1024.size inb, A⟩ :: L) (Rect.unit (s := S128x1024) ![0, 512] S128x512.size inb').toLoadRect = accR A := by
  funext y
  refine (congrFun (View.read_writes_full v v.junk inb A L) _).trans (congrArg A (funext fun a => Fin.ext ?_))
  fin_cases a
  · show 0 + 1 * (y 0).val = (y 0).val; omega
  · show 512 + 1 * (y 1).val = 512 + (y 1).val; omega

theorem readCov_halves (v : View sig' κ sp S128x1024 .f32) (inb inb'' : ∀ a, (![0, 0] : Fin 2 → ℕ) a + S128x1024.size a ≤ S128x1024.size a)
    (inb' : ∀ a, (![0, 512] : Fin 2 → ℕ) a + S128x512.size a ≤ S128x1024.size a) (A : (Rect.unit (s := S128x1024) ![0, 0] S128x1024.size inb).shape.Idx → Elt F .f32)
    (w : (Rect.unit (s := S128x1024) ![0, 512] S128x512.size inb').shape.Idx → Elt F .f32)
    (L : List (View.Piece (Elt F) S128x1024 .f32)) :
    v.readCov (⟨Rect.unit (s := S128x1024) ![0, 512] S128x512.size inb', w⟩ :: ⟨Rect.unit (s := S128x1024) ![0, 0] S128x1024.size inb, A⟩ :: L)
      (Rect.unit (s := S128x1024) ![0, 0] S128x1024.size inb'').toLoadRect = halves A w := by
  refine (View.readAt_full v _ inb'').trans ?_
  funext y
  have hy : (y 1).val < 1024 := (y 1).isLt
  unfold halves
  split
  next h =>
    refine View.read_writes_cons_unit_of_mem v v.junk inb' w _ y _ rfl ?_
    intro a
    fin_cases a
    · show (y 0).val = 0 + (y 0).val; omega
    · show (y 1).val = 512 + ((y 1).val - 512); omega
  next h =>
    refine (View.read_writes_cons_unit_of_not_mem v v.junk inb' w _ y rfl 1 (Or.inl ?_)).trans (congrFun (View.read_writes_full v v.junk inb A L) y)
    show (y 1).val < 512
    omega

end

end Cert.Proof.Fox

end
-- ==== Proof.Words.lean ====
module

public import proofs.«01_k».proof.Proof.Gen.KernelIdeal

@[expose] public section

set_option maxRecDepth 8192
set_option maxHeartbeats 4000000

noncomputable section

namespace Cert.Proof.Fox

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The kernel's word arithmetic, decided: `g` is the pair of query blocks, `l ≤ 2 g` the first key block its table names. -/

theorem trips1 : k0_t1_loop.trips = 8 := by decide +kernel

theorem chk1 : ∀ (g : Fin k0_t1_loop.trips) (l : Fin 16), l.val ≤ 2 * g.val → k0_chk1 g (BitVec.ofNat 32 l.val) := by
  intro g l h
  unfold k0_chk1 k0_chk1_0 k0_chk1_1
  and_intros <;> (revert h; revert l; revert g; decide +kernel)

theorem trips2 : ∀ (g : Fin 8) (l : Fin 16), l.val ≤ 2 * g.val →
    (k0_t2_loop g (BitVec.ofNat 32 l.val)).trips = (2 * g.val - l.val - 1) / 4 := by decide +kernel

theorem trips3 : ∀ (g : Fin 8) (l : Fin 16), l.val ≤ 2 * g.val →
    (k0_t3_loop g (BitVec.ofNat 32 l.val)).trips = 0 := by decide +kernel

theorem off5 : ∀ (g : Fin 8) (l : Fin 16), l.val ≤ 2 * g.val → ∀ (k : Fin (k0_t2_loop g (BitVec.ofNat 32 l.val)).trips) (c : Fin 4),
    k0_off5 g (BitVec.ofNat 32 l.val) k (BitVec.ofNat 32 c.val) = ![0, 512 * (l.val + 4 * k.val + c.val + 1), 0] := by decide +kernel

theorem off6 : ∀ (g : Fin 8) (l : Fin 16), l.val ≤ 2 * g.val → ∀ (k : Fin (k0_t2_loop g (BitVec.ofNat 32 l.val)).trips) (c : Fin 4),
    k0_off6 g (BitVec.ofNat 32 l.val) k (BitVec.ofNat 32 c.val) = ![0, 512 * (l.val + 4 * k.val + c.val), 0] := by decide +kernel

theorem off4 : ∀ (l : Fin 16), k0_off4 (BitVec.ofNat 32 l.val) = ![0, 512 * l.val, 0] := by decide +kernel
theorem off1 : ∀ (b : Fin 4) (h : Fin 8) (g : Fin 8) (i : grid0.Coords), (i 0).val = b.val → (i 1).val = h.val →
    k0_off1 i g = ![8 * b.val + h.val, 2 * g.val] := by decide +kernel
theorem off2 : ∀ g : Fin k0_t1_loop.trips, k0_off2 g = ![0, 1024 * g.val, 0] := by decide +kernel
theorem off27 : ∀ g : Fin k0_t1_loop.trips, k0_off27 g = ![0, 1024 * g.val, 0] := by decide +kernel
theorem off3 : ∀ g : Fin k0_t1_loop.trips, k0_off3 g = ![0, 512 * (2 * g.val), 0] := by decide +kernel

theorem off9 : ∀ (g : Fin 8) (c : Fin 5), 1 ≤ c.val → c.val ≤ 2 * g.val →
    k0_off9 g (BitVec.ofNat 32 c.val) = ![0, 512 * (2 * g.val - c.val + 1), 0] := by decide +kernel
theorem off10 : ∀ (g : Fin 8) (c : Fin 5), 1 ≤ c.val → c.val ≤ 2 * g.val →
    k0_off10 g (BitVec.ofNat 32 c.val) = ![0, 512 * (2 * g.val - c.val), 0] := by decide +kernel
theorem off13 : ∀ (g : Fin 8) (c : Fin 4), 1 ≤ c.val → c.val ≤ 2 * g.val →
    k0_off13 g (BitVec.ofNat 32 c.val) = ![0, 512 * (2 * g.val - c.val + 1), 0] := by decide +kernel
theorem off14 : ∀ (g : Fin 8) (c : Fin 4), 1 ≤ c.val → c.val ≤ 2 * g.val →
    k0_off14 g (BitVec.ofNat 32 c.val) = ![0, 512 * (2 * g.val - c.val), 0] := by decide +kernel
theorem off17 : ∀ (g : Fin 8) (c : Fin 3), 1 ≤ c.val → c.val ≤ 2 * g.val →
    k0_off17 g (BitVec.ofNat 32 c.val) = ![0, 512 * (2 * g.val - c.val + 1), 0] := by decide +kernel
theorem off18 : ∀ (g : Fin 8) (c : Fin 3), 1 ≤ c.val → c.val ≤ 2 * g.val →
    k0_off18 g (BitVec.ofNat 32 c.val) = ![0, 512 * (2 * g.val - c.val), 0] := by decide +kernel
theorem off21 : ∀ g : Fin k0_t1_loop.trips, 1 ≤ g.val → k0_off21 g = ![0, 512 * (2 * g.val), 0] := by decide +kernel
theorem off22 : ∀ g : Fin k0_t1_loop.trips, 1 ≤ g.val → k0_off22 g = ![0, 512 * (2 * g.val - 1), 0] := by decide +kernel
theorem off11 : ∀ g : Fin k0_t1_loop.trips, k0_off11 g = ![0, 512 * (2 * g.val + 1), 0] := by decide +kernel
theorem off15 : ∀ g : Fin k0_t1_loop.trips, k0_off15 g = ![0, 512 * (2 * g.val + 1), 0] := by decide +kernel
theorem off19 : ∀ g : Fin k0_t1_loop.trips, k0_off19 g = ![0, 512 * (2 * g.val + 1), 0] := by decide +kernel
theorem off23 : ∀ g : Fin k0_t1_loop.trips, k0_off23 g = ![0, 512 * (2 * g.val + 1), 0] := by decide +kernel
theorem off25 : ∀ g : Fin k0_t1_loop.trips, k0_off25 g = ![0, 512 * (2 * g.val + 1), 0] := by decide +kernel
theorem off12 : ∀ g : Fin k0_t1_loop.trips, k0_off12 g = ![0, 512 * (2 * g.val), 0] := by decide +kernel
theorem off16 : ∀ g : Fin k0_t1_loop.trips, k0_off16 g = ![0, 512 * (2 * g.val), 0] := by decide +kernel
theorem off20 : ∀ g : Fin k0_t1_loop.trips, k0_off20 g = ![0, 512 * (2 * g.val), 0] := by decide +kernel
theorem off24 : ∀ g : Fin k0_t1_loop.trips, k0_off24 g = ![0, 512 * (2 * g.val), 0] := by decide +kernel
theorem off26 : ∀ g : Fin k0_t1_loop.trips, k0_off26 g = ![0, 512 * (2 * g.val), 0] := by decide +kernel

/-- The four conditions of the switch, by the number of interior blocks left after the counted loop. -/
theorem cond2 : ∀ (g : Fin 8) (l : Fin 16), l.val ≤ 2 * g.val →
    (k0_cond2 g (BitVec.ofNat 32 l.val) = 1#1 ↔ l.val < 2 * g.val) := by decide +kernel
theorem cond3 : ∀ (g : Fin 8) (l : Fin 16), l.val ≤ 2 * g.val →
    (k0_cond3 g (BitVec.ofNat 32 l.val) = 1#1 ↔ 1 ≤ (2 * g.val - l.val) - 4 * ((2 * g.val - l.val - 1) / 4)) := by decide +kernel
theorem cond4 : ∀ (g : Fin 8) (l : Fin 16), l.val < 2 * g.val →
    (k0_cond4 g (BitVec.ofNat 32 l.val) = 1#1 ↔ 2 ≤ (2 * g.val - l.val) - 4 * ((2 * g.val - l.val - 1) / 4)) := by decide +kernel
theorem cond5 : ∀ (g : Fin 8) (l : Fin 16), l.val < 2 * g.val →
    2 ≤ (2 * g.val - l.val) - 4 * ((2 * g.val - l.val - 1) / 4) →
    (k0_cond5 g (BitVec.ofNat 32 l.val) = 1#1 ↔ 3 ≤ (2 * g.val - l.val) - 4 * ((2 * g.val - l.val - 1) / 4)) := by decide +kernel
theorem cond6 : ∀ (g : Fin 8) (l : Fin 16), l.val < 2 * g.val →
    3 ≤ (2 * g.val - l.val) - 4 * ((2 * g.val - l.val - 1) / 4) →
    (k0_cond6 g (BitVec.ofNat 32 l.val) = 1#1 ↔ 4 ≤ (2 * g.val - l.val) - 4 * ((2 * g.val - l.val - 1) / 4)) := by decide +kernel

end Cert.Proof.Fox

end
-- ==== Proof.Inner.lean ====
module

public import proofs.«01_k».proof.Proof.Step
public import proofs.«01_k».proof.Proof.Words
public import Idealize.ShloMosaic.Lib.Tactic
public import Idealize.ShloMosaic.Lib.LoopEntry
public import Idealize.ShloMosaic.Lib.Pipeline.Kit
public import Idealize.ShloMosaic.Lib.Pipeline.Launch

@[expose] public section

set_option maxRecDepth 8192
set_option maxHeartbeats 1000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

abbrev UU := UR sig nD τ
local notation "𝕄" => MT nD τ sig Unit (Elt F) ℕ UU ℕ
abbrev 𝒱₀ : Variants := Variants.none

/-- The scores' first slot. -/
abbrev slot0 : Rect S2x512x1024 := Rect.unit ![0, 0, 0] S1x512x1024.size (by decide)

section
variable (c : Dev nD) {arg4 arg5 arg6 : Memref sig .tc .vmem S1x8192x128 .bf16}
  {arg8 : Memref sig .tc .vmem S128x1024 .f32} {arg9 : Memref sig .tc .vmem S2x512x1024 .f32}
  (X4 : arg4.view.ty.Contents (Elt F)) (X5 : arg5.view.ty.Contents (Elt F)) (X6 : arg6.view.ty.Contents (Elt F))
  (f8 : arg8.view.ty.Contents (Elt F)) (f9 : arg9.view.ty.Contents (Elt F))

/-- What a trip of the key loop holds. -/
abbrev TripOwn : sProp 𝕄 :=
  iprop((arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg8.view.loc (c : Thread nD τ) ↦[arg8.view.set]{fullShare} f8)
    ∗ (arg9.view.loc (c : Thread nD τ) ↦[arg9.view.set]{fullShare} f9))

variable (pk : FVec F S1024x128 .bf16) (Q : Rows F) (g l : ℕ)

/-- The state before key block `j`: the accumulator, the block's scores, the carried pair. -/
abbrev Good (j : ℕ) (ml : FVec F S1x1024 .f32 × FVec F S1x1024 .f32) : Prop :=
  arg8.view.read (Elt F) f8 = (stAt pk Q (arg4.view.read (Elt F) X4) (arg5.view.read (Elt F) X5) (arg6.view.read (Elt F) X6) g l j).acc
    ∧ arg9.view.readAt (Elt F) slot0.toLoadRect f9 = sc pk Q (arg4.view.read (Elt F) X4) (arg6.view.read (Elt F) X6) g l j
    ∧ ml = ((stAt pk Q (arg4.view.read (Elt F) X4) (arg5.view.read (Elt F) X5) (arg6.view.read (Elt F) X6) g l j).m,
        (stAt pk Q (arg4.view.read (Elt F) X4) (arg5.view.read (Elt F) X5) (arg6.view.read (Elt F) X6) g l j).l)
end

theorem trip (c : Dev nD) (bd : Option 𝒱₀.V) (E : Set ℕ) (i : grid0.Coords) (arg2 : Memref sig .tc .smem S32x16 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S128x1024 .f32) (harg8 : arg8.IsWhole) (arg9 : Memref sig .tc .vmem S2x512x1024 .f32) (harg9 : arg9.IsWhole)
    (g : Fin k0_t1_loop.trips) (l : Fin 16) (hl : l.val ≤ 2 * g.val) (hw : k0_chk1 g (BitVec.ofNat 32 l.val : Elt F .i32))
    (pk : FVec F S1024x128 .bf16) (Q : Rows F)
    (X4 : arg4.view.ty.Contents (Elt F)) (X5 : arg5.view.ty.Contents (Elt F)) (X6 : arg6.view.ty.Contents (Elt F))
    (f8 : arg8.view.ty.Contents (Elt F)) (f9 : arg9.view.ty.Contents (Elt F))
    (k : Fin (k0_t2_loop g (BitVec.ofNat 32 l.val)).trips) (ml : FVec F S1x1024 .f32 × FVec F S1x1024 .f32)
    (hgood : Good X4 X5 X6 f8 f9 pk Q g.val l.val (4 * k.val) ml) :
    TripOwn c X4 X5 X6 f8 f9
    ⊢ wp frame (wpE (defs₀ (F := F)) 𝒱₀ (c : Thread nD τ) bd) E
        (k0_t2_body i arg2 harg2 arg3 harg3 arg4 harg4 arg5 harg5 arg6 harg6 arg7 harg7 arg8 harg8 arg9 harg9 g (BitVec.ofNat 32 l.val) hw (qp pk Q g.val) k ml)
        (fun yld => iprop(∃ (f8' : arg8.view.ty.Contents (Elt F)) (f9' : arg9.view.ty.Contents (Elt F)), TripOwn c X4 X5 X6 f8' f9' ∗ ⌜Good X4 X5 X6 f8' f9' pk Q g.val l.val (4 * (k.val + 1)) yld⌝)) := by
  obtain ⟨h8, h9, rfl⟩ := hgood
  unfold k0_t2_body
  iintro ⟨H4, H5, H6, H8, H9⟩
  sl_exec
  sl_step
  iexists _
  iexists _
  isplitl [H4 H5 H6 H8 H9]
  · isplitl [H4]; · iexact H4
    isplitl [H5]; · iexact H5
    isplitl [H6]; · iexact H6
    isplitl [H8]; · iexact H8
    iexact H9
  ipureintro
  have hk : 4 * k.val + 4 < 2 * g.val - l.val := by
    have := k.isLt; have h2 := trips2 g l hl; omega
  have q5 : ∀ j : Fin 4, k0_off5 g (BitVec.ofNat 32 l.val) k (BitVec.ofNat 32 j.val) = ![0, 512 * (l.val + (4 * k.val + j.val + 1)), 0] := fun j => (off5 g l hl k j).trans (by congr 3; omega)
  have q6 : ∀ j : Fin 4, k0_off6 g (BitVec.ofNat 32 l.val) k (BitVec.ofNat 32 j.val) = ![0, 512 * (l.val + (4 * k.val + j.val)), 0] := fun j => (off6 g l hl k j).trans (by congr 3; omega)
  have a0 : ∀ inb, arg4.view.readAt (Elt F) (Rect.unit (s := S1x8192x128) (k0_off5 g (BitVec.ofNat 32 l.val) k 0#32) S1x512x128.size inb).toLoadRect X4
      = blk (arg4.view.read (Elt F) X4) (l.val + (4 * k.val + 1)) := fun inb => readAt_blk _ _ inb (q5 0)
  have b0 : ∀ inb, arg6.view.readAt (Elt F) (Rect.unit (s := S1x8192x128) (k0_off5 g (BitVec.ofNat 32 l.val) k 0#32) S1x512x128.size inb).toLoadRect X6
      = blk (arg6.view.read (Elt F) X6) (l.val + (4 * k.val + 1)) := fun inb => readAt_blk _ _ inb (q5 0)
  have c0 : ∀ inb, arg5.view.readAt (Elt F) (Rect.unit (s := S1x8192x128) (k0_off6 g (BitVec.ofNat 32 l.val) k 0#32) S1x512x128.size inb).toLoadRect X5
      = blk (arg5.view.read (Elt F) X5) (l.val + (4 * k.val)) := fun inb => readAt_blk _ _ inb (q6 0)
  have a1 : ∀ inb, arg4.view.readAt (Elt F) (Rect.unit (s := S1x8192x128) (k0_off5 g (BitVec.ofNat 32 l.val) k 1#32) S1x512x128.size inb).toLoadRect X4
      = blk (arg4.view.read (Elt F) X4) (l.val + (4 * k.val + 1 + 1)) := fun inb => readAt_blk _ _ inb (q5 1)
  have b1 : ∀ inb, arg6.view.readAt (Elt F) (Rect.unit (s := S1x8192x128) (k0_off5 g (BitVec.ofNat 32 l.val) k 1#32) S1x512x128.size inb).toLoadRect X6
      = blk (arg6.view.read (Elt F) X6) (l.val + (4 * k.val + 1 + 1)) := fun inb => readAt_blk _ _ inb (q5 1)
  have c1 : ∀ inb, arg5.view.readAt (Elt F) (Rect.unit (s := S1x8192x128) (k0_off6 g (BitVec.ofNat 32 l.val) k 1#32) S1x512x128.size inb).toLoadRect X5
      = blk (arg5.view.read (Elt F) X5) (l.val + (4 * k.val + 1)) := fun inb => readAt_blk _ _ inb (q6 1)
  have a2 : ∀ inb, arg4.view.readAt (Elt F) (Rect.unit (s := S1x8192x128) (k0_off5 g (BitVec.ofNat 32 l.val) k 2#32) S1x512x128.size inb).toLoadRect X4
      = blk (arg4.view.read (Elt F) X4) (l.val + (4 * k.val + 2 + 1)) := fun inb => readAt_blk _ _ inb (q5 2)
  have b2 : ∀ inb, arg6.view.readAt (Elt F) (Rect.unit (s := S1x8192x128) (k0_off5 g (BitVec.ofNat 32 l.val) k 2#32) S1x512x128.size inb).toLoadRect X6
      = blk (arg6.view.read (Elt F) X6) (l.val + (4 * k.val + 2 + 1)) := fun inb => readAt_blk _ _ inb (q5 2)
  have c2 : ∀ inb, arg5.view.readAt (Elt F) (Rect.unit (s := S1x8192x128) (k0_off6 g (BitVec.ofNat 32 l.val) k 2#32) S1x512x128.size inb).toLoadRect X5
      = blk (arg5.view.read (Elt F) X5) (l.val + (4 * k.val + 2)) := fun inb => readAt_blk _ _ inb (q6 2)
  have a3 : ∀ inb, arg4.view.readAt (Elt F) (Rect.unit (s := S1x8192x128) (k0_off5 g (BitVec.ofNat 32 l.val) k 3#32) S1x512x128.size inb).toLoadRect X4
      = blk (arg4.view.read (Elt F) X4) (l.val + (4 * k.val + 3 + 1)) := fun inb => readAt_blk _ _ inb (q5 3)
  have b3 : ∀ inb, arg6.view.readAt (Elt F) (Rect.unit (s := S1x8192x128) (k0_off5 g (BitVec.ofNat 32 l.val) k 3#32) S1x512x128.size inb).toLoadRect X6
      = blk (arg6.view.read (Elt F) X6) (l.val + (4 * k.val + 3 + 1)) := fun inb => readAt_blk _ _ inb (q5 3)
  have c3 : ∀ inb, arg5.view.readAt (Elt F) (Rect.unit (s := S1x8192x128) (k0_off6 g (BitVec.ofNat 32 l.val) k 3#32) S1x512x128.size inb).toLoadRect X5
      = blk (arg5.view.read (Elt F) X5) (l.val + (4 * k.val + 3)) := fun inb => readAt_blk _ _ inb (q6 3)
  have s1 := sc_full pk Q (arg4.view.read (Elt F) X4) (arg6.view.read (Elt F) X6) (g := g.val) (l := l.val) (j := 4 * k.val + 1) (by omega)
  have s2 := sc_full pk Q (arg4.view.read (Elt F) X4) (arg6.view.read (Elt F) X6) (g := g.val) (l := l.val) (j := 4 * k.val + 1 + 1) (by omega)
  have s3 := sc_full pk Q (arg4.view.read (Elt F) X4) (arg6.view.read (Elt F) X6) (g := g.val) (l := l.val) (j := 4 * k.val + 2 + 1) (by omega)
  have s4 := sc_full pk Q (arg4.view.read (Elt F) X4) (arg6.view.read (Elt F) X6) (g := g.val) (l := l.val) (j := 4 * k.val + 3 + 1) (by omega)
  have hst : stAt pk Q (arg4.view.read (Elt F) X4) (arg5.view.read (Elt F) X5) (arg6.view.read (Elt F) X6) g.val l.val (4 * k.val + 3 + 1) = _ :=
    (stAt_succ ..).trans <| congrArg₂ (step · · _) ((stAt_succ ..).trans <| congrArg₂ (step · · _) ((stAt_succ ..).trans <| congrArg₂ (step · · _) (stAt_succ ..) s1) s2) s3
  refine ⟨?_, ?_, ?_⟩
  · rw [show 4 * (k.val + 1) = 4 * k.val + 3 + 1 from rfl]
    repeat (first | delta trip.sl.r | delta trip.sl.r_1 | delta trip.sl.r_2 | delta trip.sl.r_3 | delta trip.sl.r_4 | delta trip.sl.r_5 | delta trip.sl.r_6 | delta trip.sl.r_7 | delta trip.sl.r_8 | delta trip.sl.r_9 | delta trip.sl.r_10 | delta trip.sl.r_11 | delta trip.sl.r_12 | delta trip.sl.r_13 | delta trip.sl.H9_1 | delta trip.sl.H9_2 | delta trip.sl.H9_3 | delta trip.sl.H9_4 | delta trip.sl.H8_1 | delta trip.sl.H8_2 | delta trip.sl.H8_3 | delta trip.sl.v150 | delta trip.sl.v196 | delta trip.sl.v242 | delta trip.sl.v171 | delta trip.sl.v217 | delta trip.sl.v263)
    simp (config := { proj := false }) only [read_acc, readAt_acc, slot0_skip, slot1_skip, View.readCov_cons_toLoadRect,  a0, a1, a2, a3, b0, b1, b2, b3, c0, c1, c2, c3, h8]
    rw [hst]
    dsimp (config := { proj := false }) only [step]
    generalize stAt pk Q (arg4.view.read (Elt F) X4) (arg5.view.read (Elt F) X5) (arg6.view.read (Elt F) X6) g.val l.val (4 * k.val) = s0
    generalize sc pk Q (arg4.view.read (Elt F) X4) (arg6.view.read (Elt F) X6) g.val l.val (4 * k.val) = x0
    generalize qp pk Q g.val = q0
    rfl
  · rw [show 4 * (k.val + 1) = 4 * k.val + 3 + 1 from rfl]
    repeat (first | delta trip.sl.r | delta trip.sl.r_1 | delta trip.sl.r_2 | delta trip.sl.r_3 | delta trip.sl.r_4 | delta trip.sl.r_5 | delta trip.sl.r_6 | delta trip.sl.r_7 | delta trip.sl.r_8 | delta trip.sl.r_9 | delta trip.sl.r_10 | delta trip.sl.r_11 | delta trip.sl.r_12 | delta trip.sl.r_13 | delta trip.sl.H9_1 | delta trip.sl.H9_2 | delta trip.sl.H9_3 | delta trip.sl.H9_4 | delta trip.sl.H8_1 | delta trip.sl.H8_2 | delta trip.sl.H8_3 | delta trip.sl.v150 | delta trip.sl.v196 | delta trip.sl.v242 | delta trip.sl.v171 | delta trip.sl.v217 | delta trip.sl.v263)
    simp (config := { proj := false }) only [readAt_top, s4, a0, a1, a2, a3, b0, b1, b2, b3]
    rfl
  · rw [show 4 * (k.val + 1) = 4 * k.val + 3 + 1 from rfl]
    repeat (first | delta trip.sl.r | delta trip.sl.r_1 | delta trip.sl.r_2 | delta trip.sl.r_3 | delta trip.sl.r_4 | delta trip.sl.r_5 | delta trip.sl.r_6 | delta trip.sl.r_7 | delta trip.sl.r_8 | delta trip.sl.r_9 | delta trip.sl.r_10 | delta trip.sl.r_11 | delta trip.sl.r_12 | delta trip.sl.r_13 | delta trip.sl.H9_1 | delta trip.sl.H9_2 | delta trip.sl.H9_3 | delta trip.sl.H9_4 | delta trip.sl.H8_1 | delta trip.sl.H8_2 | delta trip.sl.H8_3 | delta trip.sl.v150 | delta trip.sl.v196 | delta trip.sl.v242 | delta trip.sl.v171 | delta trip.sl.v217 | delta trip.sl.v263)
    simp (config := { proj := false }) only [readAt_top, s4, slot0_skip, slot1_skip, View.readCov_cons_toLoadRect, a0, a1, a2, a3, b0, b1, b2, b3]
    rw [hst]
    dsimp (config := { proj := false }) only [step]
    generalize stAt pk Q (arg4.view.read (Elt F) X4) (arg5.view.read (Elt F) X5) (arg6.view.read (Elt F) X6) g.val l.val (4 * k.val) = s0
    generalize sc pk Q (arg4.view.read (Elt F) X4) (arg6.view.read (Elt F) X6) g.val l.val (4 * k.val) = x0
    generalize qp pk Q g.val = q0
    rfl

end Cert.Proof.Fox

end
-- ==== Proof.Outer.lean ====
module

public import proofs.«01_k».proof.Proof.Inner

@[expose] public section

set_option maxRecDepth 8192
set_option maxHeartbeats 1000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

local notation "𝕄" => MT nD τ sig Unit (Elt F) ℕ UU ℕ

set_option pp.maxSteps 2500 in
theorem lead (c : Dev nD) (bd : Option 𝒱₀.V) (E : Set ℕ) (i : grid0.Coords) (arg2 : Memref sig .tc .smem S32x16 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S128x1024 .f32) (harg8 : arg8.IsWhole) (arg9 : Memref sig .tc .vmem S2x512x1024 .f32) (harg9 : arg9.IsWhole)
    (g : Fin k0_t1_loop.trips) (l : Fin 16) (hl : l.val ≤ 2 * g.val) (hw : k0_chk1 g (BitVec.ofNat 32 l.val : Elt F .i32))
    (X2 : arg2.view.ty.Contents (Elt F)) (X3 : arg3.view.ty.Contents (Elt F))
    (X4 : arg4.view.ty.Contents (Elt F)) (X5 : arg5.view.ty.Contents (Elt F)) (X6 : arg6.view.ty.Contents (Elt F))
    (f7 : arg7.view.ty.Contents (Elt F)) (f8 : arg8.view.ty.Contents (Elt F)) (f9 : arg9.view.ty.Contents (Elt F)) (hT : ∀ hn, arg2.view.readAt (Elt F) (Rect.unit (s := S32x16) (k0_off1 i g) S1x1.size (k0_off1_inb i g)).toLoadRect X2 (Shape.Idx.first hn) = BitVec.ofNat 32 l.val) :
    iprop((arg2.view.loc (c : Thread nD τ) ↦[arg2.view.set]{fullShare.right} X2) ∗ (arg3.view.loc (c : Thread nD τ) ↦[arg3.view.set]{fullShare} X3)
      ∗ (arg7.view.loc (c : Thread nD τ) ↦[arg7.view.set]{fullShare} f7) ∗ TripOwn c X4 X5 X6 f8 f9)
    ⊢ wp frame (wpE (defs₀ (F := F)) 𝒱₀ (c : Thread nD τ) bd) E
        (k0_t1_body i arg2 harg2 arg3 harg3 arg4 harg4 arg5 harg5 arg6 harg6 arg7 harg7 arg8 harg8 arg9 harg9 (BitVec.ofNat 32 (i 0).val) (BitVec.ofNat 32 (i 1).val) g ⟨⟩)
        (fun _ => iprop(∃ (f8' : arg8.view.ty.Contents (Elt F)) (f9' : arg9.view.ty.Contents (Elt F)) (w : Vec F S1x1024x128 .bf16),
          (arg2.view.loc (c : Thread nD τ) ↦[arg2.view.set]{fullShare.right} X2) ∗ (arg3.view.loc (c : Thread nD τ) ↦[arg3.view.set]{fullShare} X3)
          ∗ (arg7.view.loc (c : Thread nD τ) ↦[arg7.view.set]{fullShare} arg7.view.writes (Elt F) f7 [⟨Rect.unit (s := S1x8192x128) (k0_off27 g) S1x1024x128.size (k0_off27_inb g), w⟩])
          ∗ TripOwn c X4 X5 X6 f8' f9'
          ∗ ⌜w = outG (k0_pay1 i) (arg3.view.read (Elt F) X3) (arg4.view.read (Elt F) X4) (arg5.view.read (Elt F) X5) (arg6.view.read (Elt F) X6) g.val l.val⌝)) := by
  unfold k0_t1_body
  iintro ⟨H2, H3, H7, H4, H5, H6, H8, H9⟩
  sl_exec
  have hr : lead.sl.r i arg2 g X2 = BitVec.ofNat 32 l.val := hT _
  generalize lead.sl.r i arg2 g X2 = w at hr ⊢
  subst hr
  sl_exec
  have hq : lead.sl.r_1 i arg3 g X3 = qp (k0_pay1 i) (arg3.view.read (Elt F) X3) g.val := by
    delta lead.sl.r_1
    rw [readAt_qblk _ _ _ (off2 g)]
    rfl
  generalize lead.sl.r_1 i arg3 g X3 = w at hq ⊢
  subst hq
  sl_for (fun k ml => iprop(∃ (f8 : arg8.view.ty.Contents (Elt F)) (f9 : arg9.view.ty.Contents (Elt F)), TripOwn c X4 X5 X6 f8 f9
    ∗ ⌜Good X4 X5 X6 f8 f9 (k0_pay1 i) (arg3.view.read (Elt F) X3) g.val l.val (4 * k) ml⌝)) $$ [H4 H5 H6 H8 H9]
  · intro k ml
    iintro ⟨%f8, %f9, H, %hg⟩
    iapply (trip c bd E i arg2 harg2 arg3 harg3 arg4 harg4 arg5 harg5 arg6 harg6 arg7 harg7 arg8 harg8 arg9 harg9 g l hl hw (k0_pay1 i) (arg3.view.read (Elt F) X3) X4 X5 X6 f8 f9 k ml hg)
    iexact H
  · iexists _
    iexists _
    isplitl [H4 H5 H6 H8 H9]
    · isplitl [H4]; · iexact H4
      isplitl [H5]; · iexact H5
      isplitl [H6]; · iexact H6
      isplitl [H8]; · iexact H8
      iexact H9
    ipureintro
    refine ⟨?_, ?_, rfl⟩
    · delta lead.sl.H8_1
      exact read_acc ..
    · have hv : ∀ (g : Fin k0_t1_loop.trips) (l : Fin 16), l.val = 2 * g.val → Scalar.cmpi CmpIPredicate.ne (lead.sl.v36 g l) 0#32 = 1#1 := by
        delta lead.sl.v36 lead.sl.v35 lead.sl.v34 lead.sl.v33 lead.sl.arg10
        decide +kernel
      delta lead.sl.v37
      rcases Nat.lt_or_eq_of_le hl with h | h
      · rw [dif_pos ((cond2 g l hl).mpr h), readAt_top, readAt_qblk _ _ _ (off2 g), readAt_blk _ _ _ (off4 l), readAt_blk _ _ _ (off4 l), sc_full _ _ _ _ (by omega)]
        rfl
      · rw [dif_neg (fun h' => by have := (cond2 g l hl).mp h'; omega), dif_pos (hv g l h), readAt_top, readAt_qblk _ _ _ (off2 g), readAt_blk _ _ _ (off3 g), readAt_blk _ _ _ (off3 g), sc_diag _ _ _ _ (by omega)]
  iintro %ml ⟨%f8, %f9, ⟨H4, H5, H6, H8, H9⟩, %hg⟩
  obtain ⟨h8, h9, rfl⟩ := hg
  rw [show Scf.trips (k0_t2_loop g (BitVec.ofNat 32 l.val)).lb (k0_t2_loop g (BitVec.ofNat 32 l.val)).ub (k0_t2_loop g (BitVec.ofNat 32 l.val)).st = _ from trips2 g l hl] at h8 h9 ⊢
  sl_exec
  sl_for0 (trips3 g l hl)
  obtain ⟨n, hn⟩ : ∃ n, n = 4 * ((2 * g.val - l.val - 1) / 4) := ⟨_, rfl⟩
  rw [← hn] at h8 h9 ⊢
  have hKle : (2 * g.val - l.val) - 4 * ((2 * g.val - l.val - 1) / 4) ≤ 4 := by omega
  rcases Nat.lt_or_ge (2 * g.val - l.val - 4 * ((2 * g.val - l.val - 1) / 4)) 1 with hK | hK
  · have c3 : ¬ k0_cond3 g (BitVec.ofNat 32 l.val) = 1#1 := fun h => by have := (cond3 g l hl).mp h; omega
    sl_exec
    sl_step
    iexists _
    iexists _
    iexists _
    isplitl [H2]; · iexact H2
    isplitl [H3]; · iexact H3
    isplitl [H7]; · iexact H7
    isplitl [H4 H5 H6 H8 H9]
    · isplitl [H4]; · iexact H4
      isplitl [H5]; · iexact H5
      isplitl [H6]; · iexact H6
      isplitl [H8]; · iexact H8
      iexact H9
    ipureintro
    repeat (first | delta lead.sl.H8_1 | delta lead.sl.H8_1_1 | delta lead.sl.H8_1_2 | delta lead.sl.H8_1_3 | delta lead.sl.H8_1_4 | delta lead.sl.H8_1_5 | delta lead.sl.H8_2 | delta lead.sl.H8_2_1 | delta lead.sl.H8_2_2 | delta lead.sl.H8_2_3 | delta lead.sl.H8_2_4 | delta lead.sl.H8_3 | delta lead.sl.H8_3_1 | delta lead.sl.H8_3_2 | delta lead.sl.H8_3_3 | delta lead.sl.H8_4 | delta lead.sl.H8_4_1 | delta lead.sl.H8_4_2 | delta lead.sl.H8_5 | delta lead.sl.H8_5_1 | delta lead.sl.H8_6 | delta lead.sl.H9_1 | delta lead.sl.H9_2 | delta lead.sl.H9_2_1 | delta lead.sl.H9_2_2 | delta lead.sl.H9_2_3 | delta lead.sl.H9_3 | delta lead.sl.H9_3_1 | delta lead.sl.H9_3_2 | delta lead.sl.H9_4 | delta lead.sl.H9_4_1 | delta lead.sl.H9_5 | delta lead.sl.arg10 | delta lead.sl.cst_98 | delta lead.sl.r | delta lead.sl.r_1 | delta lead.sl.r_10 | delta lead.sl.r_11 | delta lead.sl.r_12 | delta lead.sl.r_13 | delta lead.sl.r_14 | delta lead.sl.r_15 | delta lead.sl.r_16 | delta lead.sl.r_17 | delta lead.sl.r_18 | delta lead.sl.r_19 | delta lead.sl.r_2 | delta lead.sl.r_20 | delta lead.sl.r_21 | delta lead.sl.r_22 | delta lead.sl.r_23 | delta lead.sl.r_24 | delta lead.sl.r_25 | delta lead.sl.r_26 | delta lead.sl.r_27 | delta lead.sl.r_28 | delta lead.sl.r_29 | delta lead.sl.r_3 | delta lead.sl.r_30 | delta lead.sl.r_31 | delta lead.sl.r_32 | delta lead.sl.r_33 | delta lead.sl.r_34 | delta lead.sl.r_35 | delta lead.sl.r_36 | delta lead.sl.r_37 | delta lead.sl.r_38 | delta lead.sl.r_39 | delta lead.sl.r_4 | delta lead.sl.r_40 | delta lead.sl.r_41 | delta lead.sl.r_42 | delta lead.sl.r_43 | delta lead.sl.r_44 | delta lead.sl.r_45 | delta lead.sl.r_46 | delta lead.sl.r_47 | delta lead.sl.r_48 | delta lead.sl.r_49 | delta lead.sl.r_5 | delta lead.sl.r_50 | delta lead.sl.r_51 | delta lead.sl.r_52 | delta lead.sl.r_53 | delta lead.sl.r_54 | delta lead.sl.r_55 | delta lead.sl.r_56 | delta lead.sl.r_57 | delta lead.sl.r_58 | delta lead.sl.r_59 | delta lead.sl.r_6 | delta lead.sl.r_60 | delta lead.sl.r_61 | delta lead.sl.r_62 | delta lead.sl.r_63 | delta lead.sl.r_64 | delta lead.sl.r_65 | delta lead.sl.r_66 | delta lead.sl.r_67 | delta lead.sl.r_7 | delta lead.sl.r_8 | delta lead.sl.r_9 | delta lead.sl.v124 | delta lead.sl.v136 | delta lead.sl.v137 | delta lead.sl.v139 | delta lead.sl.v139_1 | delta lead.sl.v157 | delta lead.sl.v157_1 | delta lead.sl.v158 | delta lead.sl.v159 | delta lead.sl.v160 | delta lead.sl.v178 | delta lead.sl.v178_1 | delta lead.sl.v180 | delta lead.sl.v181 | delta lead.sl.v185 | delta lead.sl.v185_1 | delta lead.sl.v188 | delta lead.sl.v191 | delta lead.sl.v203 | delta lead.sl.v208 | delta lead.sl.v209 | delta lead.sl.v212 | delta lead.sl.v224 | delta lead.sl.v229 | delta lead.sl.v23 | delta lead.sl.v230 | delta lead.sl.v231 | delta lead.sl.v233 | delta lead.sl.v236 | delta lead.sl.v237 | delta lead.sl.v239 | delta lead.sl.v240 | delta lead.sl.v242 | delta lead.sl.v254 | delta lead.sl.v258 | delta lead.sl.v261 | delta lead.sl.v275 | delta lead.sl.v279 | delta lead.sl.v289 | delta lead.sl.v304 | delta lead.sl.v310 | delta lead.sl.v318 | delta lead.sl.v325 | delta lead.sl.v33 | delta lead.sl.v335 | delta lead.sl.v34 | delta lead.sl.v35 | delta lead.sl.v356 | delta lead.sl.v36 | delta lead.sl.v37 | delta lead.sl.v43 | delta lead.sl.v44 | delta lead.sl.v45 | delta lead.sl.v46 | delta lead.sl.v47 | delta lead.sl.v50 | delta lead.sl.v56 | delta lead.sl.v57 | delta lead.sl.v58 | delta lead.sl.v60 | delta lead.sl.v61 | delta lead.sl.v62 | delta lead.sl.v64 | delta lead.sl.v65 | delta lead.sl.v66 | delta lead.sl.v75 | delta lead.sl.v75_1 | delta lead.sl.v75_2 | delta lead.sl.v75_3 | delta lead.sl.v75_4 | delta lead.sl.v87)
    have o0 : ∀ inb, arg4.view.readAt (Elt F) (Rect.unit (s := S1x8192x128) (k0_off25 g) S1x512x128.size inb).toLoadRect X4
      = blk (arg4.view.read (Elt F) X4) (2 * g.val + 1) := fun inb => readAt_blk _ _ inb ((off25 g).trans (congrArg (fun t : ℕ => (![0, 512 * t, 0] : Fin 3 → ℕ)) (by first | rfl | omega | (simp; omega))))
    have o1 : ∀ inb, arg5.view.readAt (Elt F) (Rect.unit (s := S1x8192x128) (k0_off25 g) S1x512x128.size inb).toLoadRect X5
      = blk (arg5.view.read (Elt F) X5) (2 * g.val + 1) := fun inb => readAt_blk _ _ inb ((off25 g).trans (congrArg (fun t : ℕ => (![0, 512 * t, 0] : Fin 3 → ℕ)) (by first | rfl | omega | (simp; omega))))
    have o2 : ∀ inb, arg6.view.readAt (Elt F) (Rect.unit (s := S1x8192x128) (k0_off25 g) S1x512x128.size inb).toLoadRect X6
      = blk (arg6.view.read (Elt F) X6) (2 * g.val + 1) := fun inb => readAt_blk _ _ inb ((off25 g).trans (congrArg (fun t : ℕ => (![0, 512 * t, 0] : Fin 3 → ℕ)) (by first | rfl | omega | (simp; omega))))
    have o3 : ∀ inb, arg4.view.readAt (Elt F) (Rect.unit (s := S1x8192x128) (k0_off26 g) S1x512x128.size inb).toLoadRect X4
      = blk (arg4.view.read (Elt F) X4) (2 * g.val) := fun inb => readAt_blk _ _ inb ((off26 g).trans (congrArg (fun t : ℕ => (![0, 512 * t, 0] : Fin 3 → ℕ)) (by first | rfl | omega | (simp; omega))))
    have o4 : ∀ inb, arg5.view.readAt (Elt F) (Rect.unit (s := S1x8192x128) (k0_off26 g) S1x512x128.size inb).toLoadRect X5
      = blk (arg5.view.read (Elt F) X5) (l.val + n) := fun inb => readAt_blk _ _ inb ((off26 g).trans (congrArg (fun t : ℕ => (![0, 512 * t, 0] : Fin 3 → ℕ)) (by first | rfl | omega | (simp; omega))))
    have o5 : ∀ inb, arg6.view.readAt (Elt F) (Rect.unit (s := S1x8192x128) (k0_off26 g) S1x512x128.size inb).toLoadRect X6
      = blk (arg6.view.read (Elt F) X6) (2 * g.val) := fun inb => readAt_blk _ _ inb ((off26 g).trans (congrArg (fun t : ℕ => (![0, 512 * t, 0] : Fin 3 → ℕ)) (by first | rfl | omega | (simp; omega))))
    simp (config := { proj := false }) only [readAt_top, read_acc, readAt_acc, slot0_skip, slot1_skip, slot0_skip_half, slot1_skip_half, View.readCov_cons_toLoadRect, readCov_right, readCov_halves, h8, h9, o0, o1, o2, o3, o4, o5]
    generalize arg3.view.read (Elt F) X3 = Q at h8 h9 ⊢
    generalize arg4.view.read (Elt F) X4 = K at h8 h9 ⊢
    generalize arg5.view.read (Elt F) X5 = V at h8 h9 ⊢
    generalize arg6.view.read (Elt F) X6 = X at h8 h9 ⊢
    generalize (k0_pay1 i : FVec F S1024x128 .bf16) = pk at h8 h9 ⊢
    have hs0 : stAt pk Q K V X g.val l.val (n + 1) = (step (stAt pk Q K V X g.val l.val n) (sc pk Q K X g.val l.val n) (blk V (l.val + (n)))) := stAt_succ ..
    have hN : 2 * g.val - l.val + 1 = n + 1 := by omega
    unfold outG lateL lateAcc lateSc
    rw [hN, hs0]
    generalize stAt (F := F) pk Q K V X g.val l.val n = s0
    generalize sc (F := F) pk Q K X g.val l.val n = x0
    dsimp only [step]
    rfl
  have c3 : k0_cond3 g (BitVec.ofNat 32 l.val) = 1#1 := (cond3 g l hl).mpr hK
  have hl' : l.val < 2 * g.val := by omega
  rcases Nat.lt_or_ge (2 * g.val - l.val - 4 * ((2 * g.val - l.val - 1) / 4)) 2 with hK | hK
  · have c4 : ¬ k0_cond4 g (BitVec.ofNat 32 l.val) = 1#1 := fun h => by have := (cond4 g l hl').mp h; omega
    sl_exec
    sl_step
    iexists _
    iexists _
    iexists _
    isplitl [H2]; · iexact H2
    isplitl [H3]; · iexact H3
    isplitl [H7]; · iexact H7
    isplitl [H4 H5 H6 H8 H9]
    · isplitl [H4]; · iexact H4
      isplitl [H5]; · iexact H5
      isplitl [H6]; · iexact H6
      isplitl [H8]; · iexact H8
      iexact H9
    ipureintro
    repeat (first | delta lead.sl.H8_1 | delta lead.sl.H8_1_1 | delta lead.sl.H8_1_2 | delta lead.sl.H8_1_3 | delta lead.sl.H8_1_4 | delta lead.sl.H8_1_5 | delta lead.sl.H8_2 | delta lead.sl.H8_2_1 | delta lead.sl.H8_2_2 | delta lead.sl.H8_2_3 | delta lead.sl.H8_2_4 | delta lead.sl.H8_3 | delta lead.sl.H8_3_1 | delta lead.sl.H8_3_2 | delta lead.sl.H8_3_3 | delta lead.sl.H8_4 | delta lead.sl.H8_4_1 | delta lead.sl.H8_4_2 | delta lead.sl.H8_5 | delta lead.sl.H8_5_1 | delta lead.sl.H8_6 | delta lead.sl.H9_1 | delta lead.sl.H9_2 | delta lead.sl.H9_2_1 | delta lead.sl.H9_2_2 | delta lead.sl.H9_2_3 | delta lead.sl.H9_3 | delta lead.sl.H9_3_1 | delta lead.sl.H9_3_2 | delta lead.sl.H9_4 | delta lead.sl.H9_4_1 | delta lead.sl.H9_5 | delta lead.sl.arg10 | delta lead.sl.cst_98 | delta lead.sl.r | delta lead.sl.r_1 | delta lead.sl.r_10 | delta lead.sl.r_11 | delta lead.sl.r_12 | delta lead.sl.r_13 | delta lead.sl.r_14 | delta lead.sl.r_15 | delta lead.sl.r_16 | delta lead.sl.r_17 | delta lead.sl.r_18 | delta lead.sl.r_19 | delta lead.sl.r_2 | delta lead.sl.r_20 | delta lead.sl.r_21 | delta lead.sl.r_22 | delta lead.sl.r_23 | delta lead.sl.r_24 | delta lead.sl.r_25 | delta lead.sl.r_26 | delta lead.sl.r_27 | delta lead.sl.r_28 | delta lead.sl.r_29 | delta lead.sl.r_3 | delta lead.sl.r_30 | delta lead.sl.r_31 | delta lead.sl.r_32 | delta lead.sl.r_33 | delta lead.sl.r_34 | delta lead.sl.r_35 | delta lead.sl.r_36 | delta lead.sl.r_37 | delta lead.sl.r_38 | delta lead.sl.r_39 | delta lead.sl.r_4 | delta lead.sl.r_40 | delta lead.sl.r_41 | delta lead.sl.r_42 | delta lead.sl.r_43 | delta lead.sl.r_44 | delta lead.sl.r_45 | delta lead.sl.r_46 | delta lead.sl.r_47 | delta lead.sl.r_48 | delta lead.sl.r_49 | delta lead.sl.r_5 | delta lead.sl.r_50 | delta lead.sl.r_51 | delta lead.sl.r_52 | delta lead.sl.r_53 | delta lead.sl.r_54 | delta lead.sl.r_55 | delta lead.sl.r_56 | delta lead.sl.r_57 | delta lead.sl.r_58 | delta lead.sl.r_59 | delta lead.sl.r_6 | delta lead.sl.r_60 | delta lead.sl.r_61 | delta lead.sl.r_62 | delta lead.sl.r_63 | delta lead.sl.r_64 | delta lead.sl.r_65 | delta lead.sl.r_66 | delta lead.sl.r_67 | delta lead.sl.r_7 | delta lead.sl.r_8 | delta lead.sl.r_9 | delta lead.sl.v124 | delta lead.sl.v136 | delta lead.sl.v137 | delta lead.sl.v139 | delta lead.sl.v139_1 | delta lead.sl.v157 | delta lead.sl.v157_1 | delta lead.sl.v158 | delta lead.sl.v159 | delta lead.sl.v160 | delta lead.sl.v178 | delta lead.sl.v178_1 | delta lead.sl.v180 | delta lead.sl.v181 | delta lead.sl.v185 | delta lead.sl.v185_1 | delta lead.sl.v188 | delta lead.sl.v191 | delta lead.sl.v203 | delta lead.sl.v208 | delta lead.sl.v209 | delta lead.sl.v212 | delta lead.sl.v224 | delta lead.sl.v229 | delta lead.sl.v23 | delta lead.sl.v230 | delta lead.sl.v231 | delta lead.sl.v233 | delta lead.sl.v236 | delta lead.sl.v237 | delta lead.sl.v239 | delta lead.sl.v240 | delta lead.sl.v242 | delta lead.sl.v254 | delta lead.sl.v258 | delta lead.sl.v261 | delta lead.sl.v275 | delta lead.sl.v279 | delta lead.sl.v289 | delta lead.sl.v304 | delta lead.sl.v310 | delta lead.sl.v318 | delta lead.sl.v325 | delta lead.sl.v33 | delta lead.sl.v335 | delta lead.sl.v34 | delta lead.sl.v35 | delta lead.sl.v356 | delta lead.sl.v36 | delta lead.sl.v37 | delta lead.sl.v43 | delta lead.sl.v44 | delta lead.sl.v45 | delta lead.sl.v46 | delta lead.sl.v47 | delta lead.sl.v50 | delta lead.sl.v56 | delta lead.sl.v57 | delta lead.sl.v58 | delta lead.sl.v60 | delta lead.sl.v61 | delta lead.sl.v62 | delta lead.sl.v64 | delta lead.sl.v65 | delta lead.sl.v66 | delta lead.sl.v75 | delta lead.sl.v75_1 | delta lead.sl.v75_2 | delta lead.sl.v75_3 | delta lead.sl.v75_4 | delta lead.sl.v87)
    have o0 : ∀ inb, arg4.view.readAt (Elt F) (Rect.unit (s := S1x8192x128) (k0_off23 g) S1x512x128.size inb).toLoadRect X4
      = blk (arg4.view.read (Elt F) X4) (2 * g.val + 1) := fun inb => readAt_blk _ _ inb ((off23 g).trans (congrArg (fun t : ℕ => (![0, 512 * t, 0] : Fin 3 → ℕ)) (by first | rfl | omega | (simp; omega))))
    have o1 : ∀ inb, arg5.view.readAt (Elt F) (Rect.unit (s := S1x8192x128) (k0_off23 g) S1x512x128.size inb).toLoadRect X5
      = blk (arg5.view.read (Elt F) X5) (2 * g.val + 1) := fun inb => readAt_blk _ _ inb ((off23 g).trans (congrArg (fun t : ℕ => (![0, 512 * t, 0] : Fin 3 → ℕ)) (by first | rfl | omega | (simp; omega))))
    have o2 : ∀ inb, arg6.view.readAt (Elt F) (Rect.unit (s := S1x8192x128) (k0_off23 g) S1x512x128.size inb).toLoadRect X6
      = blk (arg6.view.read (Elt F) X6) (2 * g.val + 1) := fun inb => readAt_blk _ _ inb ((off23 g).trans (congrArg (fun t : ℕ => (![0, 512 * t, 0] : Fin 3 → ℕ)) (by first | rfl | omega | (simp; omega))))
    have o3 : ∀ inb, arg4.view.readAt (Elt F) (Rect.unit (s := S1x8192x128) (k0_off24 g) S1x512x128.size inb).toLoadRect X4
      = blk (arg4.view.read (Elt F) X4) (2 * g.val) := fun inb => readAt_blk _ _ inb ((off24 g).trans (congrArg (fun t : ℕ => (![0, 512 * t, 0] : Fin 3 → ℕ)) (by first | rfl | omega | (simp; omega))))
    have o4 : ∀ inb, arg5.view.readAt (Elt F) (Rect.unit (s := S1x8192x128) (k0_off24 g) S1x512x128.size inb).toLoadRect X5
      = blk (arg5.view.read (Elt F) X5) (l.val + (n + 1)) := fun inb => readAt_blk _ _ inb ((off24 g).trans (congrArg (fun t : ℕ => (![0, 512 * t, 0] : Fin 3 → ℕ)) (by first | rfl | omega | (simp; omega))))
    have o5 : ∀ inb, arg6.view.readAt (Elt F) (Rect.unit (s := S1x8192x128) (k0_off24 g) S1x512x128.size inb).toLoadRect X6
      = blk (arg6.view.read (Elt F) X6) (2 * g.val) := fun inb => readAt_blk _ _ inb ((off24 g).trans (congrArg (fun t : ℕ => (![0, 512 * t, 0] : Fin 3 → ℕ)) (by first | rfl | omega | (simp; omega))))
    have o6 : ∀ inb, arg4.view.readAt (Elt F) (Rect.unit (s := S1x8192x128) (k0_off21 g) S1x512x128.size inb).toLoadRect X4
      = blk (arg4.view.read (Elt F) X4) (2 * g.val) := fun inb => readAt_blk _ _ inb ((off21 g (by omega)).trans (congrArg (fun t : ℕ => (![0, 512 * t, 0] : Fin 3 → ℕ)) (by first | rfl | omega | (simp; omega))))
    have o7 : ∀ inb, arg5.view.readAt (Elt F) (Rect.unit (s := S1x8192x128) (k0_off21 g) S1x512x128.size inb).toLoadRect X5
      = blk (arg5.view.read (Elt F) X5) (l.val + (n + 1)) := fun inb => readAt_blk _ _ inb ((off21 g (by omega)).trans (congrArg (fun t : ℕ => (![0, 512 * t, 0] : Fin 3 → ℕ)) (by first | rfl | omega | (simp; omega))))
    have o8 : ∀ inb, arg6.view.readAt (Elt F) (Rect.unit (s := S1x8192x128) (k0_off21 g) S1x512x128.size inb).toLoadRect X6
      = blk (arg6.view.read (Elt F) X6) (2 * g.val) := fun inb => readAt_blk _ _ inb ((off21 g (by omega)).trans (congrArg (fun t : ℕ => (![0, 512 * t, 0] : Fin 3 → ℕ)) (by first | rfl | omega | (simp; omega))))
    have o9 : ∀ inb, arg5.view.readAt (Elt F) (Rect.unit (s := S1x8192x128) (k0_off22 g) S1x512x128.size inb).toLoadRect X5
      = blk (arg5.view.read (Elt F) X5) (l.val + n) := fun inb => readAt_blk _ _ inb ((off22 g (by omega)).trans (congrArg (fun t : ℕ => (![0, 512 * t, 0] : Fin 3 → ℕ)) (by first | rfl | omega | (simp; omega))))
    simp (config := { proj := false }) only [readAt_top, read_acc, readAt_acc, slot0_skip, slot1_skip, slot0_skip_half, slot1_skip_half, View.readCov_cons_toLoadRect, readCov_right, readCov_halves, h8, h9, o0, o1, o2, o3, o4, o5, o6, o7, o8, o9]
    generalize arg3.view.read (Elt F) X3 = Q at h8 h9 ⊢
    generalize arg4.view.read (Elt F) X4 = K at h8 h9 ⊢
    generalize arg5.view.read (Elt F) X5 = V at h8 h9 ⊢
    generalize arg6.view.read (Elt F) X6 = X at h8 h9 ⊢
    generalize (k0_pay1 i : FVec F S1024x128 .bf16) = pk at h8 h9 ⊢
    have hs0 : stAt pk Q K V X g.val l.val (n + 1) = (step (stAt pk Q K V X g.val l.val n) (sc pk Q K X g.val l.val n) (blk V (l.val + (n)))) := stAt_succ ..
    have hs1 : stAt pk Q K V X g.val l.val (n + 2) = (step (step (stAt pk Q K V X g.val l.val n) (sc pk Q K X g.val l.val n) (blk V (l.val + (n)))) (k0_pay227 pk (qblk Q g.val) (blk K (2 * g.val)) (blk X (2 * g.val))) (blk V (l.val + (n + 1)))) :=
      (stAt_succ ..).trans (congrArg₂ (fun s x => step s x (blk V (l.val + (n + 1)))) hs0 (sc_diag pk Q K X (by omega)))
    have hN : 2 * g.val - l.val + 1 = n + 2 := by omega
    unfold outG lateL lateAcc lateSc
    rw [hN, hs1]
    generalize stAt (F := F) pk Q K V X g.val l.val n = s0
    generalize sc (F := F) pk Q K X g.val l.val n = x0
    dsimp only [step]
    rfl
  have c4 : k0_cond4 g (BitVec.ofNat 32 l.val) = 1#1 := (cond4 g l hl').mpr hK
  rcases Nat.lt_or_ge (2 * g.val - l.val - 4 * ((2 * g.val - l.val - 1) / 4)) 3 with hK2 | hK2
  · have c5 : ¬ k0_cond5 g (BitVec.ofNat 32 l.val) = 1#1 := fun h => by have := (cond5 g l hl' hK).mp h; omega
    sl_exec
    sl_step
    iexists _
    iexists _
    iexists _
    isplitl [H2]; · iexact H2
    isplitl [H3]; · iexact H3
    isplitl [H7]; · iexact H7
    isplitl [H4 H5 H6 H8 H9]
    · isplitl [H4]; · iexact H4
      isplitl [H5]; · iexact H5
      isplitl [H6]; · iexact H6
      isplitl [H8]; · iexact H8
      iexact H9
    ipureintro
    repeat (first | delta lead.sl.H8_1 | delta lead.sl.H8_1_1 | delta lead.sl.H8_1_2 | delta lead.sl.H8_1_3 | delta lead.sl.H8_1_4 | delta lead.sl.H8_1_5 | delta lead.sl.H8_2 | delta lead.sl.H8_2_1 | delta lead.sl.H8_2_2 | delta lead.sl.H8_2_3 | delta lead.sl.H8_2_4 | delta lead.sl.H8_3 | delta lead.sl.H8_3_1 | delta lead.sl.H8_3_2 | delta lead.sl.H8_3_3 | delta lead.sl.H8_4 | delta lead.sl.H8_4_1 | delta lead.sl.H8_4_2 | delta lead.sl.H8_5 | delta lead.sl.H8_5_1 | delta lead.sl.H8_6 | delta lead.sl.H9_1 | delta lead.sl.H9_2 | delta lead.sl.H9_2_1 | delta lead.sl.H9_2_2 | delta lead.sl.H9_2_3 | delta lead.sl.H9_3 | delta lead.sl.H9_3_1 | delta lead.sl.H9_3_2 | delta lead.sl.H9_4 | delta lead.sl.H9_4_1 | delta lead.sl.H9_5 | delta lead.sl.arg10 | delta lead.sl.cst_98 | delta lead.sl.r | delta lead.sl.r_1 | delta lead.sl.r_10 | delta lead.sl.r_11 | delta lead.sl.r_12 | delta lead.sl.r_13 | delta lead.sl.r_14 | delta lead.sl.r_15 | delta lead.sl.r_16 | delta lead.sl.r_17 | delta lead.sl.r_18 | delta lead.sl.r_19 | delta lead.sl.r_2 | delta lead.sl.r_20 | delta lead.sl.r_21 | delta lead.sl.r_22 | delta lead.sl.r_23 | delta lead.sl.r_24 | delta lead.sl.r_25 | delta lead.sl.r_26 | delta lead.sl.r_27 | delta lead.sl.r_28 | delta lead.sl.r_29 | delta lead.sl.r_3 | delta lead.sl.r_30 | delta lead.sl.r_31 | delta lead.sl.r_32 | delta lead.sl.r_33 | delta lead.sl.r_34 | delta lead.sl.r_35 | delta lead.sl.r_36 | delta lead.sl.r_37 | delta lead.sl.r_38 | delta lead.sl.r_39 | delta lead.sl.r_4 | delta lead.sl.r_40 | delta lead.sl.r_41 | delta lead.sl.r_42 | delta lead.sl.r_43 | delta lead.sl.r_44 | delta lead.sl.r_45 | delta lead.sl.r_46 | delta lead.sl.r_47 | delta lead.sl.r_48 | delta lead.sl.r_49 | delta lead.sl.r_5 | delta lead.sl.r_50 | delta lead.sl.r_51 | delta lead.sl.r_52 | delta lead.sl.r_53 | delta lead.sl.r_54 | delta lead.sl.r_55 | delta lead.sl.r_56 | delta lead.sl.r_57 | delta lead.sl.r_58 | delta lead.sl.r_59 | delta lead.sl.r_6 | delta lead.sl.r_60 | delta lead.sl.r_61 | delta lead.sl.r_62 | delta lead.sl.r_63 | delta lead.sl.r_64 | delta lead.sl.r_65 | delta lead.sl.r_66 | delta lead.sl.r_67 | delta lead.sl.r_7 | delta lead.sl.r_8 | delta lead.sl.r_9 | delta lead.sl.v124 | delta lead.sl.v136 | delta lead.sl.v137 | delta lead.sl.v139 | delta lead.sl.v139_1 | delta lead.sl.v157 | delta lead.sl.v157_1 | delta lead.sl.v158 | delta lead.sl.v159 | delta lead.sl.v160 | delta lead.sl.v178 | delta lead.sl.v178_1 | delta lead.sl.v180 | delta lead.sl.v181 | delta lead.sl.v185 | delta lead.sl.v185_1 | delta lead.sl.v188 | delta lead.sl.v191 | delta lead.sl.v203 | delta lead.sl.v208 | delta lead.sl.v209 | delta lead.sl.v212 | delta lead.sl.v224 | delta lead.sl.v229 | delta lead.sl.v23 | delta lead.sl.v230 | delta lead.sl.v231 | delta lead.sl.v233 | delta lead.sl.v236 | delta lead.sl.v237 | delta lead.sl.v239 | delta lead.sl.v240 | delta lead.sl.v242 | delta lead.sl.v254 | delta lead.sl.v258 | delta lead.sl.v261 | delta lead.sl.v275 | delta lead.sl.v279 | delta lead.sl.v289 | delta lead.sl.v304 | delta lead.sl.v310 | delta lead.sl.v318 | delta lead.sl.v325 | delta lead.sl.v33 | delta lead.sl.v335 | delta lead.sl.v34 | delta lead.sl.v35 | delta lead.sl.v356 | delta lead.sl.v36 | delta lead.sl.v37 | delta lead.sl.v43 | delta lead.sl.v44 | delta lead.sl.v45 | delta lead.sl.v46 | delta lead.sl.v47 | delta lead.sl.v50 | delta lead.sl.v56 | delta lead.sl.v57 | delta lead.sl.v58 | delta lead.sl.v60 | delta lead.sl.v61 | delta lead.sl.v62 | delta lead.sl.v64 | delta lead.sl.v65 | delta lead.sl.v66 | delta lead.sl.v75 | delta lead.sl.v75_1 | delta lead.sl.v75_2 | delta lead.sl.v75_3 | delta lead.sl.v75_4 | delta lead.sl.v87)
    have o0 : ∀ inb, arg4.view.readAt (Elt F) (Rect.unit (s := S1x8192x128) (k0_off19 g) S1x512x128.size inb).toLoadRect X4
      = blk (arg4.view.read (Elt F) X4) (2 * g.val + 1) := fun inb => readAt_blk _ _ inb ((off19 g).trans (congrArg (fun t : ℕ => (![0, 512 * t, 0] : Fin 3 → ℕ)) (by first | rfl | omega | (simp; omega))))
    have o1 : ∀ inb, arg5.view.readAt (Elt F) (Rect.unit (s := S1x8192x128) (k0_off19 g) S1x512x128.size inb).toLoadRect X5
      = blk (arg5.view.read (Elt F) X5) (2 * g.val + 1) := fun inb => readAt_blk _ _ inb ((off19 g).trans (congrArg (fun t : ℕ => (![0, 512 * t, 0] : Fin 3 → ℕ)) (by first | rfl | omega | (simp; omega))))
    have o2 : ∀ inb, arg6.view.readAt (Elt F) (Rect.unit (s := S1x8192x128) (k0_off19 g) S1x512x128.size inb).toLoadRect X6
      = blk (arg6.view.read (Elt F) X6) (2 * g.val + 1) := fun inb => readAt_blk _ _ inb ((off19 g).trans (congrArg (fun t : ℕ => (![0, 512 * t, 0] : Fin 3 → ℕ)) (by first | rfl | omega | (simp; omega))))
    have o3 : ∀ inb, arg4.view.readAt (Elt F) (Rect.unit (s := S1x8192x128) (k0_off20 g) S1x512x128.size inb).toLoadRect X4
      = blk (arg4.view.read (Elt F) X4) (2 * g.val) := fun inb => readAt_blk _ _ inb ((off20 g).trans (congrArg (fun t : ℕ => (![0, 512 * t, 0] : Fin 3 → ℕ)) (by first | rfl | omega | (simp; omega))))
    have o4 : ∀ inb, arg5.view.readAt (Elt F) (Rect.unit (s := S1x8192x128) (k0_off20 g) S1x512x128.size inb).toLoadRect X5
      = blk (arg5.view.read (Elt F) X5) (l.val + (n + 2)) := fun inb => readAt_blk _ _ inb ((off20 g).trans (congrArg (fun t : ℕ => (![0, 512 * t, 0] : Fin 3 → ℕ)) (by first | rfl | omega | (simp; omega))))
    have o5 : ∀ inb, arg6.view.readAt (Elt F) (Rect.unit (s := S1x8192x128) (k0_off20 g) S1x512x128.size inb).toLoadRect X6
      = blk (arg6.view.read (Elt F) X6) (2 * g.val) := fun inb => readAt_blk _ _ inb ((off20 g).trans (congrArg (fun t : ℕ => (![0, 512 * t, 0] : Fin 3 → ℕ)) (by first | rfl | omega | (simp; omega))))
    have o6 : ∀ inb, arg4.view.readAt (Elt F) (Rect.unit (s := S1x8192x128) (k0_off17 g 2#32) S1x512x128.size inb).toLoadRect X4
      = blk (arg4.view.read (Elt F) X4) (l.val + (n + 1)) := fun inb => readAt_blk _ _ inb ((off17 g 2 (by decide) (by simp; omega)).trans (congrArg (fun t : ℕ => (![0, 512 * t, 0] : Fin 3 → ℕ)) (by first | rfl | omega | (simp; omega))))
    have o7 : ∀ inb, arg6.view.readAt (Elt F) (Rect.unit (s := S1x8192x128) (k0_off17 g 2#32) S1x512x128.size inb).toLoadRect X6
      = blk (arg6.view.read (Elt F) X6) (l.val + (n + 1)) := fun inb => readAt_blk _ _ inb ((off17 g 2 (by decide) (by simp; omega)).trans (congrArg (fun t : ℕ => (![0, 512 * t, 0] : Fin 3 → ℕ)) (by first | rfl | omega | (simp; omega))))
    have o8 : ∀ inb, arg4.view.readAt (Elt F) (Rect.unit (s := S1x8192x128) (k0_off17 g 1#32) S1x512x128.size inb).toLoadRect X4
      = blk (arg4.view.read (Elt F) X4) (2 * g.val) := fun inb => readAt_blk _ _ inb ((off17 g 1 (by decide) (by simp; omega)).trans (congrArg (fun t : ℕ => (![0, 512 * t, 0] : Fin 3 → ℕ)) (by first | rfl | omega | (simp; omega))))
    have o9 : ∀ inb, arg6.view.readAt (Elt F) (Rect.unit (s := S1x8192x128) (k0_off17 g 1#32) S1x512x128.size inb).toLoadRect X6
      = blk (arg6.view.read (Elt F) X6) (2 * g.val) := fun inb => readAt_blk _ _ inb ((off17 g 1 (by decide) (by simp; omega)).trans (congrArg (fun t : ℕ => (![0, 512 * t, 0] : Fin 3 → ℕ)) (by first | rfl | omega | (simp; omega))))
    have o10 : ∀ inb, arg5.view.readAt (Elt F) (Rect.unit (s := S1x8192x128) (k0_off18 g 2#32) S1x512x128.size inb).toLoadRect X5
      = blk (arg5.view.read (Elt F) X5) (l.val + n) := fun inb => readAt_blk _ _ inb ((off18 g 2 (by decide) (by simp; omega)).trans (congrArg (fun t : ℕ => (![0, 512 * t, 0] : Fin 3 → ℕ)) (by first | rfl | omega | (simp; omega))))
    have o11 : ∀ inb, arg5.view.readAt (Elt F) (Rect.unit (s := S1x8192x128) (k0_off18 g 1#32) S1x512x128.size inb).toLoadRect X5
      = blk (arg5.view.read (Elt F) X5) (l.val + (n + 1)) := fun inb => readAt_blk _ _ inb ((off18 g 1 (by decide) (by simp; omega)).trans (congrArg (fun t : ℕ => (![0, 512 * t, 0] : Fin 3 → ℕ)) (by first | rfl | omega | (simp; omega))))
    simp (config := { proj := false }) only [readAt_top, read_acc, readAt_acc, slot0_skip, slot1_skip, slot0_skip_half, slot1_skip_half, View.readCov_cons_toLoadRect, readCov_right, readCov_halves, h8, h9, o0, o1, o2, o3, o4, o5, o6, o7, o8, o9, o10, o11]
    generalize arg3.view.read (Elt F) X3 = Q at h8 h9 ⊢
    generalize arg4.view.read (Elt F) X4 = K at h8 h9 ⊢
    generalize arg5.view.read (Elt F) X5 = V at h8 h9 ⊢
    generalize arg6.view.read (Elt F) X6 = X at h8 h9 ⊢
    generalize (k0_pay1 i : FVec F S1024x128 .bf16) = pk at h8 h9 ⊢
    have hs0 : stAt pk Q K V X g.val l.val (n + 1) = (step (stAt pk Q K V X g.val l.val n) (sc pk Q K X g.val l.val n) (blk V (l.val + (n)))) := stAt_succ ..
    have hs1 : stAt pk Q K V X g.val l.val (n + 2) = (step (step (stAt pk Q K V X g.val l.val n) (sc pk Q K X g.val l.val n) (blk V (l.val + (n)))) (k0_pay22 (qp pk Q g.val) (blk K (l.val + (n + 1))) (blk X (l.val + (n + 1)))) (blk V (l.val + (n + 1)))) :=
      (stAt_succ ..).trans (congrArg₂ (fun s x => step s x (blk V (l.val + (n + 1)))) hs0 (sc_full pk Q K X (by omega)))
    have hs2 : stAt pk Q K V X g.val l.val (n + 3) = (step (step (step (stAt pk Q K V X g.val l.val n) (sc pk Q K X g.val l.val n) (blk V (l.val + (n)))) (k0_pay22 (qp pk Q g.val) (blk K (l.val + (n + 1))) (blk X (l.val + (n + 1)))) (blk V (l.val + (n + 1)))) (k0_pay227 pk (qblk Q g.val) (blk K (2 * g.val)) (blk X (2 * g.val))) (blk V (l.val + (n + 2)))) :=
      (stAt_succ ..).trans (congrArg₂ (fun s x => step s x (blk V (l.val + (n + 2)))) hs1 (sc_diag pk Q K X (by omega)))
    have hN : 2 * g.val - l.val + 1 = n + 3 := by omega
    unfold outG lateL lateAcc lateSc
    rw [hN, hs2]
    generalize stAt (F := F) pk Q K V X g.val l.val n = s0
    generalize sc (F := F) pk Q K X g.val l.val n = x0
    dsimp only [step]
    rfl
  have c5 : k0_cond5 g (BitVec.ofNat 32 l.val) = 1#1 := (cond5 g l hl' hK).mpr hK2
  rcases Nat.lt_or_ge (2 * g.val - l.val - 4 * ((2 * g.val - l.val - 1) / 4)) 4 with hK3 | hK3
  · have c6 : ¬ k0_cond6 g (BitVec.ofNat 32 l.val) = 1#1 := fun h => by have := (cond6 g l hl' hK2).mp h; omega
    sl_exec
    sl_step
    iexists _
    iexists _
    iexists _
    isplitl [H2]; · iexact H2
    isplitl [H3]; · iexact H3
    isplitl [H7]; · iexact H7
    isplitl [H4 H5 H6 H8 H9]
    · isplitl [H4]; · iexact H4
      isplitl [H5]; · iexact H5
      isplitl [H6]; · iexact H6
      isplitl [H8]; · iexact H8
      iexact H9
    ipureintro
    repeat (first | delta lead.sl.H8_1 | delta lead.sl.H8_1_1 | delta lead.sl.H8_1_2 | delta lead.sl.H8_1_3 | delta lead.sl.H8_1_4 | delta lead.sl.H8_1_5 | delta lead.sl.H8_2 | delta lead.sl.H8_2_1 | delta lead.sl.H8_2_2 | delta lead.sl.H8_2_3 | delta lead.sl.H8_2_4 | delta lead.sl.H8_3 | delta lead.sl.H8_3_1 | delta lead.sl.H8_3_2 | delta lead.sl.H8_3_3 | delta lead.sl.H8_4 | delta lead.sl.H8_4_1 | delta lead.sl.H8_4_2 | delta lead.sl.H8_5 | delta lead.sl.H8_5_1 | delta lead.sl.H8_6 | delta lead.sl.H9_1 | delta lead.sl.H9_2 | delta lead.sl.H9_2_1 | delta lead.sl.H9_2_2 | delta lead.sl.H9_2_3 | delta lead.sl.H9_3 | delta lead.sl.H9_3_1 | delta lead.sl.H9_3_2 | delta lead.sl.H9_4 | delta lead.sl.H9_4_1 | delta lead.sl.H9_5 | delta lead.sl.arg10 | delta lead.sl.cst_98 | delta lead.sl.r | delta lead.sl.r_1 | delta lead.sl.r_10 | delta lead.sl.r_11 | delta lead.sl.r_12 | delta lead.sl.r_13 | delta lead.sl.r_14 | delta lead.sl.r_15 | delta lead.sl.r_16 | delta lead.sl.r_17 | delta lead.sl.r_18 | delta lead.sl.r_19 | delta lead.sl.r_2 | delta lead.sl.r_20 | delta lead.sl.r_21 | delta lead.sl.r_22 | delta lead.sl.r_23 | delta lead.sl.r_24 | delta lead.sl.r_25 | delta lead.sl.r_26 | delta lead.sl.r_27 | delta lead.sl.r_28 | delta lead.sl.r_29 | delta lead.sl.r_3 | delta lead.sl.r_30 | delta lead.sl.r_31 | delta lead.sl.r_32 | delta lead.sl.r_33 | delta lead.sl.r_34 | delta lead.sl.r_35 | delta lead.sl.r_36 | delta lead.sl.r_37 | delta lead.sl.r_38 | delta lead.sl.r_39 | delta lead.sl.r_4 | delta lead.sl.r_40 | delta lead.sl.r_41 | delta lead.sl.r_42 | delta lead.sl.r_43 | delta lead.sl.r_44 | delta lead.sl.r_45 | delta lead.sl.r_46 | delta lead.sl.r_47 | delta lead.sl.r_48 | delta lead.sl.r_49 | delta lead.sl.r_5 | delta lead.sl.r_50 | delta lead.sl.r_51 | delta lead.sl.r_52 | delta lead.sl.r_53 | delta lead.sl.r_54 | delta lead.sl.r_55 | delta lead.sl.r_56 | delta lead.sl.r_57 | delta lead.sl.r_58 | delta lead.sl.r_59 | delta lead.sl.r_6 | delta lead.sl.r_60 | delta lead.sl.r_61 | delta lead.sl.r_62 | delta lead.sl.r_63 | delta lead.sl.r_64 | delta lead.sl.r_65 | delta lead.sl.r_66 | delta lead.sl.r_67 | delta lead.sl.r_7 | delta lead.sl.r_8 | delta lead.sl.r_9 | delta lead.sl.v124 | delta lead.sl.v136 | delta lead.sl.v137 | delta lead.sl.v139 | delta lead.sl.v139_1 | delta lead.sl.v157 | delta lead.sl.v157_1 | delta lead.sl.v158 | delta lead.sl.v159 | delta lead.sl.v160 | delta lead.sl.v178 | delta lead.sl.v178_1 | delta lead.sl.v180 | delta lead.sl.v181 | delta lead.sl.v185 | delta lead.sl.v185_1 | delta lead.sl.v188 | delta lead.sl.v191 | delta lead.sl.v203 | delta lead.sl.v208 | delta lead.sl.v209 | delta lead.sl.v212 | delta lead.sl.v224 | delta lead.sl.v229 | delta lead.sl.v23 | delta lead.sl.v230 | delta lead.sl.v231 | delta lead.sl.v233 | delta lead.sl.v236 | delta lead.sl.v237 | delta lead.sl.v239 | delta lead.sl.v240 | delta lead.sl.v242 | delta lead.sl.v254 | delta lead.sl.v258 | delta lead.sl.v261 | delta lead.sl.v275 | delta lead.sl.v279 | delta lead.sl.v289 | delta lead.sl.v304 | delta lead.sl.v310 | delta lead.sl.v318 | delta lead.sl.v325 | delta lead.sl.v33 | delta lead.sl.v335 | delta lead.sl.v34 | delta lead.sl.v35 | delta lead.sl.v356 | delta lead.sl.v36 | delta lead.sl.v37 | delta lead.sl.v43 | delta lead.sl.v44 | delta lead.sl.v45 | delta lead.sl.v46 | delta lead.sl.v47 | delta lead.sl.v50 | delta lead.sl.v56 | delta lead.sl.v57 | delta lead.sl.v58 | delta lead.sl.v60 | delta lead.sl.v61 | delta lead.sl.v62 | delta lead.sl.v64 | delta lead.sl.v65 | delta lead.sl.v66 | delta lead.sl.v75 | delta lead.sl.v75_1 | delta lead.sl.v75_2 | delta lead.sl.v75_3 | delta lead.sl.v75_4 | delta lead.sl.v87)
    have o0 : ∀ inb, arg4.view.readAt (Elt F) (Rect.unit (s := S1x8192x128) (k0_off15 g) S1x512x128.size inb).toLoadRect X4
      = blk (arg4.view.read (Elt F) X4) (2 * g.val + 1) := fun inb => readAt_blk _ _ inb ((off15 g).trans (congrArg (fun t : ℕ => (![0, 512 * t, 0] : Fin 3 → ℕ)) (by first | rfl | omega | (simp; omega))))
    have o1 : ∀ inb, arg5.view.readAt (Elt F) (Rect.unit (s := S1x8192x128) (k0_off15 g) S1x512x128.size inb).toLoadRect X5
      = blk (arg5.view.read (Elt F) X5) (2 * g.val + 1) := fun inb => readAt_blk _ _ inb ((off15 g).trans (congrArg (fun t : ℕ => (![0, 512 * t, 0] : Fin 3 → ℕ)) (by first | rfl | omega | (simp; omega))))
    have o2 : ∀ inb, arg6.view.readAt (Elt F) (Rect.unit (s := S1x8192x128) (k0_off15 g) S1x512x128.size inb).toLoadRect X6
      = blk (arg6.view.read (Elt F) X6) (2 * g.val + 1) := fun inb => readAt_blk _ _ inb ((off15 g).trans (congrArg (fun t : ℕ => (![0, 512 * t, 0] : Fin 3 → ℕ)) (by first | rfl | omega | (simp; omega))))
    have o3 : ∀ inb, arg4.view.readAt (Elt F) (Rect.unit (s := S1x8192x128) (k0_off16 g) S1x512x128.size inb).toLoadRect X4
      = blk (arg4.view.read (Elt F) X4) (2 * g.val) := fun inb => readAt_blk _ _ inb ((off16 g).trans (congrArg (fun t : ℕ => (![0, 512 * t, 0] : Fin 3 → ℕ)) (by first | rfl | omega | (simp; omega))))
    have o4 : ∀ inb, arg5.view.readAt (Elt F) (Rect.unit (s := S1x8192x128) (k0_off16 g) S1x512x128.size inb).toLoadRect X5
      = blk (arg5.view.read (Elt F) X5) (l.val + (n + 3)) := fun inb => readAt_blk _ _ inb ((off16 g).trans (congrArg (fun t : ℕ => (![0, 512 * t, 0] : Fin 3 → ℕ)) (by first | rfl | omega | (simp; omega))))
    have o5 : ∀ inb, arg6.view.readAt (Elt F) (Rect.unit (s := S1x8192x128) (k0_off16 g) S1x512x128.size inb).toLoadRect X6
      = blk (arg6.view.read (Elt F) X6) (2 * g.val) := fun inb => readAt_blk _ _ inb ((off16 g).trans (congrArg (fun t : ℕ => (![0, 512 * t, 0] : Fin 3 → ℕ)) (by first | rfl | omega | (simp; omega))))
    have o6 : ∀ inb, arg4.view.readAt (Elt F) (Rect.unit (s := S1x8192x128) (k0_off13 g 3#32) S1x512x128.size inb).toLoadRect X4
      = blk (arg4.view.read (Elt F) X4) (l.val + (n + 1)) := fun inb => readAt_blk _ _ inb ((off13 g 3 (by decide) (by simp; omega)).trans (congrArg (fun t : ℕ => (![0, 512 * t, 0] : Fin 3 → ℕ)) (by first | rfl | omega | (simp; omega))))
    have o7 : ∀ inb, arg6.view.readAt (Elt F) (Rect.unit (s := S1x8192x128) (k0_off13 g 3#32) S1x512x128.size inb).toLoadRect X6
      = blk (arg6.view.read (Elt F) X6) (l.val + (n + 1)) := fun inb => readAt_blk _ _ inb ((off13 g 3 (by decide) (by simp; omega)).trans (congrArg (fun t : ℕ => (![0, 512 * t, 0] : Fin 3 → ℕ)) (by first | rfl | omega | (simp; omega))))
    have o8 : ∀ inb, arg4.view.readAt (Elt F) (Rect.unit (s := S1x8192x128) (k0_off13 g 2#32) S1x512x128.size inb).toLoadRect X4
      = blk (arg4.view.read (Elt F) X4) (l.val + (n + 2)) := fun inb => readAt_blk _ _ inb ((off13 g 2 (by decide) (by simp; omega)).trans (congrArg (fun t : ℕ => (![0, 512 * t, 0] : Fin 3 → ℕ)) (by first | rfl | omega | (simp; omega))))
    have o9 : ∀ inb, arg6.view.readAt (Elt F) (Rect.unit (s := S1x8192x128) (k0_off13 g 2#32) S1x512x128.size inb).toLoadRect X6
      = blk (arg6.view.read (Elt F) X6) (l.val + (n + 2)) := fun inb => readAt_blk _ _ inb ((off13 g 2 (by decide) (by simp; omega)).trans (congrArg (fun t : ℕ => (![0, 512 * t, 0] : Fin 3 → ℕ)) (by first | rfl | omega | (simp; omega))))
    have o10 : ∀ inb, arg4.view.readAt (Elt F) (Rect.unit (s := S1x8192x128) (k0_off13 g 1#32) S1x512x128.size inb).toLoadRect X4
      = blk (arg4.view.read (Elt F) X4) (2 * g.val) := fun inb => readAt_blk _ _ inb ((off13 g 1 (by decide) (by simp; omega)).trans (congrArg (fun t : ℕ => (![0, 512 * t, 0] : Fin 3 → ℕ)) (by first | rfl | omega | (simp; omega))))
    have o11 : ∀ inb, arg6.view.readAt (Elt F) (Rect.unit (s := S1x8192x128) (k0_off13 g 1#32) S1x512x128.size inb).toLoadRect X6
      = blk (arg6.view.read (Elt F) X6) (2 * g.val) := fun inb => readAt_blk _ _ inb ((off13 g 1 (by decide) (by simp; omega)).trans (congrArg (fun t : ℕ => (![0, 512 * t, 0] : Fin 3 → ℕ)) (by first | rfl | omega | (simp; omega))))
    have o12 : ∀ inb, arg5.view.readAt (Elt F) (Rect.unit (s := S1x8192x128) (k0_off14 g 3#32) S1x512x128.size inb).toLoadRect X5
      = blk (arg5.view.read (Elt F) X5) (l.val + n) := fun inb => readAt_blk _ _ inb ((off14 g 3 (by decide) (by simp; omega)).trans (congrArg (fun t : ℕ => (![0, 512 * t, 0] : Fin 3 → ℕ)) (by first | rfl | omega | (simp; omega))))
    have o13 : ∀ inb, arg5.view.readAt (Elt F) (Rect.unit (s := S1x8192x128) (k0_off14 g 2#32) S1x512x128.size inb).toLoadRect X5
      = blk (arg5.view.read (Elt F) X5) (l.val + (n + 1)) := fun inb => readAt_blk _ _ inb ((off14 g 2 (by decide) (by simp; omega)).trans (congrArg (fun t : ℕ => (![0, 512 * t, 0] : Fin 3 → ℕ)) (by first | rfl | omega | (simp; omega))))
    have o14 : ∀ inb, arg5.view.readAt (Elt F) (Rect.unit (s := S1x8192x128) (k0_off14 g 1#32) S1x512x128.size inb).toLoadRect X5
      = blk (arg5.view.read (Elt F) X5) (l.val + (n + 2)) := fun inb => readAt_blk _ _ inb ((off14 g 1 (by decide) (by simp; omega)).trans (congrArg (fun t : ℕ => (![0, 512 * t, 0] : Fin 3 → ℕ)) (by first | rfl | omega | (simp; omega))))
    simp (config := { proj := false }) only [readAt_top, read_acc, readAt_acc, slot0_skip, slot1_skip, slot0_skip_half, slot1_skip_half, View.readCov_cons_toLoadRect, readCov_right, readCov_halves, h8, h9, o0, o1, o2, o3, o4, o5, o6, o7, o8, o9, o10, o11, o12, o13, o14]
    generalize arg3.view.read (Elt F) X3 = Q at h8 h9 ⊢
    generalize arg4.view.read (Elt F) X4 = K at h8 h9 ⊢
    generalize arg5.view.read (Elt F) X5 = V at h8 h9 ⊢
    generalize arg6.view.read (Elt F) X6 = X at h8 h9 ⊢
    generalize (k0_pay1 i : FVec F S1024x128 .bf16) = pk at h8 h9 ⊢
    have hs0 : stAt pk Q K V X g.val l.val (n + 1) = (step (stAt pk Q K V X g.val l.val n) (sc pk Q K X g.val l.val n) (blk V (l.val + (n)))) := stAt_succ ..
    have hs1 : stAt pk Q K V X g.val l.val (n + 2) = (step (step (stAt pk Q K V X g.val l.val n) (sc pk Q K X g.val l.val n) (blk V (l.val + (n)))) (k0_pay22 (qp pk Q g.val) (blk K (l.val + (n + 1))) (blk X (l.val + (n + 1)))) (blk V (l.val + (n + 1)))) :=
      (stAt_succ ..).trans (congrArg₂ (fun s x => step s x (blk V (l.val + (n + 1)))) hs0 (sc_full pk Q K X (by omega)))
    have hs2 : stAt pk Q K V X g.val l.val (n + 3) = (step (step (step (stAt pk Q K V X g.val l.val n) (sc pk Q K X g.val l.val n) (blk V (l.val + (n)))) (k0_pay22 (qp pk Q g.val) (blk K (l.val + (n + 1))) (blk X (l.val + (n + 1)))) (blk V (l.val + (n + 1)))) (k0_pay22 (qp pk Q g.val) (blk K (l.val + (n + 2))) (blk X (l.val + (n + 2)))) (blk V (l.val + (n + 2)))) :=
      (stAt_succ ..).trans (congrArg₂ (fun s x => step s x (blk V (l.val + (n + 2)))) hs1 (sc_full pk Q K X (by omega)))
    have hs3 : stAt pk Q K V X g.val l.val (n + 4) = (step (step (step (step (stAt pk Q K V X g.val l.val n) (sc pk Q K X g.val l.val n) (blk V (l.val + (n)))) (k0_pay22 (qp pk Q g.val) (blk K (l.val + (n + 1))) (blk X (l.val + (n + 1)))) (blk V (l.val + (n + 1)))) (k0_pay22 (qp pk Q g.val) (blk K (l.val + (n + 2))) (blk X (l.val + (n + 2)))) (blk V (l.val + (n + 2)))) (k0_pay227 pk (qblk Q g.val) (blk K (2 * g.val)) (blk X (2 * g.val))) (blk V (l.val + (n + 3)))) :=
      (stAt_succ ..).trans (congrArg₂ (fun s x => step s x (blk V (l.val + (n + 3)))) hs2 (sc_diag pk Q K X (by omega)))
    have hN : 2 * g.val - l.val + 1 = n + 4 := by omega
    unfold outG lateL lateAcc lateSc
    rw [hN, hs3]
    generalize stAt (F := F) pk Q K V X g.val l.val n = s0
    generalize sc (F := F) pk Q K X g.val l.val n = x0
    dsimp only [step]
    rfl
  have c6 : k0_cond6 g (BitVec.ofNat 32 l.val) = 1#1 := (cond6 g l hl' hK2).mpr hK3
  · skip
    sl_exec
    sl_step
    iexists _
    iexists _
    iexists _
    isplitl [H2]; · iexact H2
    isplitl [H3]; · iexact H3
    isplitl [H7]; · iexact H7
    isplitl [H4 H5 H6 H8 H9]
    · isplitl [H4]; · iexact H4
      isplitl [H5]; · iexact H5
      isplitl [H6]; · iexact H6
      isplitl [H8]; · iexact H8
      iexact H9
    ipureintro
    repeat (first | delta lead.sl.H8_1 | delta lead.sl.H8_1_1 | delta lead.sl.H8_1_2 | delta lead.sl.H8_1_3 | delta lead.sl.H8_1_4 | delta lead.sl.H8_1_5 | delta lead.sl.H8_2 | delta lead.sl.H8_2_1 | delta lead.sl.H8_2_2 | delta lead.sl.H8_2_3 | delta lead.sl.H8_2_4 | delta lead.sl.H8_3 | delta lead.sl.H8_3_1 | delta lead.sl.H8_3_2 | delta lead.sl.H8_3_3 | delta lead.sl.H8_4 | delta lead.sl.H8_4_1 | delta lead.sl.H8_4_2 | delta lead.sl.H8_5 | delta lead.sl.H8_5_1 | delta lead.sl.H8_6 | delta lead.sl.H9_1 | delta lead.sl.H9_2 | delta lead.sl.H9_2_1 | delta lead.sl.H9_2_2 | delta lead.sl.H9_2_3 | delta lead.sl.H9_3 | delta lead.sl.H9_3_1 | delta lead.sl.H9_3_2 | delta lead.sl.H9_4 | delta lead.sl.H9_4_1 | delta lead.sl.H9_5 | delta lead.sl.arg10 | delta lead.sl.cst_98 | delta lead.sl.r | delta lead.sl.r_1 | delta lead.sl.r_10 | delta lead.sl.r_11 | delta lead.sl.r_12 | delta lead.sl.r_13 | delta lead.sl.r_14 | delta lead.sl.r_15 | delta lead.sl.r_16 | delta lead.sl.r_17 | delta lead.sl.r_18 | delta lead.sl.r_19 | delta lead.sl.r_2 | delta lead.sl.r_20 | delta lead.sl.r_21 | delta lead.sl.r_22 | delta lead.sl.r_23 | delta lead.sl.r_24 | delta lead.sl.r_25 | delta lead.sl.r_26 | delta lead.sl.r_27 | delta lead.sl.r_28 | delta lead.sl.r_29 | delta lead.sl.r_3 | delta lead.sl.r_30 | delta lead.sl.r_31 | delta lead.sl.r_32 | delta lead.sl.r_33 | delta lead.sl.r_34 | delta lead.sl.r_35 | delta lead.sl.r_36 | delta lead.sl.r_37 | delta lead.sl.r_38 | delta lead.sl.r_39 | delta lead.sl.r_4 | delta lead.sl.r_40 | delta lead.sl.r_41 | delta lead.sl.r_42 | delta lead.sl.r_43 | delta lead.sl.r_44 | delta lead.sl.r_45 | delta lead.sl.r_46 | delta lead.sl.r_47 | delta lead.sl.r_48 | delta lead.sl.r_49 | delta lead.sl.r_5 | delta lead.sl.r_50 | delta lead.sl.r_51 | delta lead.sl.r_52 | delta lead.sl.r_53 | delta lead.sl.r_54 | delta lead.sl.r_55 | delta lead.sl.r_56 | delta lead.sl.r_57 | delta lead.sl.r_58 | delta lead.sl.r_59 | delta lead.sl.r_6 | delta lead.sl.r_60 | delta lead.sl.r_61 | delta lead.sl.r_62 | delta lead.sl.r_63 | delta lead.sl.r_64 | delta lead.sl.r_65 | delta lead.sl.r_66 | delta lead.sl.r_67 | delta lead.sl.r_7 | delta lead.sl.r_8 | delta lead.sl.r_9 | delta lead.sl.v124 | delta lead.sl.v136 | delta lead.sl.v137 | delta lead.sl.v139 | delta lead.sl.v139_1 | delta lead.sl.v157 | delta lead.sl.v157_1 | delta lead.sl.v158 | delta lead.sl.v159 | delta lead.sl.v160 | delta lead.sl.v178 | delta lead.sl.v178_1 | delta lead.sl.v180 | delta lead.sl.v181 | delta lead.sl.v185 | delta lead.sl.v185_1 | delta lead.sl.v188 | delta lead.sl.v191 | delta lead.sl.v203 | delta lead.sl.v208 | delta lead.sl.v209 | delta lead.sl.v212 | delta lead.sl.v224 | delta lead.sl.v229 | delta lead.sl.v23 | delta lead.sl.v230 | delta lead.sl.v231 | delta lead.sl.v233 | delta lead.sl.v236 | delta lead.sl.v237 | delta lead.sl.v239 | delta lead.sl.v240 | delta lead.sl.v242 | delta lead.sl.v254 | delta lead.sl.v258 | delta lead.sl.v261 | delta lead.sl.v275 | delta lead.sl.v279 | delta lead.sl.v289 | delta lead.sl.v304 | delta lead.sl.v310 | delta lead.sl.v318 | delta lead.sl.v325 | delta lead.sl.v33 | delta lead.sl.v335 | delta lead.sl.v34 | delta lead.sl.v35 | delta lead.sl.v356 | delta lead.sl.v36 | delta lead.sl.v37 | delta lead.sl.v43 | delta lead.sl.v44 | delta lead.sl.v45 | delta lead.sl.v46 | delta lead.sl.v47 | delta lead.sl.v50 | delta lead.sl.v56 | delta lead.sl.v57 | delta lead.sl.v58 | delta lead.sl.v60 | delta lead.sl.v61 | delta lead.sl.v62 | delta lead.sl.v64 | delta lead.sl.v65 | delta lead.sl.v66 | delta lead.sl.v75 | delta lead.sl.v75_1 | delta lead.sl.v75_2 | delta lead.sl.v75_3 | delta lead.sl.v75_4 | delta lead.sl.v87)
    have o0 : ∀ inb, arg4.view.readAt (Elt F) (Rect.unit (s := S1x8192x128) (k0_off11 g) S1x512x128.size inb).toLoadRect X4
      = blk (arg4.view.read (Elt F) X4) (2 * g.val + 1) := fun inb => readAt_blk _ _ inb ((off11 g).trans (congrArg (fun t : ℕ => (![0, 512 * t, 0] : Fin 3 → ℕ)) (by first | rfl | omega | (simp; omega))))
    have o1 : ∀ inb, arg5.view.readAt (Elt F) (Rect.unit (s := S1x8192x128) (k0_off11 g) S1x512x128.size inb).toLoadRect X5
      = blk (arg5.view.read (Elt F) X5) (2 * g.val + 1) := fun inb => readAt_blk _ _ inb ((off11 g).trans (congrArg (fun t : ℕ => (![0, 512 * t, 0] : Fin 3 → ℕ)) (by first | rfl | omega | (simp; omega))))
    have o2 : ∀ inb, arg6.view.readAt (Elt F) (Rect.unit (s := S1x8192x128) (k0_off11 g) S1x512x128.size inb).toLoadRect X6
      = blk (arg6.view.read (Elt F) X6) (2 * g.val + 1) := fun inb => readAt_blk _ _ inb ((off11 g).trans (congrArg (fun t : ℕ => (![0, 512 * t, 0] : Fin 3 → ℕ)) (by first | rfl | omega | (simp; omega))))
    have o3 : ∀ inb, arg4.view.readAt (Elt F) (Rect.unit (s := S1x8192x128) (k0_off12 g) S1x512x128.size inb).toLoadRect X4
      = blk (arg4.view.read (Elt F) X4) (2 * g.val) := fun inb => readAt_blk _ _ inb ((off12 g).trans (congrArg (fun t : ℕ => (![0, 512 * t, 0] : Fin 3 → ℕ)) (by first | rfl | omega | (simp; omega))))
    have o4 : ∀ inb, arg5.view.readAt (Elt F) (Rect.unit (s := S1x8192x128) (k0_off12 g) S1x512x128.size inb).toLoadRect X5
      = blk (arg5.view.read (Elt F) X5) (l.val + (n + 4)) := fun inb => readAt_blk _ _ inb ((off12 g).trans (congrArg (fun t : ℕ => (![0, 512 * t, 0] : Fin 3 → ℕ)) (by first | rfl | omega | (simp; omega))))
    have o5 : ∀ inb, arg6.view.readAt (Elt F) (Rect.unit (s := S1x8192x128) (k0_off12 g) S1x512x128.size inb).toLoadRect X6
      = blk (arg6.view.read (Elt F) X6) (2 * g.val) := fun inb => readAt_blk _ _ inb ((off12 g).trans (congrArg (fun t : ℕ => (![0, 512 * t, 0] : Fin 3 → ℕ)) (by first | rfl | omega | (simp; omega))))
    have o6 : ∀ inb, arg4.view.readAt (Elt F) (Rect.unit (s := S1x8192x128) (k0_off9 g 4#32) S1x512x128.size inb).toLoadRect X4
      = blk (arg4.view.read (Elt F) X4) (l.val + (n + 1)) := fun inb => readAt_blk _ _ inb ((off9 g 4 (by decide) (by simp; omega)).trans (congrArg (fun t : ℕ => (![0, 512 * t, 0] : Fin 3 → ℕ)) (by first | rfl | omega | (simp; omega))))
    have o7 : ∀ inb, arg6.view.readAt (Elt F) (Rect.unit (s := S1x8192x128) (k0_off9 g 4#32) S1x512x128.size inb).toLoadRect X6
      = blk (arg6.view.read (Elt F) X6) (l.val + (n + 1)) := fun inb => readAt_blk _ _ inb ((off9 g 4 (by decide) (by simp; omega)).trans (congrArg (fun t : ℕ => (![0, 512 * t, 0] : Fin 3 → ℕ)) (by first | rfl | omega | (simp; omega))))
    have o8 : ∀ inb, arg4.view.readAt (Elt F) (Rect.unit (s := S1x8192x128) (k0_off9 g 3#32) S1x512x128.size inb).toLoadRect X4
      = blk (arg4.view.read (Elt F) X4) (l.val + (n + 2)) := fun inb => readAt_blk _ _ inb ((off9 g 3 (by decide) (by simp; omega)).trans (congrArg (fun t : ℕ => (![0, 512 * t, 0] : Fin 3 → ℕ)) (by first | rfl | omega | (simp; omega))))
    have o9 : ∀ inb, arg6.view.readAt (Elt F) (Rect.unit (s := S1x8192x128) (k0_off9 g 3#32) S1x512x128.size inb).toLoadRect X6
      = blk (arg6.view.read (Elt F) X6) (l.val + (n + 2)) := fun inb => readAt_blk _ _ inb ((off9 g 3 (by decide) (by simp; omega)).trans (congrArg (fun t : ℕ => (![0, 512 * t, 0] : Fin 3 → ℕ)) (by first | rfl | omega | (simp; omega))))
    have o10 : ∀ inb, arg4.view.readAt (Elt F) (Rect.unit (s := S1x8192x128) (k0_off9 g 2#32) S1x512x128.size inb).toLoadRect X4
      = blk (arg4.view.read (Elt F) X4) (l.val + (n + 3)) := fun inb => readAt_blk _ _ inb ((off9 g 2 (by decide) (by simp; omega)).trans (congrArg (fun t : ℕ => (![0, 512 * t, 0] : Fin 3 → ℕ)) (by first | rfl | omega | (simp; omega))))
    have o11 : ∀ inb, arg6.view.readAt (Elt F) (Rect.unit (s := S1x8192x128) (k0_off9 g 2#32) S1x512x128.size inb).toLoadRect X6
      = blk (arg6.view.read (Elt F) X6) (l.val + (n + 3)) := fun inb => readAt_blk _ _ inb ((off9 g 2 (by decide) (by simp; omega)).trans (congrArg (fun t : ℕ => (![0, 512 * t, 0] : Fin 3 → ℕ)) (by first | rfl | omega | (simp; omega))))
    have o12 : ∀ inb, arg4.view.readAt (Elt F) (Rect.unit (s := S1x8192x128) (k0_off9 g 1#32) S1x512x128.size inb).toLoadRect X4
      = blk (arg4.view.read (Elt F) X4) (2 * g.val) := fun inb => readAt_blk _ _ inb ((off9 g 1 (by decide) (by simp; omega)).trans (congrArg (fun t : ℕ => (![0, 512 * t, 0] : Fin 3 → ℕ)) (by first | rfl | omega | (simp; omega))))
    have o13 : ∀ inb, arg6.view.readAt (Elt F) (Rect.unit (s := S1x8192x128) (k0_off9 g 1#32) S1x512x128.size inb).toLoadRect X6
      = blk (arg6.view.read (Elt F) X6) (2 * g.val) := fun inb => readAt_blk _ _ inb ((off9 g 1 (by decide) (by simp; omega)).trans (congrArg (fun t : ℕ => (![0, 512 * t, 0] : Fin 3 → ℕ)) (by first | rfl | omega | (simp; omega))))
    have o14 : ∀ inb, arg5.view.readAt (Elt F) (Rect.unit (s := S1x8192x128) (k0_off10 g 4#32) S1x512x128.size inb).toLoadRect X5
      = blk (arg5.view.read (Elt F) X5) (l.val + n) := fun inb => readAt_blk _ _ inb ((off10 g 4 (by decide) (by simp; omega)).trans (congrArg (fun t : ℕ => (![0, 512 * t, 0] : Fin 3 → ℕ)) (by first | rfl | omega | (simp; omega))))
    have o15 : ∀ inb, arg5.view.readAt (Elt F) (Rect.unit (s := S1x8192x128) (k0_off10 g 3#32) S1x512x128.size inb).toLoadRect X5
      = blk (arg5.view.read (Elt F) X5) (l.val + (n + 1)) := fun inb => readAt_blk _ _ inb ((off10 g 3 (by decide) (by simp; omega)).trans (congrArg (fun t : ℕ => (![0, 512 * t, 0] : Fin 3 → ℕ)) (by first | rfl | omega | (simp; omega))))
    have o16 : ∀ inb, arg5.view.readAt (Elt F) (Rect.unit (s := S1x8192x128) (k0_off10 g 2#32) S1x512x128.size inb).toLoadRect X5
      = blk (arg5.view.read (Elt F) X5) (l.val + (n + 2)) := fun inb => readAt_blk _ _ inb ((off10 g 2 (by decide) (by simp; omega)).trans (congrArg (fun t : ℕ => (![0, 512 * t, 0] : Fin 3 → ℕ)) (by first | rfl | omega | (simp; omega))))
    have o17 : ∀ inb, arg5.view.readAt (Elt F) (Rect.unit (s := S1x8192x128) (k0_off10 g 1#32) S1x512x128.size inb).toLoadRect X5
      = blk (arg5.view.read (Elt F) X5) (l.val + (n + 3)) := fun inb => readAt_blk _ _ inb ((off10 g 1 (by decide) (by simp; omega)).trans (congrArg (fun t : ℕ => (![0, 512 * t, 0] : Fin 3 → ℕ)) (by first | rfl | omega | (simp; omega))))
    simp (config := { proj := false }) only [readAt_top, read_acc, readAt_acc, slot0_skip, slot1_skip, slot0_skip_half, slot1_skip_half, View.readCov_cons_toLoadRect, readCov_right, readCov_halves, h8, h9, o0, o1, o2, o3, o4, o5, o6, o7, o8, o9, o10, o11, o12, o13, o14, o15, o16, o17]
    generalize arg3.view.read (Elt F) X3 = Q at h8 h9 ⊢
    generalize arg4.view.read (Elt F) X4 = K at h8 h9 ⊢
    generalize arg5.view.read (Elt F) X5 = V at h8 h9 ⊢
    generalize arg6.view.read (Elt F) X6 = X at h8 h9 ⊢
    generalize (k0_pay1 i : FVec F S1024x128 .bf16) = pk at h8 h9 ⊢
    have hs0 : stAt pk Q K V X g.val l.val (n + 1) = (step (stAt pk Q K V X g.val l.val n) (sc pk Q K X g.val l.val n) (blk V (l.val + (n)))) := stAt_succ ..
    have hs1 : stAt pk Q K V X g.val l.val (n + 2) = (step (step (stAt pk Q K V X g.val l.val n) (sc pk Q K X g.val l.val n) (blk V (l.val + (n)))) (k0_pay22 (qp pk Q g.val) (blk K (l.val + (n + 1))) (blk X (l.val + (n + 1)))) (blk V (l.val + (n + 1)))) :=
      (stAt_succ ..).trans (congrArg₂ (fun s x => step s x (blk V (l.val + (n + 1)))) hs0 (sc_full pk Q K X (by omega)))
    have hs2 : stAt pk Q K V X g.val l.val (n + 3) = (step (step (step (stAt pk Q K V X g.val l.val n) (sc pk Q K X g.val l.val n) (blk V (l.val + (n)))) (k0_pay22 (qp pk Q g.val) (blk K (l.val + (n + 1))) (blk X (l.val + (n + 1)))) (blk V (l.val + (n + 1)))) (k0_pay22 (qp pk Q g.val) (blk K (l.val + (n + 2))) (blk X (l.val + (n + 2)))) (blk V (l.val + (n + 2)))) :=
      (stAt_succ ..).trans (congrArg₂ (fun s x => step s x (blk V (l.val + (n + 2)))) hs1 (sc_full pk Q K X (by omega)))
    have hs3 : stAt pk Q K V X g.val l.val (n + 4) = (step (step (step (step (stAt pk Q K V X g.val l.val n) (sc pk Q K X g.val l.val n) (blk V (l.val + (n)))) (k0_pay22 (qp pk Q g.val) (blk K (l.val + (n + 1))) (blk X (l.val + (n + 1)))) (blk V (l.val + (n + 1)))) (k0_pay22 (qp pk Q g.val) (blk K (l.val + (n + 2))) (blk X (l.val + (n + 2)))) (blk V (l.val + (n + 2)))) (k0_pay22 (qp pk Q g.val) (blk K (l.val + (n + 3))) (blk X (l.val + (n + 3)))) (blk V (l.val + (n + 3)))) :=
      (stAt_succ ..).trans (congrArg₂ (fun s x => step s x (blk V (l.val + (n + 3)))) hs2 (sc_full pk Q K X (by omega)))
    have hs4 : stAt pk Q K V X g.val l.val (n + 5) = (step (step (step (step (step (stAt pk Q K V X g.val l.val n) (sc pk Q K X g.val l.val n) (blk V (l.val + (n)))) (k0_pay22 (qp pk Q g.val) (blk K (l.val + (n + 1))) (blk X (l.val + (n + 1)))) (blk V (l.val + (n + 1)))) (k0_pay22 (qp pk Q g.val) (blk K (l.val + (n + 2))) (blk X (l.val + (n + 2)))) (blk V (l.val + (n + 2)))) (k0_pay22 (qp pk Q g.val) (blk K (l.val + (n + 3))) (blk X (l.val + (n + 3)))) (blk V (l.val + (n + 3)))) (k0_pay227 pk (qblk Q g.val) (blk K (2 * g.val)) (blk X (2 * g.val))) (blk V (l.val + (n + 4)))) :=
      (stAt_succ ..).trans (congrArg₂ (fun s x => step s x (blk V (l.val + (n + 4)))) hs3 (sc_diag pk Q K X (by omega)))
    have hN : 2 * g.val - l.val + 1 = n + 5 := by omega
    unfold outG lateL lateAcc lateSc
    rw [hN, hs4]
    generalize stAt (F := F) pk Q K V X g.val l.val n = s0
    generalize sc (F := F) pk Q K X g.val l.val n = x0
    dsimp only [step]
    rfl

end Cert.Proof.Fox

end
-- ==== Proof.Body.lean ====
module

public import proofs.«01_k».proof.Proof.Outer

@[expose] public section

set_option maxRecDepth 8192
set_option maxHeartbeats 1000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

local notation "𝕄" => MT nD τ sig Unit (Elt F) ℕ UU ℕ

/-- One pair's rows written over contents whose earlier pairs' rows are done. -/
theorem rows_step (v : View sig .tc .vmem S1x8192x128 .bf16) (pk : FVec F S1024x128 .bf16) (Q K V X : Rows F) (lo : ℕ → ℕ)
    (f : v.ty.Contents (Elt F)) (g : ℕ) (off : Fin 3 → ℕ) (inb : ∀ a, off a + S1x1024x128.size a ≤ S1x8192x128.size a)
    (h : off = ![0, 1024 * g, 0]) (w : Vec F S1x1024x128 .bf16) (hw : w = outG pk Q K V X g (lo g))
    (hf : ∀ y : S1x8192x128.Idx, (y 1).val < 1024 * g → v.read (Elt F) f y = outF pk Q K V X lo y)
    (y : S1x8192x128.Idx) (hy : (y 1).val < 1024 * (g + 1)) :
    v.read (Elt F) (v.writes (Elt F) f [⟨Rect.unit (s := S1x8192x128) off S1x1024x128.size inb, w⟩]) y = outF pk Q K V X lo y := by
  by_cases h1 : (y 1).val < 1024 * g
  · refine (View.read_writes_cons_unit_of_not_mem v f inb w [] y h 1 (Or.inl h1)).trans ?_
    exact hf y h1
  · have hd : (y 1).val / 1024 = g := by omega
    have hm : (y 1).val = 1024 * g + (y 1).val % 1024 := by omega
    have h0 : (y 0).val < 1 := (y 0).isLt
    refine (View.read_writes_cons_unit_of_mem v f inb w [] y (ix3 (y 0) ⟨(y 1).val % 1024, Nat.mod_lt _ (by decide)⟩ (y 2)) h ?_).trans ?_
    · intro a
      fin_cases a
      · show (y 0).val = 0 + (y 0).val; omega
      · exact hm
      · show (y 2).val = 0 + (y 2).val; omega
    · subst hw
      unfold outF
      rw [hd]

theorem body (c : Dev nD) (bd : Option 𝒱₀.V) (E : Set ℕ) (i : grid0.Coords) (arg2 : Memref sig .tc .smem S32x16 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S128x1024 .f32) (harg8 : arg8.IsWhole) (arg9 : Memref sig .tc .vmem S2x512x1024 .f32) (harg9 : arg9.IsWhole)
    (lo : ℕ → ℕ) (hlo : ∀ g : ℕ, lo g ≤ 2 * g)
    (X2 : arg2.view.ty.Contents (Elt F)) (X3 : arg3.view.ty.Contents (Elt F))
    (X4 : arg4.view.ty.Contents (Elt F)) (X5 : arg5.view.ty.Contents (Elt F)) (X6 : arg6.view.ty.Contents (Elt F))
    (f7 : arg7.view.ty.Contents (Elt F)) (f8 : arg8.view.ty.Contents (Elt F)) (f9 : arg9.view.ty.Contents (Elt F))
    (hT : ∀ (g : Fin k0_t1_loop.trips) hn, arg2.view.readAt (Elt F) (Rect.unit (s := S32x16) (k0_off1 i g) S1x1.size (k0_off1_inb i g)).toLoadRect X2 (Shape.Idx.first hn) = BitVec.ofNat 32 (lo g.val)) :
    iprop((arg2.view.loc (c : Thread nD τ) ↦[arg2.view.set]{fullShare.right} X2) ∗ (arg3.view.loc (c : Thread nD τ) ↦[arg3.view.set]{fullShare} X3)
      ∗ (arg7.view.loc (c : Thread nD τ) ↦[arg7.view.set]{fullShare} f7) ∗ TripOwn c X4 X5 X6 f8 f9)
    ⊢ wp frame (wpE (defs₀ (F := F)) 𝒱₀ (c : Thread nD τ) bd) E
        (cc0_fox_attention i arg2 harg2 arg3 harg3 arg4 harg4 arg5 harg5 arg6 harg6 arg7 harg7 arg8 harg8 arg9 harg9)
        (fun _ => iprop(∃ (f7' : arg7.view.ty.Contents (Elt F)) (f8' : arg8.view.ty.Contents (Elt F)) (f9' : arg9.view.ty.Contents (Elt F)),
          (arg2.view.loc (c : Thread nD τ) ↦[arg2.view.set]{fullShare.right} X2) ∗ (arg3.view.loc (c : Thread nD τ) ↦[arg3.view.set]{fullShare} X3)
          ∗ (arg7.view.loc (c : Thread nD τ) ↦[arg7.view.set]{fullShare} f7')
          ∗ TripOwn c X4 X5 X6 f8' f9'
          ∗ ⌜arg7.view.read (Elt F) f7' = outF (k0_pay1 i) (arg3.view.read (Elt F) X3) (arg4.view.read (Elt F) X4) (arg5.view.read (Elt F) X5) (arg6.view.read (Elt F) X6) lo⌝)) := by
  rw [cc0_fox_attention_eq_skeleton]
  unfold cc0_fox_attention_skel
  dsimp only
  iintro ⟨H2, H3, H7, HT⟩
  sl_for (fun k _ => iprop(∃ (f7 : arg7.view.ty.Contents (Elt F)) (f8 : arg8.view.ty.Contents (Elt F)) (f9 : arg9.view.ty.Contents (Elt F)),
    (arg2.view.loc (c : Thread nD τ) ↦[arg2.view.set]{fullShare.right} X2) ∗ (arg3.view.loc (c : Thread nD τ) ↦[arg3.view.set]{fullShare} X3)
      ∗ (arg7.view.loc (c : Thread nD τ) ↦[arg7.view.set]{fullShare} f7) ∗ TripOwn c X4 X5 X6 f8 f9
      ∗ ⌜∀ y : S1x8192x128.Idx, (y 1).val < 1024 * k → arg7.view.read (Elt F) f7 y
          = outF (k0_pay1 i) (arg3.view.read (Elt F) X3) (arg4.view.read (Elt F) X4) (arg5.view.read (Elt F) X5) (arg6.view.read (Elt F) X6) lo y⌝)) $$ [H2 H3 H7 HT]
  · intro g _
    iintro ⟨%f7, %f8, %f9, H2, H3, H7, HT, %hg⟩
    have hg8 : g.val < 8 := lt_of_lt_of_eq g.isLt trips1
    have hl := hlo g.val
    obtain ⟨l, hll⟩ : ∃ l : Fin 16, l.val = lo g.val := ⟨⟨lo g.val, by omega⟩, rfl⟩
    have hl' : l.val ≤ 2 * g.val := by omega
    have hstep := (lead c bd E i arg2 harg2 arg3 harg3 arg4 harg4 arg5 harg5 arg6 harg6 arg7 harg7 arg8 harg8 arg9 harg9 g l hl' (chk1 g l hl') X2 X3 X4 X5 X6 f7 f8 f9 (fun hn => by rw [hT, hll])).trans
      (wp_mono _ _ _ (Q' := fun _ => iprop(∃ (f7 : arg7.view.ty.Contents (Elt F)) (f8 : arg8.view.ty.Contents (Elt F)) (f9 : arg9.view.ty.Contents (Elt F)),
    (arg2.view.loc (c : Thread nD τ) ↦[arg2.view.set]{fullShare.right} X2) ∗ (arg3.view.loc (c : Thread nD τ) ↦[arg3.view.set]{fullShare} X3)
      ∗ (arg7.view.loc (c : Thread nD τ) ↦[arg7.view.set]{fullShare} f7) ∗ TripOwn c X4 X5 X6 f8 f9
      ∗ ⌜∀ y : S1x8192x128.Idx, (y 1).val < 1024 * (g.val + 1) → arg7.view.read (Elt F) f7 y
          = outF (k0_pay1 i) (arg3.view.read (Elt F) X3) (arg4.view.read (Elt F) X4) (arg5.view.read (Elt F) X5) (arg6.view.read (Elt F) X6) lo y⌝)) (fun _ => by
        iintro ⟨%f8', %f9', %w, H2, H3, H7, HT, %hw⟩
        iexists _
        iexists f8'
        iexists f9'
        isplitl [H2]; · iexact H2
        isplitl [H3]; · iexact H3
        isplitl [H7]; · iexact H7
        isplitl [HT]; · iexact HT
        ipureintro
        exact rows_step arg7.view _ _ _ _ _ lo f7 g.val _ _ (off27 g) w (hw.trans (by rw [hll])) hg))
    iapply hstep
    isplitl [H2]; · iexact H2
    isplitl [H3]; · iexact H3
    isplitl [H7]; · iexact H7
    iexact HT
  · iexists f7
    iexists f8
    iexists f9
    isplitl [H2]; · iexact H2
    isplitl [H3]; · iexact H3
    isplitl [H7]; · iexact H7
    isplitl [HT]; · iexact HT
    ipureintro
    intro y hy
    omega
  iintro %_ ⟨%f7, %f8, %f9, H2, H3, H7, HT, %hg⟩
  sl_step
  iexists f7
  iexists f8
  iexists f9
  isplitl [H2]; · iexact H2
  isplitl [H3]; · iexact H3
  isplitl [H7]; · iexact H7
  isplitl [HT]; · iexact HT
  ipureintro
  funext y
  refine hg y ?_
  have : (y 1).val < 8192 := (y 1).isLt
  rw [show Scf.trips k0_t1_loop.lb k0_t1_loop.ub k0_t1_loop.st = 8 from trips1]
  omega

end Cert.Proof.Fox

end
-- ==== Proof.Run.lean ====
module

public import proofs.«01_k».proof.Proof.Body
public import proofs.«01_k».proof.Proof.Gen.KernelIdeal.Launch
public import Idealize.ShloMosaic.Lib.Pipeline.Frame
public import Idealize.ShloMosaic.Lib.Pipeline.ValueKit.Geometry

@[expose] public section

set_option maxRecDepth 8192
set_option maxHeartbeats 1000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx
open Idealize.ShloMosaic.Pipeline (Dat Cfg Window BodyObligation BodyObligationLoose)

local notation "𝕄" => MT nD τ sig Unit (Elt F) ℕ UU ℕ

/-! ## The body over what its buffers read -/

theorem body_owns (c : Dev nD) (E : Set ℕ) (i : grid0.Coords) (arg2 : Memref sig .tc .smem S32x16 .i32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S128x1024 .f32) (harg8 : arg8.IsWhole) (arg9 : Memref sig .tc .vmem S2x512x1024 .f32) (harg9 : arg9.IsWhole)
    (lo : ℕ → ℕ) (hlo : ∀ g : ℕ, lo g ≤ 2 * g) (T : Vec F S32x16 .i32) (Q K V X X7 : Rows F)
    (hT : ∀ (g : Fin k0_t1_loop.trips) hn, T ((Rect.unit (s := S32x16) (k0_off1 i g) S1x1.size (k0_off1_inb i g)).toLoadRect.idx (Shape.Idx.first hn)) = BitVec.ofNat 32 (lo g.val))
    (Kp : PUnit → sProp 𝕄) :
    iprop((owns (c : Thread nD τ) arg2 fullShare.right T ∗ owns (c : Thread nD τ) arg3 fullShare Q ∗ owns (c : Thread nD τ) arg4 fullShare K
      ∗ owns (c : Thread nD τ) arg5 fullShare V ∗ owns (c : Thread nD τ) arg6 fullShare X ∗ owns (c : Thread nD τ) arg7 fullShare X7
      ∗ (∃ A, owns (c : Thread nD τ) arg8 fullShare A) ∗ (∃ B, owns (c : Thread nD τ) arg9 fullShare B)) ∗ (iprop((owns (c : Thread nD τ) arg2 fullShare.right T ∗ owns (c : Thread nD τ) arg3 fullShare Q ∗ owns (c : Thread nD τ) arg4 fullShare K
      ∗ owns (c : Thread nD τ) arg5 fullShare V ∗ owns (c : Thread nD τ) arg6 fullShare X ∗ owns (c : Thread nD τ) arg7 fullShare (outF (k0_pay1 i) Q K V X lo)
      ∗ (∃ A, owns (c : Thread nD τ) arg8 fullShare A) ∗ (∃ B, owns (c : Thread nD τ) arg9 fullShare B))) -∗ Kp ⟨⟩))
    ⊢ wp frame (wpE (defs₀ (F := F)) 𝒱₀ (c : Thread nD τ) none) E (cc0_fox_attention i arg2 harg2 arg3 harg3 arg4 harg4 arg5 harg5 arg6 harg6 arg7 harg7 arg8 harg8 arg9 harg9) Kp := by
  unfold owns
  iintro ⟨⟨⟨%X2, %h2, H2⟩, ⟨%X3, %h3, H3⟩, ⟨%X4, %h4, H4⟩, ⟨%X5, %h5, H5⟩, ⟨%X6, %h6, H6⟩, ⟨%f7, %h7, H7⟩, ⟨%A, %f8, %h8, H8⟩, ⟨%B, %f9, %h9, H9⟩⟩, Hk⟩
  iapply wp_wand_r
  isplitr [Hk]
  · iapply (body c none E i arg2 harg2 arg3 harg3 arg4 harg4 arg5 harg5 arg6 harg6 arg7 harg7 arg8 harg8 arg9 harg9 lo hlo X2 X3 X4 X5 X6 f7 f8 f9 (fun g hn => (congrFun h2 _).trans (hT g hn)))
    isplitl [H2]; · iexact H2
    isplitl [H3]; · iexact H3
    isplitl [H7]; · iexact H7
    isplitl [H4]; · iexact H4
    isplitl [H5]; · iexact H5
    isplitl [H6]; · iexact H6
    isplitl [H8]; · iexact H8
    iexact H9
  iintro %_ ⟨%g7, %g8, %g9, H2, H3, H7, ⟨H4, H5, H6, H8, H9⟩, %hg⟩
  iapply Hk
  isplitl [H2]
  · iexists X2; isplitr; · ipureintro; exact h2
    iexact H2
  isplitl [H3]
  · iexists X3; isplitr; · ipureintro; exact h3
    iexact H3
  isplitl [H4]
  · iexists X4; isplitr; · ipureintro; exact h4
    iexact H4
  isplitl [H5]
  · iexists X5; isplitr; · ipureintro; exact h5
    iexact H5
  isplitl [H6]
  · iexists X6; isplitr; · ipureintro; exact h6
    iexact H6
  isplitl [H7]
  · iexists g7; isplitr; · ipureintro; rw [hg, h3, h4, h5, h6]
    iexact H7
  isplitl [H8]
  · iexists _; iexists g8; isplitr; · ipureintro; rfl
    iexact H8
  · iexists _; iexists g9; isplitr; · ipureintro; rfl
    iexact H9

end Cert.Proof.Fox

end
-- ==== Proof.Launch.lean ====
module

public import Idealize.ShloMosaic.PureOps.Ideal
public import proofs.«01_k».proof.Proof.Run

@[expose] public section

set_option maxRecDepth 8192
set_option maxHeartbeats 1000000

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx
open Idealize.ShloMosaic.Pipeline (Dat Cfg Window BodyObligation BodyObligationLoose)

local notation "𝕄" => MT nD τ sig Unit (Elt F) ℕ UU ℕ

variable (m : (ℓ : Loc nD τ sig) → Buf (Elt F) ℓ) (ρ : Dev nD → PrngReg)

/-- What the host operations leave in each buffer. -/
abbrev VV (c : Dev nD) (b : Ref sig .tc) : Buf (Elt F) ((c : Thread nD τ).loc b) :=
  StableHlo.after hostOps0 (fun b => m (c, b)) b

/-- The table of first key blocks. -/
abbrev tb : Vec F S32x16 .i32 := m ((((0 : Dev nD)) : Thread nD τ).loc main_arg0)

/-- The prefetched table at its launch contents. -/
def adm (p : Fin 1) : (pcfgs (F := F) p).Adm :=
  ⟨fun | 0 => tb m | ⟨_ + 1, h⟩ => absurd h (Nat.not_lt.2 (Nat.le_add_left _ _)), trivial⟩

/-- The first key block of each pair at a grid point. -/
def loAt (T : Vec F S32x16 .i32) (i : grid0.Coords) (g : ℕ) : ℕ :=
  BitVec.toNat (w := 32) (T (ix2 ⟨(8 * (i 0).val + (i 1).val) % 32, Nat.mod_lt _ (by decide)⟩ ⟨(2 * g) % 16, Nat.mod_lt _ (by decide)⟩))

/-- The table's words name a block no later than the pair's first. -/
def TableOk (T : Vec F S32x16 .i32) : Prop :=
  ∀ (r : Fin 32) (g : Fin 8), BitVec.toNat (w := 32) (T (ix2 r ⟨2 * g.val, by omega⟩)) ≤ 2 * g.val

theorem loAt_le {T : Vec F S32x16 .i32} (h : TableOk T) (i : grid0.Coords) (g : ℕ) : loAt T i g ≤ 2 * g := by
  have h1 := h ⟨(8 * (i 0).val + (i 1).val) % 32, Nat.mod_lt _ (by decide)⟩ ⟨g % 8, Nat.mod_lt _ (by decide)⟩
  have h2 : (2 * g) % 16 = 2 * (g % 8) := by omega
  unfold loAt
  simp only [h2]
  refine h1.trans ?_
  show 2 * (g % 8) ≤ 2 * g
  omega

theorem word_back (x : BitVec 32) : x = BitVec.ofNat 32 x.toNat := by simp

theorem loAt_word (T : Vec F S32x16 .i32) (i : grid0.Coords) (g : Fin k0_t1_loop.trips) (hn) :
    T ((Rect.unit (s := S32x16) (k0_off1 i g) S1x1.size (k0_off1_inb i g)).toLoadRect.idx (Shape.Idx.first hn))
      = BitVec.ofNat 32 (loAt T i g.val) := by
  unfold loAt
  refine (congrArg T ?_).trans (word_back _)
  have hg : g.val < 8 := lt_of_lt_of_eq g.isLt trips1
  have h0 : (i 0).val < 4 := (i 0).isLt
  have h1 : (i 1).val < 8 := (i 1).isLt
  have ho := off1 ⟨(i 0).val, h0⟩ ⟨(i 1).val, h1⟩ ⟨g.val, hg⟩ i rfl rfl
  have ho' : k0_off1 i g = ![8 * (i 0).val + (i 1).val, 2 * g.val] := ho
  funext a
  apply Fin.ext
  fin_cases a
  · show k0_off1 i g 0 + 1 * 0 = (8 * (i 0).val + (i 1).val) % 32
    rw [ho']
    show 8 * (i 0).val + (i 1).val + 1 * 0 = _
    omega
  · show k0_off1 i g 1 + 1 * 0 = (2 * g.val) % 16
    rw [ho']
    show 2 * g.val + 1 * 0 = _
    omega

/-- One head's rows of an array of a batch's positions by all heads' columns, read at a column block. -/
def headRows {w : ℕ} (A : (⟨3, ![4, 8192, w]⟩ : Shape).Idx → Elt F .bf16) (hw : 0 < w) (b col : ℕ) : Rows F :=
  fun y => A (ix3 ⟨b % 4, Nat.mod_lt _ (by decide)⟩ (y 1) ⟨(128 * col + (y 2).val) % w, Nat.mod_lt _ hw⟩)

/-- A grid point's output rows. -/
def outP (c : Dev nD) (i : grid0.Coords) : Rows F :=
  outF (k0_pay1 i) (headRows (VV m c main_v6) (by decide) (i 0).val (i 1).val)
    (headRows (VV m c main_v7) (by decide) (i 0).val (i 1).val)
    (headRows (VV m c main_arg3) (by decide) (i 0).val (16 + (i 1).val))
    (headRows (VV m c main_v22) (by decide) (i 0).val 0) (loAt (tb m) i)

/-- The proof data: the inputs' buffers at their blocks, the output's at the point's rows. -/
def dats (p : Fin 1) (c : Dev nD) : Dat τ (Elt F) Unit ℕ (UR sig nD τ) ℕ (Pipeline.pin (pcfgs (F := F)) (adm m) p) c where
  A w := VV m c (Pipeline.arrRef spec0 w)
  after w t := match w with
    | ⟨0, _⟩ => headRows (VV m c main_v6) (by decide) ((grid0.coords t) 0).val ((grid0.coords t) 1).val
    | ⟨1, _⟩ => headRows (VV m c main_v7) (by decide) ((grid0.coords t) 0).val ((grid0.coords t) 1).val
    | ⟨2, _⟩ => headRows (VV m c main_arg3) (by decide) ((grid0.coords t) 0).val (16 + ((grid0.coords t) 1).val)
    | ⟨3, _⟩ => headRows (VV m c main_v22) (by decide) ((grid0.coords t) 0).val 0
    | ⟨4, _⟩ => outP m c (grid0.coords t)
  Φ _ := iprop(Pipeline.ΦA spec0 c ∗ Pipeline.ΦT pre0 (adm m 0).1 c)
  q _ := fullShare
  owed _ := 0

theorem ixs : ∀ t : Fin grid0.N, cc0_transform_0 (grid0.coords t) = ![((grid0.coords t) 0).val, 0, ((grid0.coords t) 1).val]
    ∧ cc0_transform_1 (grid0.coords t) = ![((grid0.coords t) 0).val, 0, ((grid0.coords t) 1).val]
    ∧ cc0_transform_2 (grid0.coords t) = ![((grid0.coords t) 0).val, 0, 16 + ((grid0.coords t) 1).val]
    ∧ cc0_transform_3 (grid0.coords t) = ![((grid0.coords t) 0).val, 0, 0]
    ∧ cc0_transform_4 (grid0.coords t) = ![((grid0.coords t) 0).val, 0, ((grid0.coords t) 1).val] := by decide +kernel

/-- A block's place in an array of a batch's positions. -/
theorem place {w : ℕ} (hw : 0 < w) (A : (⟨3, ![4, 8192, w]⟩ : Shape).Idx → Elt F .bf16) (ix : Fin 3 → ℕ) (b col : ℕ) (hix : ix = ![b, 0, col])
    (hb : b < 4) (hc : 128 * col + 128 ≤ w) (y : S1x8192x128.Idx) (z : (⟨3, ![4, 8192, w]⟩ : Shape).Idx)
    (hz : ∀ a, (z a).val = ix a * S1x8192x128.size a + 1 * (y a).val) : headRows A hw b col y = A z := by
  unfold headRows
  subst hix
  have h0 : (y 0).val < 1 := (y 0).isLt
  have h1 : (y 1).val < 8192 := (y 1).isLt
  have h2 : (y 2).val < 128 := (y 2).isLt
  refine congrArg A (funext fun a => Fin.ext ?_)
  rw [hz a]
  fin_cases a
  · show b % 4 = b * 1 + 1 * (y 0).val; omega
  · show (y 1).val = 0 * 8192 + 1 * (y 1).val; omega
  · show (128 * col + (y 2).val) % w = col * 128 + 1 * (y 2).val
    rw [Nat.mod_eq_of_lt (by omega)]; omega

theorem after_0 (c : Dev nD) (t : Fin grid0.N) : (dats m 0 c).after (0 : Fin 5) t = (dats m 0 c).blockOf (0 : Fin 5) t := by
  have h0 : ((grid0.coords t) 0).val < 4 := ((grid0.coords t) 0).isLt
  have h1 : ((grid0.coords t) 1).val < 8 := ((grid0.coords t) 1).isLt
  funext y
  exact place (by decide) (VV m c main_v6) _ _ _ ((ixs t).1) h0 (by omega) y _ (fun a => rfl)

theorem before_0 (c : Dev nD) (t : Fin grid0.N) (d) : (dats m 0 c).before (0 : Fin 5) t d = (dats m 0 c).after (0 : Fin 5) t :=
  ((dats m 0 c).before_in_eq_fetched (0 : Fin 5) rfl (fun _ => rfl) (fun _ _ _ => rfl) (fun t => after_0 m c t) t d).trans (after_0 m c t).symm

theorem after_1 (c : Dev nD) (t : Fin grid0.N) : (dats m 0 c).after (1 : Fin 5) t = (dats m 0 c).blockOf (1 : Fin 5) t := by
  have h0 : ((grid0.coords t) 0).val < 4 := ((grid0.coords t) 0).isLt
  have h1 : ((grid0.coords t) 1).val < 8 := ((grid0.coords t) 1).isLt
  funext y
  exact place (by decide) (VV m c main_v7) _ _ _ ((ixs t).2.1) h0 (by omega) y _ (fun a => rfl)

theorem before_1 (c : Dev nD) (t : Fin grid0.N) (d) : (dats m 0 c).before (1 : Fin 5) t d = (dats m 0 c).after (1 : Fin 5) t :=
  ((dats m 0 c).before_in_eq_fetched (1 : Fin 5) rfl (fun _ => rfl) (fun _ _ _ => rfl) (fun t => after_1 m c t) t d).trans (after_1 m c t).symm

theorem after_2 (c : Dev nD) (t : Fin grid0.N) : (dats m 0 c).after (2 : Fin 5) t = (dats m 0 c).blockOf (2 : Fin 5) t := by
  have h0 : ((grid0.coords t) 0).val < 4 := ((grid0.coords t) 0).isLt
  have h1 : ((grid0.coords t) 1).val < 8 := ((grid0.coords t) 1).isLt
  funext y
  exact place (by decide) (VV m c main_arg3) _ _ _ ((ixs t).2.2.1) h0 (by omega) y _ (fun a => rfl)

theorem before_2 (c : Dev nD) (t : Fin grid0.N) (d) : (dats m 0 c).before (2 : Fin 5) t d = (dats m 0 c).after (2 : Fin 5) t :=
  ((dats m 0 c).before_in_eq_fetched (2 : Fin 5) rfl (fun _ => rfl) (fun _ _ _ => rfl) (fun t => after_2 m c t) t d).trans (after_2 m c t).symm

theorem after_3 (c : Dev nD) (t : Fin grid0.N) : (dats m 0 c).after (3 : Fin 5) t = (dats m 0 c).blockOf (3 : Fin 5) t := by
  have h0 : ((grid0.coords t) 0).val < 4 := ((grid0.coords t) 0).isLt
  have h1 : ((grid0.coords t) 1).val < 8 := ((grid0.coords t) 1).isLt
  funext y
  exact place (by decide) (VV m c main_v22) _ _ _ ((ixs t).2.2.2.1) h0 (by omega) y _ (fun a => rfl)

theorem before_3 (c : Dev nD) (t : Fin grid0.N) (d) : (dats m 0 c).before (3 : Fin 5) t d = (dats m 0 c).after (3 : Fin 5) t :=
  ((dats m 0 c).before_in_eq_fetched (3 : Fin 5) rfl (fun _ => rfl) (fun _ _ _ => rfl) (fun t => after_3 m c t) t d).trans (after_3 m c t).symm

theorem body_obligation (c : Dev nD) (hT : TableOk (tb m)) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  simp only [before_0 m c t, before_1 m c t, before_2 m c t, before_3 m c t]
  rw [show (dats m 0 c).Φ t.castSucc = iprop(Pipeline.ΦA spec0 c ∗ Pipeline.ΦT pre0 (adm m 0).1 c) from rfl]
  unfold Pipeline.ΦA Pipeline.ΦT Pipeline.prefHeld
  rw [scopedRest0_eq, show (Finset.univ : Finset (Fin pre0.K)) = {0} from rfl, bigSep_singleton]
  iintro ⟨HΦ, Ho, ⟨%d0, H0⟩, ⟨%d1, H1⟩, ⟨%d2, H2⟩, ⟨%d3, H3⟩, ⟨%d4, H4⟩⟩
  icases HΦ with ⟨⟨⟨⟨%A, HA⟩, ⟨%B, HB⟩⟩, Hr⟩, HT⟩
  iapply (body_owns c Set.univ (grid0.coords t) (Memref.whole main_arg0) (Memref.isWhole_whole _) (stage0_0 ((Pipeline.pin pcfgs (adm m) 0).slots t 0)) (hstage0_0 _)
    (stage0_1 ((Pipeline.pin pcfgs (adm m) 0).slots t 1)) (hstage0_1 _) (stage0_2 ((Pipeline.pin pcfgs (adm m) 0).slots t 2)) (hstage0_2 _)
    (stage0_3 ((Pipeline.pin pcfgs (adm m) 0).slots t 3)) (hstage0_3 _) (stage0_4 ((Pipeline.pin pcfgs (adm m) 0).slots t 4)) (hstage0_4 _)
    (Memref.whole cc0_scratch0) (Memref.isWhole_whole _) (Memref.whole cc0_scratch1) (Memref.isWhole_whole _)
    (loAt (tb m) (grid0.coords t)) (loAt_le hT _) (tb m) _ _ _ _ _ (loAt_word (tb m) (grid0.coords t)))
  isplitl [HA HB HT H0 H1 H2 H3 H4]
  · isplitl [HT]; · rw [owns_whole]; iexact HT
    isplitl [H0]; · iexact H0
    isplitl [H1]; · iexact H1
    isplitl [H2]; · iexact H2
    isplitl [H3]; · iexact H3
    isplitl [H4]; · iexact H4
    isplitl [HA]
    · iexists A; rw [owns_whole]; iexact HA
    · iexists B; rw [owns_whole]; iexact HB
  iintro ⟨HT, H0, H1, H2, H3, H4, ⟨%A', HA⟩, ⟨%B', HB⟩⟩
  isplitl [HT HA HB Hr]
  · isplitl [HA HB Hr]
    · isplitl [HA HB]
      · isplitl [HA]
        · iexists A'; rw [owns_whole]; exact Entails.refl _
        · iexists B'; rw [owns_whole]; exact Entails.refl _
      · iexact Hr
    · rw [owns_whole]; exact Entails.refl _
  isplitl [Ho]; · iexact Ho
  isplitl [H0]; · iexact H0
  isplitl [H1]; · iexact H1
  isplitl [H2]; · iexact H2
  isplitl [H3]; · iexact H3
  iexact H4

theorem keeps (c : Dev nD) (b : Ref sig .tc) (hb : b = main_arg0 ∨ b = main_arg1 ∨ b = main_arg2 ∨ b = main_arg3 ∨ b = main_arg4) :
    VV m c b = m ((c : Thread nD τ).loc b) := by
  rcases hb with h | h | h | h | h <;> subst h <;> rfl

theorem hfresh0 : (hostOps0 : List (HloOp τ sig (Elt F))).Forall fun op => op.fresh = ∅ := by
  simp only [hostOps0, List.Forall]; repeat' constructor

set_option backward.isDefEq.respectTransparency.types false in
theorem run_main (hT : TableOk (tb m)) :
    θ_run (defs (F := F)) (onTc (τ := τ) (main (F := F))) ⟨m, fun _ => 0, ρ⟩
      (fun r => Pipeline.FramePost (Pipeline.pin pcfgs (adm m)) (dats m) 0 (VV m) r ∧ r.2.sem = fun _ => 0) :=
  Pipeline.θ_run_frameP pcfgs (adm m) (dats m) (0 : Fin 1) launch0 defs₀ 𝒱₀ m ρ main
    (hbody := fun c => body_obligation m c hT) (hshare := fun c w => (dats m 0 c).share_full (fun _ => rfl) w) (howed := fun _ _ => rfl)
    (V := VV m) (hmain := Pipeline.hmainP_prefix pcfgs 0 defs₀ 𝒱₀ m main hostOps0 hostOps0_sub hfresh0 main_chain)
    (hA := fun _ _ => rfl)
    (hpf := fun c k => by
      obtain rfl : c = 0 := Subsingleton.elim _ _
      obtain rfl : k = 0 := Subsingleton.elim _ _
      exact keeps m 0 main_arg0 (Or.inl rfl))
    (hΦ := fun _ _ => rfl) (Q' := _) (hQ' := fun _ h => h)

/-- The result array's contents. -/
def result (c : Dev nD) : (⟨3, ![4, 8192, 1024]⟩ : Shape).Idx → Elt F .bf16 := fun y =>
  outP m c (show grid0.Coords from fun | ⟨0, _⟩ => y 0 | ⟨1, _⟩ => ⟨(y 2).val / 128, by have h : (y 2).val < 1024 := (y 2).isLt; show _ < 8; omega⟩) (ix3 0 (y 1) ⟨(y 2).val % 128, Nat.mod_lt _ (by decide)⟩)

/-- A table of zeros: the windows do not read the table. -/
def adm0 : (pcfg0 (F := Ideal)).Adm := ⟨fun | 0 => (show Vec Ideal S32x16 .i32 from fun _ => (0 : BitVec 32)) | ⟨_ + 1, h⟩ => absurd h (Nat.not_lt.2 (Nat.le_add_left _ _)), trivial⟩

theorem covers4 : (win0 (F := Ideal) adm0 4).Covers := by decide +kernel

theorem result_eq (c : Dev nD) (i : grid0.Coords) (y : S1x8192x128.Idx) (z : (⟨3, ![4, 8192, 1024]⟩ : Shape).Idx)
    (hz : ∀ a, (z a).val = cc0_transform_4 i a * S1x8192x128.size a + 1 * (y a).val)
    (hi : cc0_transform_4 i = ![(i 0).val, 0, (i 1).val]) : outP m c i y = result m c z := by
  have h0 : (z 0).val = (i 0).val * 1 + 1 * (y 0).val := (hz 0).trans (by rw [hi]; rfl)
  have h1 : (z 1).val = 0 * 8192 + 1 * (y 1).val := (hz 1).trans (by rw [hi]; rfl)
  have h2 : (z 2).val = (i 1).val * 128 + 1 * (y 2).val := (hz 2).trans (by rw [hi]; rfl)
  have b0 : (y 0).val < 1 := (y 0).isLt
  have b2 : (y 2).val < 128 := (y 2).isLt
  unfold result
  refine congrArg₂ (outP m c) (funext fun a => ?_) (funext fun a => ?_) <;> fin_cases a <;> refine Fin.ext ?_
  · show (i 0).val = (z 0).val; omega
  · show (i 1).val = (z 2).val / 128; omega
  · show (y 0).val = 0; omega
  · show (y 1).val = (z 1).val; omega
  · show (y 2).val = (z 2).val % 128; omega

theorem result_at (c : Dev nD) : (dats m 0 c).arrAt (4 : Fin 5) grid0.N = result m c :=
  (dats m 0 c).arrAt_eq_of_covers (4 : Fin 5) _ covers4 (fun t hf y => result_eq m c (grid0.coords t) y _ (fun _ => rfl) (ixs t).2.2.2.2)

/-- The run, by arrays: the arguments unchanged, the result named. -/
theorem run_arrays (hT : TableOk (tb m)) :
    θ_run (defs (F := F)) (onTc (τ := τ) (main (F := F))) ⟨m, fun _ => 0, ρ⟩
      (fun r => (∀ c : Dev nD, r.2.mem ((c.tc : Thread nD τ).loc main_v23) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  refine (θ_run _ _ _).mono (fun r h => ⟨fun c => ⟨?_, ?_, ?_, ?_, ?_, ?_⟩, h.2⟩) (run_main m ρ hT)
  · exact (h.1.out_eq c (4 : Fin 5)).trans (result_at m c)
  · exact (h.1.rest_eq c main_arg0 (show _ ∈ Pipeline.restRefs sig spec0 by decide)).trans (keeps m c main_arg0 (by simp))
  · exact (h.1.rest_eq c main_arg1 (show _ ∈ Pipeline.restRefs sig spec0 by decide)).trans (keeps m c main_arg1 (by simp))
  · exact (h.1.rest_eq c main_arg2 (show _ ∈ Pipeline.restRefs sig spec0 by decide)).trans (keeps m c main_arg2 (by simp))
  · exact (h.1.in_eq c (2 : Fin 5) rfl).trans (keeps m c main_arg3 (by simp))
  · exact (h.1.rest_eq c main_arg4 (show _ ∈ Pipeline.restRefs sig spec0 by decide)).trans (keeps m c main_arg4 (by simp))

end Cert.Proof.Fox

end
-- ==== Proof.Pre.lean ====
/- What the preconditions say of the arguments, element by element. -/
module

public import Idealize.ShloMosaic.PureOps.Ideal
public import Idealize.ShloMosaic.Lib.ValueIdxCore
public import Idealize.ShloMosaic.Lib.ValueLayout
public import proofs.«01_k».proof.Defs

@[expose] public section

set_option maxRecDepth 8192

noncomputable section

namespace Cert.Proof.Fox

open Idealize.ShloMosaic Idealize.ShloMosaic.ValueIdx

/-- The first of each pair of words, through the two reshapes and the slice. -/
theorem first_word {α : Type} (x : (⟨2, ![32, 16]⟩ : Shape).Idx → α) (h1 : (⟨2, ![32, 16]⟩ : Shape).ShapeCasts ⟨4, ![4, 8, 8, 2]⟩)
    (h2 : (⟨4, ![4, 8, 8, 2]⟩ : Shape).Slices ![0, 0, 0, 0] ⟨4, ![4, 8, 8, 1]⟩) (h3 : (⟨4, ![4, 8, 8, 1]⟩ : Shape).ShapeCasts ⟨3, ![4, 8, 8]⟩)
    (b : Fin 4) (h g : Fin 8) (r : Fin 32) (hr : r.val = 8 * b.val + h.val) :
    shapeCast ⟨3, ![4, 8, 8]⟩ (extractStridedSlice ⟨4, ![4, 8, 8, 1]⟩ ![0, 0, 0, 0] (shapeCast ⟨4, ![4, 8, 8, 2]⟩ x h1) h2) h3 (ix3 b h g)
      = x (ix2 r ⟨2 * g.val, by omega⟩) := by
  unfold shapeCast extractStridedSlice
  rw [show Shape.reshapeEquiv h3 (ix3 b h g) = ix4 b h g (0 : Fin 1) from Shape.reshapeEquiv_eq_of_rowMajor h3 (by
    rw [Shape.rowMajor_val_four, Shape.rowMajor_val_three]; show ((b.val * 8 + h.val) * 8 + g.val) * 1 + 0 = (b.val * 8 + h.val) * 8 + g.val; omega)]
  refine congrArg x (Shape.reshapeEquiv_eq_of_rowMajor h1 ?_)
  rw [Shape.rowMajor_val_four, Shape.rowMajor_val_two]
  show r.val * 16 + 2 * g.val = (((0 + b.val) * 8 + (0 + h.val)) * 8 + (0 + g.val)) * 2 + (0 + 0)
  omega

theorem word_le (v : BitVec 32) (g : ℕ) (hg : g < 8)
    (e : IntOp.andi (IntOp.cmpi .sge v 0#32) (IntOp.cmpi .sle v (IntOp.muli 2#32 (BitVec.ofNat 32 g))) = 1#1) : v.toNat ≤ 2 * g := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have hw : IntOp.muli 2#32 (BitVec.ofNat 32 g) = BitVec.ofNat 32 (2 * g) := by interval_cases g <;> rfl
  rw [hw] at e
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- The precondition on the table's words. -/
theorem table_of_pre {F : FTy → Type} [FloatOps F] [Cert.Pre_blocks_in_range.Facts] {a0 a1 a2 a3 a4}
    (e : Cert.Pre_blocks_in_range.fn (F := F) a0 a1 a2 a3 a4 = fun _ => 1#1) (r : Fin 32) (g : Fin 8) :
    BitVec.toNat (w := 32) (a0 (ix2 r ⟨2 * g.val, by omega⟩)) ≤ 2 * g.val := by
  have e1 := congrFun e (ix3 (⟨r.val / 8, by omega⟩ : Fin 4) (⟨r.val % 8, by omega⟩ : Fin 8) g)
  simp only [Cert.Pre_blocks_in_range.fn, andi, cmpi, broadcastInDim, constantI, muli, iotaInDim] at e1
  refine word_le _ g.val g.isLt (Eq.trans ?_ e1)
  rw [first_word a0 _ _ _ _ _ g r (by show r.val = 8 * (r.val / 8) + r.val % 8; omega)]
  rfl

end Cert.Proof.Fox

end
-- ==== Proof.FrameK.lean ====
/- The kernel's frame at the hardware's arithmetic: the same run, at that reading of the floats. -/
module

public import proofs.«01_k».proof.Defs
public import proofs.«01_k».proof.Proof.Gen.Kernel.Launch
public import proofs.«01_k».proof.Proof.Gen.Pre_blocks_in_range
public import proofs.«01_k».proof.Proof.Launch
public import proofs.«01_k».proof.Proof.Pre

@[expose] public section

set_option maxRecDepth 100000
set_option maxHeartbeats 0

noncomputable section

namespace Cert.Proof.Fox

open Idealize.ShloMosaic Idealize.ShloMosaic.TcCoe Idealize.SL.Sem

variable {F : FTy → Type} [FloatOps F]

theorem ops_same : Cert.Kernel.Gen.hostOps0 (F := F) = Cert.KernelIdeal.Gen.hostOps0 := by
  unfold Cert.Kernel.Gen.hostOps0 Cert.KernelIdeal.Gen.hostOps0
  repeat (refine congrArg₂ List.cons ?_ ?_)
  all_goals rfl

theorem main_same : Cert.Kernel.main (F := F) = Cert.KernelIdeal.main := funext fun c =>
  (Cert.Kernel.Gen.main_chain c).trans (Eq.trans (by rw [ops_same]; rfl) (Cert.KernelIdeal.Gen.main_chain c).symm)

theorem defs₀_same : Cert.Kernel.defs₀ (F := F) = Cert.KernelIdeal.defs₀ := by
  unfold Cert.Kernel.defs₀ Cert.KernelIdeal.defs₀
  refine congrArg Defs.onTc (funext fun l => funext fun x => ?_)
  match l, x with
  | 0, (t, s) => rfl

theorem defs_same : Cert.Kernel.defs (F := F) = Cert.KernelIdeal.defs :=
  congrArg (Pipeline.defs Cert.KernelIdeal.pcfgs) defs₀_same

theorem frame_Kernel : Cert.quiescent_Kernel (hKernel := Cert.Kernel.Gen.facts) (hPre_blocks_in_range := Cert.Pre_blocks_in_range.Gen.facts) := fun m ρ h => by
  have hr := run_arrays (F := Bits) m ρ (letI := Cert.Pre_blocks_in_range.Gen.facts; table_of_pre (h 0))
  rw [defs_same, main_same]
  exact (θ_run Cert.KernelIdeal.defs _ _).mono (fun _ h => ⟨fun c => (h.1 c).2, h.2⟩) hr

end Cert.Proof.Fox

end
-- ==== Proof.Col.lean ====
module

public import proofs.«01_k».proof.Proof.Step
public import Idealize.ShloMosaic.Lib.MatmulPlain
public import Idealize.ShloMosaic.Lib.ValueIdx
public import Idealize.ShloMosaic.Lib.ValueLayout

@[expose] public section

set_option maxRecDepth 8192
set_option maxHeartbeats 1000000

noncomputable section

/-! # The kernel's arithmetic, one query column at a time, at the extended reals -/

namespace Cert.Proof.Fox

open Cert.KernelIdeal Cert.KernelIdeal.Gen
open Idealize.ShloMosaic Idealize.ShloMosaic.ValueIdx

attribute [local instance] Cert.KernelIdeal.Gen.facts

theorem neg_inf : (FloatOps.ofBits .f32 0xFF800000#32 : Ideal .f32) = ⊥ := by
  show Ideal.ofBits .f32 0xFF800000#32 = ⊥
  simp [Ideal.ofBits, Ideal.ieee]

/-- Both operands contracted over their rows. -/
theorem dot_rows {M K N : ℕ} {φ₁ φ₂ : FTy}
    (w : DotDims.WF ⟨2, ![K, M]⟩ ⟨2, ![K, N]⟩ ⟨2, ![M, N]⟩ [0] [0] [1] [1] [] [])
    (prec : Option ContractPrecision) (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul (⟨[0], [0], [1], [1], [], [], w⟩ : DotDims _ _ _) prec lhs rhs acc (ix2 r c)
      = acc (ix2 r c) + ∑ k : Fin K, lhs (ix2 k r) * rhs (ix2 k c) := by
  rw [Ideal.matmul_apply, ← Equiv.sum_comp (contrEquiv1 (⟨[0], [0], [1], [1], [], [], w⟩ : DotDims _ _ _) K rfl rfl).symm]
  refine congrArg (acc (ix2 r c) + ·) (Finset.sum_congr rfl fun k _ => ?_)
  have hk := contrEquiv1_symm_val
    (⟨[0], [0], [1], [1], [], [], w⟩ : DotDims ⟨2, ![K, M]⟩ ⟨2, ![K, N]⟩ ⟨2, ![M, N]⟩) K rfl rfl k
  have el : (⟨[0], [0], [1], [1], [], [], w⟩ : DotDims ⟨2, ![K, M]⟩ ⟨2, ![K, N]⟩ ⟨2, ![M, N]⟩).lhsIdx (ix2 r c)
      ((contrEquiv1 _ K rfl rfl).symm k) = ix2 k r := by
    funext a; apply Fin.ext
    match a with
    | ⟨0, _⟩ => simp [DotDims.lhsIdx]; exact hk
    | ⟨1, _⟩ => simp [DotDims.lhsIdx]; rfl
  have er : (⟨[0], [0], [1], [1], [], [], w⟩ : DotDims ⟨2, ![K, M]⟩ ⟨2, ![K, N]⟩ ⟨2, ![M, N]⟩).rhsIdx (ix2 r c)
      ((contrEquiv1 _ K rfl rfl).symm k) = ix2 k c := by
    funext a; apply Fin.ext
    match a with
    | ⟨0, _⟩ => simp [DotDims.rhsIdx]; exact hk
    | ⟨1, _⟩ => simp [DotDims.rhsIdx]; rfl
  rw [el, er]

theorem lift_row {n m : ℕ} (h : Shape.Reduces ⟨2, ![n, m]⟩ [0] ⟨1, ![m]⟩) (c : Fin m) (r : Fin n) :
    h.lift (ix1 c) r = ix2 r c := by
  funext a; apply Fin.ext
  match a with
  | ⟨0, _⟩ => rfl
  | ⟨1, _⟩ => rfl

theorem pay24_apply (m : FVec Ideal S1x1024 .f32) (x : Vec Ideal S1x512x1024 .f32) (c : Fin 1024) :
    k0_pay24 m x (ix2 0 c)
      = max (m (ix2 0 c)) ((Finset.univ : Finset (Fin 512)).fold max ⊥ fun r => x (ix3 (0 : Fin 1) r c)) := by
  unfold k0_pay24
  rw [maximumf_apply]
  refine congrArg (max _) ?_
  rw [shapeCast_a_1a_apply]
  refine (Ideal.multiReduction_maximumf_single _ _ _ _ _ _).trans ?_
  rw [neg_inf]
  refine congrArg (fun f => Finset.fold max ⊥ f _) (funext fun r => ?_)
  show k0_pay23 x _ = _
  unfold k0_pay23
  exact (congrArg _ (lift_row _ c r)).trans (shapeCast_1ab_ab_apply _ _ _ _)

theorem pay25_apply (m : FVec Ideal S1x1024 .f32) (x : Vec Ideal S1x512x1024 .f32) (c : Fin 1024) :
    k0_pay25 m x (ix2 0 c) = Ideal.exp2 (m (ix2 0 c) - k0_pay24 m x (ix2 0 c)) := rfl

theorem pay26_apply (m : FVec Ideal S1x1024 .f32) (x : Vec Ideal S1x512x1024 .f32) (r : Fin 512) (c : Fin 1024) :
    k0_pay26 m x (ix2 r c) = Ideal.exp2 (x (ix3 (0 : Fin 1) r c) - k0_pay24 m x (ix2 0 c)) := by
  unfold k0_pay26 k0_pay23
  show Ideal.exp2 (shapeCast S512x1024 x _ (ix2 r c) - broadcastTo S512x1024 (k0_pay24 m x) _ (ix2 r c)) = _
  rw [shapeCast_1ab_ab_apply, broadcastTo_1b_ab_apply]

theorem pay27_apply (m l : FVec Ideal S1x1024 .f32) (x : Vec Ideal S1x512x1024 .f32) (c : Fin 1024) :
    k0_pay27 m l x (ix2 0 c)
      = k0_pay25 m x (ix2 0 c) * l (ix2 0 c) + ∑ r : Fin 512, k0_pay26 m x (ix2 r c) := by
  unfold k0_pay27
  rw [addf_apply, mulf_apply]
  refine congrArg₂ (· + ·) rfl ?_
  rw [shapeCast_a_1a_apply]
  refine (Ideal.multiReduction_add_single _ _ _ _ _ _).trans ?_
  exact Finset.sum_congr rfl fun r _ => congrArg _ (lift_row _ c r)

theorem pay28_apply (al : FVec Ideal S1x1024 .f32) (p : FVec Ideal S512x1024 .f32) (v : Vec Ideal S1x512x128 .bf16)
    (a : Vec Ideal S128x1024 .f32) (d : Fin 128) (c : Fin 1024) :
    k0_pay28 al p v a (ix2 d c)
      = al (ix2 0 c) * a (ix2 d c) + ∑ r : Fin 512, v (ix3 (0 : Fin 1) r d) * p (ix2 r c) := by
  unfold k0_pay28
  rw [shapeCast_self, addf_apply, mulf_apply, broadcastTo_1b_ab_apply]
  refine congrArg₂ (· + ·) rfl ?_
  refine (dot_rows _ _ _ _ _ d c).trans ?_
  rw [constant_apply, Ideal.ofBits_zero_f32, zero_add]
  refine Finset.sum_congr rfl fun r _ => ?_
  rw [shapeCast_1ab_ab_apply, truncf_apply]

/-! ## The late half -/

theorem right_apply (x : FVec Ideal S1x1024 .f32) (h : S1x1024.Slices ![0, 512] S1x512) (c : Fin 512) :
    extractStridedSlice S1x512 ![0, 512] x h (ix2 0 c) = x (ix2 0 ⟨512 + c.val, by omega⟩) := by
  refine extractStridedSlice_apply _ x h _ _ fun a => ?_
  match a with
  | ⟨0, _⟩ => rfl
  | ⟨1, _⟩ => rfl

theorem pay220_apply (m : FVec Ideal S1x1024 .f32) (x : Vec Ideal S1x512x512 .f32) (c : Fin 512) :
    k0_pay220 m x (ix2 0 c)
      = max (m (ix2 0 ⟨512 + c.val, by omega⟩)) ((Finset.univ : Finset (Fin 512)).fold max ⊥ fun r => x (ix3 (0 : Fin 1) r c)) := by
  unfold k0_pay220 k0_pay218
  rw [maximumf_apply, right_apply]
  refine congrArg (max _) ?_
  rw [shapeCast_a_1a_apply]
  refine (Ideal.multiReduction_maximumf_single _ _ _ _ _ _).trans ?_
  rw [neg_inf]
  refine congrArg (fun f => Finset.fold max ⊥ f _) (funext fun r => ?_)
  show k0_pay219 x _ = _
  unfold k0_pay219
  exact (congrArg _ (lift_row _ c r)).trans (shapeCast_1ab_ab_apply _ _ _ _)

theorem pay221_apply (m : FVec Ideal S1x1024 .f32) (x : Vec Ideal S1x512x512 .f32) (c : Fin 512) :
    k0_pay221 m x (ix2 0 c) = Ideal.exp2 (m (ix2 0 ⟨512 + c.val, by omega⟩) - k0_pay220 m x (ix2 0 c)) := by
  show Ideal.exp2 (k0_pay218 m (ix2 0 c) - _) = _
  unfold k0_pay218
  rw [right_apply]

theorem pay222_apply (m : FVec Ideal S1x1024 .f32) (x : Vec Ideal S1x512x512 .f32) (r c : Fin 512) :
    k0_pay222 m x (ix2 r c) = Ideal.exp2 (x (ix3 (0 : Fin 1) r c) - k0_pay220 m x (ix2 0 c)) := by
  unfold k0_pay222 k0_pay219
  show Ideal.exp2 (shapeCast S512x512 x _ (ix2 r c) - broadcastTo S512x512 (k0_pay220 m x) _ (ix2 r c)) = _
  rw [shapeCast_1ab_ab_apply, broadcastTo_1b_ab_apply]

theorem pay223_apply (m l : FVec Ideal S1x1024 .f32) (x : Vec Ideal S1x512x512 .f32) (c : Fin 512) :
    k0_pay223 m l x (ix2 0 c)
      = k0_pay221 m x (ix2 0 c) * l (ix2 0 ⟨512 + c.val, by omega⟩) + ∑ r : Fin 512, k0_pay222 m x (ix2 r c) := by
  unfold k0_pay223
  rw [addf_apply, mulf_apply, right_apply]
  refine congrArg₂ (· + ·) rfl ?_
  rw [shapeCast_a_1a_apply]
  refine (Ideal.multiReduction_add_single _ _ _ _ _ _).trans ?_
  exact Finset.sum_congr rfl fun r _ => congrArg _ (lift_row _ c r)

theorem pay224_apply (m : FVec Ideal S1x1024 .f32) (x : Vec Ideal S1x512x512 .f32) (v : Vec Ideal S1x512x128 .bf16)
    (a : Vec Ideal S128x512 .f32) (d : Fin 128) (c : Fin 512) :
    k0_pay224 m x v a (ix2 d c)
      = k0_pay221 m x (ix2 0 c) * a (ix2 d c) + ∑ r : Fin 512, v (ix3 (0 : Fin 1) r d) * k0_pay222 m x (ix2 r c) := by
  unfold k0_pay224
  rw [addf_apply, mulf_apply, broadcastTo_1b_ab_apply]
  refine congrArg₂ (· + ·) rfl ?_
  refine (dot_rows _ _ _ _ _ d c).trans ?_
  rw [constant_apply, Ideal.ofBits_zero_f32, zero_add]
  refine Finset.sum_congr rfl fun r _ => ?_
  rw [shapeCast_1ab_ab_apply, truncf_apply]

/-! ## The state after the late half, and the quotient -/

theorem lateL_left (s : St Ideal) (x : Vec Ideal S1x512x512 .f32) (c : Fin 1024) (h : c.val < 512) :
    lateL s x (ix2 0 c) = s.l (ix2 0 c) := by
  unfold lateL k0_pay20
  refine (concatenate_pair_apply_left (t := S1x1024) (s₁ := S1x512) (s₂ := S1x512) (1 : Fin 2) _ _ _ _ rfl (ix2 (0 : Fin 1) (⟨c.val, h⟩ : Fin 512)) ?_).trans ?_
  · intro a
    match a with
    | ⟨0, _⟩ => rfl
    | ⟨1, _⟩ => rfl
  · refine extractStridedSlice_apply _ _ _ _ _ fun a => ?_
    match a with
    | ⟨0, _⟩ => rfl
    | ⟨1, _⟩ => exact (Nat.zero_add _).symm

theorem lateL_right (s : St Ideal) (x : Vec Ideal S1x512x512 .f32) (c : Fin 512) :
    lateL s x (ix2 0 ⟨512 + c.val, by omega⟩) = k0_pay223 s.m s.l x (ix2 0 c) := by
  unfold lateL k0_pay20
  refine concatenate_pair_apply_right (t := S1x1024) (s₁ := S1x512) (s₂ := S1x512) (1 : Fin 2) _ _ _ _ rfl rfl (ix2 (0 : Fin 1) c) ?_ ?_
  · intro a ha
    match a with
    | ⟨0, _⟩ => rfl
    | ⟨1, _⟩ => exact absurd rfl ha
  · exact Nat.add_comm _ _

theorem lateAcc_left (s : St Ideal) (x : Vec Ideal S1x512x512 .f32) (v : Vec Ideal S1x512x128 .bf16) (d : Fin 128)
    (c : Fin 1024) (h : c.val < 512) : lateAcc s x v (ix2 d c) = s.acc (ix2 d c) := by
  unfold lateAcc halves
  exact dif_neg (by show ¬ 512 ≤ c.val; omega)

theorem lateAcc_right (s : St Ideal) (x : Vec Ideal S1x512x512 .f32) (v : Vec Ideal S1x512x128 .bf16) (d : Fin 128)
    (c : Fin 512) : lateAcc s x v (ix2 d ⟨512 + c.val, by omega⟩) = k0_pay224 s.m x v (accR s.acc) (ix2 d c) := by
  unfold lateAcc halves k0_pay19
  refine (dif_pos (show 512 ≤ 512 + c.val by omega)).trans ?_
  rw [shapeCast_self]
  refine congrArg _ (congrArg (ix2 d) (Fin.ext ?_))
  show 512 + c.val - 512 = c.val
  omega

theorem pay21_apply (l : FVec Ideal S1x1024 .f32) (a : Vec Ideal S128x1024 .f32) (c : Fin 1024) (d : Fin 128) :
    k0_pay21 l a (ix3 0 c d) = Ideal.div (a (ix2 d c)) (l (ix2 0 c)) := by
  unfold k0_pay21
  rw [shapeCast_ab_1ab_apply, truncf_apply, transpose_ix2_apply, divf_apply, broadcastTo_1b_ab_apply]

/-! ## The scores -/

/-- Two arrays of 128 columns side by side. -/
theorem cols_left {n : ℕ} (A B : FVec Ideal ⟨2, ![n, 128]⟩ .bf16)
    (h : Shape.Concatenates [⟨2, ![n, 128]⟩, ⟨2, ![n, 128]⟩] ⟨2, ![n, 256]⟩ 1) (r : Fin n) (d : Fin 128) :
    concatenate ⟨2, ![n, 256]⟩ 1 [⟨⟨2, ![n, 128]⟩, A⟩, ⟨⟨2, ![n, 128]⟩, B⟩] h (ix2 r (Fin.castAdd 128 d)) = A (ix2 r d) := by
  refine concatenate_pair_apply_left (t := ⟨2, ![n, 256]⟩) (s₁ := ⟨2, ![n, 128]⟩) (s₂ := ⟨2, ![n, 128]⟩) (1 : Fin 2) _ _ _ _ rfl (ix2 r d) ?_
  intro a
  match a with
  | ⟨0, _⟩ => rfl
  | ⟨1, _⟩ => rfl

theorem cols_right {n : ℕ} (A B : FVec Ideal ⟨2, ![n, 128]⟩ .bf16)
    (h : Shape.Concatenates [⟨2, ![n, 128]⟩, ⟨2, ![n, 128]⟩] ⟨2, ![n, 256]⟩ 1) (r : Fin n) (d : Fin 128) :
    concatenate ⟨2, ![n, 256]⟩ 1 [⟨⟨2, ![n, 128]⟩, A⟩, ⟨⟨2, ![n, 128]⟩, B⟩] h (ix2 r (Fin.natAdd 128 d)) = B (ix2 r d) := by
  refine concatenate_pair_apply_right (t := ⟨2, ![n, 256]⟩) (s₁ := ⟨2, ![n, 128]⟩) (s₂ := ⟨2, ![n, 128]⟩) (1 : Fin 2) _ _ _ _ rfl rfl (ix2 r d) ?_ ?_
  · intro a ha
    match a with
    | ⟨0, _⟩ => rfl
    | ⟨1, _⟩ => exact absurd rfl ha
  · exact Nat.add_comm _ _

/-- The score of a key row against a query row: their product, and the gate columns picked. -/
def raw (pk : FVec Ideal S1024x128 .bf16) (k x : Fin 128 → EReal) (q : Fin 128 → EReal) (c : Fin 1024) : EReal :=
  ∑ d : Fin 128, k d * q d + ∑ d : Fin 128, x d * pk (ix2 c d)

theorem qp_left (pk : FVec Ideal S1024x128 .bf16) (q : Vec Ideal S1x1024x128 .bf16) (c : Fin 1024) (d : Fin 128) :
    k0_pay225 pk q (ix2 c (Fin.castAdd 128 d)) = q (ix3 (0 : Fin 1) c d) := by
  unfold k0_pay225
  refine (cols_left _ _ _ c d).trans ?_
  rw [shapeCast_1ab_ab_apply]

theorem qp_right (pk : FVec Ideal S1024x128 .bf16) (q : Vec Ideal S1x1024x128 .bf16) (c : Fin 1024) (d : Fin 128) :
    k0_pay225 pk q (ix2 c (Fin.natAdd 128 d)) = pk (ix2 c d) := by
  unfold k0_pay225
  exact cols_right _ _ _ c d

theorem sum256 (f : Fin 256 → EReal) : ∑ k, f k = ∑ d : Fin 128, f (Fin.castAdd 128 d) + ∑ d : Fin 128, f (Fin.natAdd 128 d) :=
  Fin.sum_univ_add (a := 128) (b := 128) f

theorem pay22_apply (pk : FVec Ideal S1024x128 .bf16) (q : Vec Ideal S1x1024x128 .bf16) (k x : Vec Ideal S1x512x128 .bf16)
    (r : Fin 512) (c : Fin 1024) :
    k0_pay22 (k0_pay225 pk q) k x (ix3 0 r c)
      = raw pk (fun d => k (ix3 (0 : Fin 1) r d)) (fun d => x (ix3 (0 : Fin 1) r d)) (fun d => q (ix3 (0 : Fin 1) c d)) c := by
  unfold k0_pay22
  rw [shapeCast_ab_1ab_apply]
  refine (Ideal.matmul_transposedRhs_apply _ _ _ _ r c).trans ?_
  rw [constant_apply, Ideal.ofBits_zero_f32, zero_add, sum256]
  unfold raw
  refine congrArg₂ (· + ·) (Finset.sum_congr rfl fun d _ => ?_) (Finset.sum_congr rfl fun d _ => ?_)
  · rw [qp_left]
    refine congrArg (· * _) ((cols_left _ _ _ r d).trans ?_)
    rw [shapeCast_1ab_ab_apply]
  · rw [qp_right]
    refine congrArg (· * _) ((cols_right _ _ _ r d).trans ?_)
    rw [shapeCast_1ab_ab_apply]

theorem sle_iota (a b : ℕ) (ha : a < 1024) (hb : b < 1024) :
    IntOp.cmpi .sle (BitVec.ofNat 32 a) (BitVec.ofNat 32 b) = if a ≤ b then 1#1 else 0#1 := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  by_cases h : a ≤ b
  · rw [if_pos h]; simp [IntOp.cmpi, BitVec.sle, h1, h2, h]
  · rw [if_neg h]; simp [IntOp.cmpi, BitVec.sle, h1, h2, h]

theorem pay227_apply (pk : FVec Ideal S1024x128 .bf16) (q : Vec Ideal S1x1024x128 .bf16) (k x : Vec Ideal S1x512x128 .bf16)
    (r : Fin 512) (c : Fin 1024) :
    k0_pay227 pk q k x (ix3 0 r c)
      = if r.val ≤ c.val then
          raw pk (fun d => k (ix3 (0 : Fin 1) r d)) (fun d => x (ix3 (0 : Fin 1) r d)) (fun d => q (ix3 (0 : Fin 1) c d)) c
        else ⊥ := by
  have hp := pay22_apply pk q k x r c
  unfold k0_pay22 at hp
  rw [shapeCast_ab_1ab_apply] at hp
  unfold k0_pay227
  rw [shapeCast_ab_1ab_apply, select_apply]
  show Scalar.select (IntOp.cmpi .sle (iota .tc S512x1024 32 [0] _ (ix2 r c)) (iota .tc S512x1024 32 [1] _ (ix2 r c))) _ _ = _
  rw [iota_single_apply, iota_single_apply]
  show Scalar.select (IntOp.cmpi .sle (BitVec.ofNat 32 r.val) (BitVec.ofNat 32 c.val)) _ _ = _
  rw [sle_iota _ _ (by omega) c.isLt]
  split
  · exact hp
  · exact neg_inf

theorem pay211_apply (pk : FVec Ideal S1024x128 .bf16) (q : Vec Ideal S1x1024x128 .bf16) (k x : Vec Ideal S1x512x128 .bf16)
    (r c : Fin 512) :
    k0_pay211 (k0_pay225 pk q) k x (ix3 0 r c)
      = if r.val ≤ c.val then
          raw pk (fun d => k (ix3 (0 : Fin 1) r d)) (fun d => x (ix3 (0 : Fin 1) r d))
            (fun d => q (ix3 (0 : Fin 1) ⟨512 + c.val, by omega⟩ d)) ⟨512 + c.val, by omega⟩
        else ⊥ := by
  unfold k0_pay211
  rw [shapeCast_ab_1ab_apply, select_apply]
  show Scalar.select (IntOp.cmpi .sle (iota .tc S512x512 32 [0] _ (ix2 r c)) (iota .tc S512x512 32 [1] _ (ix2 r c))) _ _ = _
  rw [iota_single_apply, iota_single_apply]
  show Scalar.select (IntOp.cmpi .sle (BitVec.ofNat 32 r.val) (BitVec.ofNat 32 c.val)) _ _ = _
  rw [sle_iota _ _ (by omega) (by omega)]
  split
  · refine (select_one _ _).trans ?_
    refine (Ideal.matmul_transposedRhs_apply _ _ _ _ r c).trans ?_
    rw [constant_apply, Ideal.ofBits_zero_f32, zero_add, sum256]
    unfold raw
    have hs : ∀ e : Fin 256, extractStridedSlice S512x256 ![512, 0] (k0_pay225 pk q) slices_S1024x256_o512_0_S512x256 (ix2 c e)
        = k0_pay225 pk q (ix2 (⟨512 + c.val, by omega⟩ : Fin 1024) e) := fun e => by
      refine extractStridedSlice_apply _ _ _ _ _ fun a => ?_
      match a with
      | ⟨0, _⟩ => rfl
      | ⟨1, _⟩ => exact (Nat.zero_add _).symm
    refine congrArg₂ (· + ·) (Finset.sum_congr rfl fun d _ => ?_) (Finset.sum_congr rfl fun d _ => ?_)
    · rw [hs, qp_left]
      refine congrArg (· * _) ((cols_left _ _ _ r d).trans ?_)
      rw [shapeCast_1ab_ab_apply]
    · rw [hs, qp_right]
      refine congrArg (· * _) ((cols_right _ _ _ r d).trans ?_)
      rw [shapeCast_1ab_ab_apply]
  · exact neg_inf

end Cert.Proof.Fox

end
-- ==== Proof.Online.lean ====
module

public import Idealize.ShloMosaic.PureOps.Ideal.Laws
public import Mathlib.Analysis.SpecialFunctions.Pow.Real

@[expose] public section

noncomputable section

/-! # The running softmax of one query over blocks of keys

A query `i` has, for the key at position `n`, the real score `S n` when `n ≤ i` and no score otherwise.  The three
running values (the maximum, the sum of the weights, the weighted sum of the values) are those of some real reference
point `M`: which one does not matter, since the quotient at the end does not depend on it. -/

namespace Cert.Proof.Online

open Idealize.ShloMosaic
open Finset

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert b s hb ih =>
    rw [Finset.sum_insert hb, Finset.sum_insert hb,
      EReal.left_distrib_of_nonneg_of_ne_top (EReal.coe_nonneg.2 ha) (EReal.coe_ne_top a), ih]

/-- The score of the key `n` for the query `i`. -/
def score (S : ℕ → ℝ) (i n : ℕ) : EReal := if n ≤ i then (S n : EReal) else ⊥

/-- Its weight from the reference point `M`. -/
def wt (S : ℕ → ℝ) (i : ℕ) (M : ℝ) (n : ℕ) : ℝ := if n ≤ i then Real.rpow 2 (S n - M) else 0

theorem wt_nonneg (S : ℕ → ℝ) (i : ℕ) (M : ℝ) (n : ℕ) : 0 ≤ wt S i M n := by
  unfold wt
  split
  · exact Real.rpow_nonneg (by norm_num) _
  · exact le_refl _

theorem exp2_score (S : ℕ → ℝ) (i : ℕ) (M : ℝ) (n : ℕ) : Ideal.exp2 (score S i n - (M : EReal)) = (wt S i M n : EReal) := by
  unfold score wt
  split
  · rw [← EReal.coe_sub]; rfl
  · simp

theorem wt_shift (S : ℕ → ℝ) (i : ℕ) (M M' : ℝ) (n : ℕ) : Real.rpow 2 (M - M') * wt S i M n = wt S i M' n := by
  unfold wt
  split
  · show (2 : ℝ) ^ (M - M') * (2 : ℝ) ^ (S n - M) = (2 : ℝ) ^ (S n - M')
    rw [← Real.rpow_add (by norm_num)]
    congr 1; ring
  · simp

/-- The three running values after the keys `lo ≤ n < hi`. -/
def Inv (S : ℕ → ℝ) (i : ℕ) (v : ℕ → EReal) (lo hi : ℕ) (m l a : EReal) : Prop :=
  ∃ M : ℝ, m = M ∧ l = ((∑ n ∈ Ico lo hi, wt S i M n : ℝ) : EReal) ∧ a = ∑ n ∈ Ico lo hi, (wt S i M n : EReal) * v n

theorem max_real (m : EReal) (hm : m ≠ ⊤) {N : ℕ} (x : Fin N → EReal) (hx : ∀ r, x r ≠ ⊤) (r0 : Fin N) (h0 : x r0 ≠ ⊥) :
    ∃ M : ℝ, max m ((univ : Finset (Fin N)).fold max ⊥ x) = M := by
  have h1 : (univ : Finset (Fin N)).fold max ⊥ x ≠ ⊤ := by
    have : (univ : Finset (Fin N)).fold max ⊥ x < ⊤ := by
      rw [Finset.fold_max_lt]
      exact ⟨bot_lt_top, fun r _ => lt_top_iff_ne_top.2 (hx r)⟩
    exact this.ne
  have h2 : (univ : Finset (Fin N)).fold max ⊥ x ≠ ⊥ := by
    have : ⊥ < (univ : Finset (Fin N)).fold max ⊥ x := by
      rw [Finset.lt_fold_max]
      exact Or.inr ⟨r0, mem_univ _, bot_lt_iff_ne_bot.2 h0⟩
    exact this.ne'
  have h3 : max m ((univ : Finset (Fin N)).fold max ⊥ x) ≠ ⊤ := by
    rcases max_choice m ((univ : Finset (Fin N)).fold max ⊥ x) with h | h <;> rw [h] <;> assumption
  have h4 : max m ((univ : Finset (Fin N)).fold max ⊥ x) ≠ ⊥ := by
    intro h
    have := le_max_right m ((univ : Finset (Fin N)).fold max ⊥ x)
    rw [h] at this
    exact h2 (le_bot_iff.1 this)
  exact ⟨_, (EReal.coe_toReal h3 h4).symm⟩

theorem sum_block {β : Type} [AddCommMonoid β] (f : ℕ → β) (lo hi N : ℕ) (h : lo ≤ hi) :
    ∑ n ∈ Ico lo (hi + N), f n = ∑ n ∈ Ico lo hi, f n + ∑ r : Fin N, f (hi + r) := by
  rw [← Finset.sum_Ico_consecutive f h (Nat.le_add_right hi N), Finset.sum_Ico_eq_sum_range f hi (hi + N), Nat.add_sub_cancel_left,
    Finset.sum_range (fun k => f (hi + k))]

/-- One block of keys. -/
theorem step_inv (S : ℕ → ℝ) (i : ℕ) (v : ℕ → EReal) (lo hi N : ℕ) (hlh : lo ≤ hi) (hN : 0 < N) (hi' : hi ≤ i)
    {m l a : EReal} (h : (lo = hi ∧ m = ⊥ ∧ l = 0 ∧ a = 0) ∨ Inv S i v lo hi m l a)
    (x : Fin N → EReal) (hx : ∀ r, x r = score S i (hi + r)) {m' l' a' : EReal}
    (hm : m' = max m ((univ : Finset (Fin N)).fold max ⊥ x))
    (hl : l' = Ideal.exp2 (m - m') * l + ∑ r, Ideal.exp2 (x r - m'))
    (ha : a' = Ideal.exp2 (m - m') * a + ∑ r : Fin N, v (hi + r) * Ideal.exp2 (x r - m')) :
    Inv S i v lo (hi + N) m' l' a' := by
  have hmt : m ≠ ⊤ := by
    rcases h with ⟨_, h, _⟩ | ⟨M, h, _⟩ <;> rw [h]
    · exact bot_ne_top
    · exact EReal.coe_ne_top _
  obtain ⟨M', hM'⟩ := max_real m hmt x (fun r => by
      rw [hx r]; unfold score; split
      · exact EReal.coe_ne_top _
      · exact bot_ne_top) ⟨0, hN⟩ (by
      rw [hx]; unfold score; rw [if_pos (by simpa using hi')]; exact EReal.coe_ne_bot _)
  rw [hM'] at hm
  refine ⟨M', hm, ?_, ?_⟩
  · rw [hl, hm, sum_block _ _ _ _ hlh, EReal.coe_add, coe_sum univ]
    congr 1
    · rcases h with ⟨e, h, h2, _⟩ | ⟨M, h, h2, _⟩
      · rw [h2, e]; simp
      · rw [h, h2, ← EReal.coe_sub, Ideal.exp2_coe, ← EReal.coe_mul, Finset.mul_sum]
        exact congrArg _ (Finset.sum_congr rfl fun n _ => wt_shift S i M M' n)
    · exact Finset.sum_congr rfl fun r _ => by rw [hx r, exp2_score]
  · rw [ha, hm, sum_block _ _ _ _ hlh]
    congr 1
    · rcases h with ⟨e, h, _, h2⟩ | ⟨M, h, _, h2⟩
      · rw [h2, e]; simp
      · rw [h, h2, ← EReal.coe_sub, Ideal.exp2_coe, mul_sum _ (Real.rpow 2 (M - M')) (Real.rpow_nonneg (by norm_num) _)]
        refine Finset.sum_congr rfl fun n _ => ?_
        rw [← mul_assoc, ← EReal.coe_mul, wt_shift]
    · exact Finset.sum_congr rfl fun r _ => by rw [hx r, exp2_score, mul_comm]

/-- The plain attention of one query: the keys `lo ≤ n ≤ i` of `N`, weights `exp (κ n)` over their sum. -/
def keep (κ : ℕ → ℝ) (lo i n : ℕ) : ℝ := if lo ≤ n ∧ n ≤ i then Real.exp (κ n) else 0

theorem keep_nonneg (κ : ℕ → ℝ) (lo i n : ℕ) : 0 ≤ keep κ lo i n := by
  unfold keep; split
  · exact (Real.exp_pos _).le
  · exact le_refl _

def plain (κ : ℕ → ℝ) (lo i N : ℕ) (v : ℕ → EReal) : EReal :=
  ∑ n : Fin N, ((keep κ lo i n / ∑ k : Fin N, keep κ lo i k : ℝ) : EReal) * v n

theorem total_pos (κ : ℕ → ℝ) (lo i N : ℕ) (h : lo ≤ i) (hN : i < N) : 0 < ∑ k : Fin N, keep κ lo i k := by
  refine Finset.sum_pos' (fun k _ => keep_nonneg κ lo i k) ⟨⟨i, hN⟩, mem_univ _, ?_⟩
  unfold keep
  rw [if_pos ⟨h, le_refl _⟩]
  exact Real.exp_pos _

theorem div_coe_pos (x : EReal) (r : ℝ) (h : 0 < r) : Ideal.div x (r : EReal) = ((r⁻¹ : ℝ) : EReal) * x := by
  unfold Ideal.div
  rw [if_neg (by exact_mod_cast h.ne'), mul_comm, EReal.coe_inv]

/-- The quotient of the running values, once every key up to the query has been met. -/
theorem ratio (S κ : ℕ → ℝ) (hS : ∀ n, S n = κ n / Real.log 2) (i : ℕ) (v : ℕ → EReal) (lo hi N : ℕ)
    (hlo : lo ≤ i) (hih : i < hi) (hN : hi ≤ N) {m l a : EReal} (h : Inv S i v lo hi m l a) :
    Ideal.div a l = plain κ lo i N v := by
  obtain ⟨M, -, hl, ha⟩ := h
  have hw : ∀ n, lo ≤ n → wt S i M n = Real.rpow 2 (-M) * keep κ lo i n := by
    intro n hn
    unfold wt keep
    by_cases h : n ≤ i
    · rw [if_pos h, if_pos ⟨hn, h⟩]
      show (2 : ℝ) ^ (S n - M) = (2 : ℝ) ^ (-M) * Real.exp (κ n)
      have : Real.exp (κ n) = (2 : ℝ) ^ (S n) := by
        rw [Real.rpow_def_of_pos (by norm_num), hS n, mul_div_cancel₀]
        exact (Real.log_pos (by norm_num)).ne'
      rw [this, ← Real.rpow_add (by norm_num)]
      congr 1; ring
    · rw [if_neg h, if_neg (fun h' => h h'.2)]; simp
  have hC : 0 < Real.rpow 2 (-M) := Real.rpow_pos_of_pos (by norm_num) _
  generalize Real.rpow 2 (-M) = C at hw hC
  have hsum : ∀ {β : Type} [AddCommMonoid β] (f : ℕ → β), (∀ n, keep κ lo i n = 0 → f n = 0) →
      ∑ n ∈ Ico lo hi, f n = ∑ n : Fin N, f n := by
    intro β _ f hf
    rw [← Finset.sum_range (fun n => f n)]
    refine Finset.sum_subset ?_ ?_
    · intro n hn
      rw [Finset.mem_Ico] at hn
      exact Finset.mem_range.2 (by omega)
    · intro n _ hn
      rw [Finset.mem_Ico] at hn
      refine hf n ?_
      unfold keep
      rw [if_neg (by omega)]
  have hl' : ∑ n ∈ Ico lo hi, wt S i M n = C * ∑ n : Fin N, keep κ lo i n := by
    rw [Finset.sum_congr rfl (fun n hn => hw n (Finset.mem_Ico.1 hn).1), hsum (fun n => C * keep κ lo i n)
      (fun n h => by simp [h]), Finset.mul_sum]
  have ha' : a = ∑ n : Fin N, ((C * keep κ lo i n : ℝ) : EReal) * v n := by
    rw [ha, ← hsum (fun n => ((C * keep κ lo i n : ℝ) : EReal) * v n) (fun n h => by simp [h])]
    exact Finset.sum_congr rfl (fun n hn => by rw [hw n (Finset.mem_Ico.1 hn).1])
  have hZ := total_pos κ lo i N hlo (by omega)
  rw [hl, hl', div_coe_pos _ _ (mul_pos hC hZ), ha', mul_sum _ _ (inv_nonneg.2 (mul_pos hC hZ).le)]
  unfold plain
  refine Finset.sum_congr rfl fun n _ => ?_
  rw [← mul_assoc, ← EReal.coe_mul]
  congr 2
  field_simp

/-- The plain softmax as the reference writes it, with its own maximum taken off. -/
theorem softmax (L κ : ℕ → ℝ) (c : ℝ) (hL : ∀ n, L n = κ n + c) (i lo N : ℕ) (hlo : lo ≤ i) (hN : i < N)
    (v : ℕ → EReal) (x e : Fin N → EReal) (hx : ∀ n : Fin N, x n = if lo ≤ n.val ∧ n.val ≤ i then (L n : EReal) else ⊥)
    (mx z : EReal) (hm : mx = max ⊥ ((univ : Finset (Fin N)).fold max ⊥ x))
    (he : ∀ n, e n = Ideal.exp (x n - mx)) (hz : z = 0 + ∑ n, e n) :
    ∑ n : Fin N, Ideal.div (e n) z * v n = plain κ lo i N v := by
  obtain ⟨M, hM⟩ := max_real ⊥ bot_ne_top x (fun r => by
      rw [hx r]; split
      · exact EReal.coe_ne_top _
      · exact bot_ne_top) ⟨i, hN⟩ (by
      rw [hx, if_pos ⟨hlo, le_refl _⟩]; exact EReal.coe_ne_bot _)
  rw [hM] at hm
  have hC : 0 < Real.exp (c - M) := Real.exp_pos _
  have he' : ∀ n : Fin N, e n = ((Real.exp (c - M) * keep κ lo i n : ℝ) : EReal) := by
    intro n
    rw [he n, hx n, hm]
    unfold keep
    split
    · rw [← EReal.coe_sub]
      show ((Real.exp (L n - M) : ℝ) : EReal) = _
      rw [← Real.exp_add, hL n]
      congr 2; ring
    · rw [mul_zero, EReal.bot_sub]; rfl
  generalize Real.exp (c - M) = C at he' hC
  have hz' : z = ((C * ∑ n : Fin N, keep κ lo i n : ℝ) : EReal) := by
    rw [hz, zero_add, Finset.mul_sum, coe_sum]
    exact Finset.sum_congr rfl fun n _ => he' n
  have hZ := total_pos κ lo i N hlo hN
  unfold plain
  refine Finset.sum_congr rfl fun n _ => ?_
  rw [he' n, hz', div_coe_pos _ _ (mul_pos hC hZ), ← EReal.coe_mul]
  congr 2
  field_simp

end Cert.Proof.Online

end
-- ==== Proof.Pairs.lean ====
module

public import proofs.«01_k».proof.Proof.Col
public import proofs.«01_k».proof.Proof.Online

@[expose] public section

set_option maxRecDepth 8192
set_option maxHeartbeats 1000000

noncomputable section

/-! # A pair of query blocks, read at one query and one feature, is the plain attention of that query -/

namespace Cert.Proof.Fox

open Cert.KernelIdeal Cert.KernelIdeal.Gen
open Idealize.ShloMosaic Idealize.ShloMosaic.ValueIdx
open Cert.Proof.Online

attribute [local instance] Cert.KernelIdeal.Gen.facts

variable (pk : FVec Ideal S1024x128 .bf16) (Q K V X : Rows Ideal)

/-- A row of an array by its position. -/
def row (A : Rows Ideal) (n : ℕ) (d : Fin 128) : EReal := A (ix3 (0 : Fin 1) ⟨n % 8192, Nat.mod_lt _ (by decide)⟩ d)

theorem blk_row (A : Rows Ideal) (j : ℕ) (r : Fin 512) (d : Fin 128) :
    blk A j (ix3 (0 : Fin 1) r d) = row A (512 * j + r.val) d := rfl

theorem qblk_row (A : Rows Ideal) (g : ℕ) (c : Fin 1024) (d : Fin 128) :
    qblk A g (ix3 (0 : Fin 1) c d) = row A (1024 * g + c.val) d := rfl

/-- The score of the key at `n` against query `c` of pair `g`. -/
def rawAt (g : ℕ) (c : Fin 1024) (n : ℕ) : EReal := raw pk (row K n) (row X n) (row Q (1024 * g + c.val)) c

theorem sc_apply (g l j : ℕ) (hj : l + j ≤ 2 * g) (c : Fin 1024) (S : ℕ → ℝ)
    (hS : ∀ n, rawAt pk Q K X g c n = (S n : EReal)) (r : Fin 512) :
    sc pk Q K X g l j (ix3 (0 : Fin 1) r c) = score S (1024 * g + c.val) (512 * (l + j) + r.val) := by
  unfold score
  rcases Nat.lt_or_ge (l + j) (2 * g) with h | h
  · rw [sc_full pk Q K X h, if_pos (by omega), ← hS]
    exact pay22_apply pk (qblk Q g) _ _ r c
  · have h' : l + j = 2 * g := by omega
    rw [sc_diag pk Q K X h', h']
    refine (pay227_apply pk (qblk Q g) _ _ r c).trans ?_
    by_cases hc : r.val ≤ c.val
    · rw [if_pos hc, if_pos (by omega), ← hS]; rfl
    · rw [if_neg hc, if_neg (by omega)]

theorem lateSc_apply (g : ℕ) (c : Fin 512) (S : ℕ → ℝ)
    (hS : ∀ n, rawAt pk Q K X g ⟨512 + c.val, by omega⟩ n = (S n : EReal)) (r : Fin 512) :
    lateSc pk Q K X g (ix3 (0 : Fin 1) r c) = score S (1024 * g + (512 + c.val)) (512 * (2 * g + 1) + r.val) := by
  unfold score lateSc qp
  refine (pay211_apply pk (qblk Q g) _ _ r c).trans ?_
  by_cases hc : r.val ≤ c.val
  · rw [if_pos hc, if_pos (by omega), ← hS]; rfl
  · rw [if_neg hc, if_neg (by omega)]

/-- The state after the first `j` blocks. -/
theorem stAt_inv (g l : ℕ) (hl : l ≤ 2 * g) (c : Fin 1024) (d : Fin 128) (S : ℕ → ℝ)
    (hS : ∀ n, rawAt pk Q K X g c n = (S n : EReal)) (j : ℕ) (hj : l + j ≤ 2 * g + 1) :
    (512 * l = 512 * (l + j) ∧ (stAt pk Q K V X g l j).m (ix2 0 c) = ⊥ ∧ (stAt pk Q K V X g l j).l (ix2 0 c) = 0
      ∧ (stAt pk Q K V X g l j).acc (ix2 d c) = 0)
    ∨ Inv S (1024 * g + c.val) (fun n => row V n d) (512 * l) (512 * (l + j)) ((stAt pk Q K V X g l j).m (ix2 0 c))
        ((stAt pk Q K V X g l j).l (ix2 0 c)) ((stAt pk Q K V X g l j).acc (ix2 d c)) := by
  induction j with
  | zero =>
    refine Or.inl ⟨rfl, neg_inf, Ideal.ofBits_zero_f32, ?_⟩
    show k0_pay226 (F := Ideal) (ix2 d c) = 0
    unfold k0_pay226
    rw [shapeCast_self]
    exact Ideal.ofBits_zero_f32
  | succ j ih =>
    refine Or.inr ?_
    have h := step_inv S (1024 * g + c.val) (fun n => row V n d) (512 * l) (512 * (l + j)) 512 (by omega) (by omega)
      (by omega) (ih (by omega)) (fun r => sc pk Q K X g l j (ix3 (0 : Fin 1) r c))
      (fun r => sc_apply pk Q K X g l j (by omega) c S hS r)
      (m' := (stAt pk Q K V X g l (j + 1)).m (ix2 0 c)) (l' := (stAt pk Q K V X g l (j + 1)).l (ix2 0 c))
      (a' := (stAt pk Q K V X g l (j + 1)).acc (ix2 d c))
      (pay24_apply _ _ c)
      (by
        refine (pay27_apply _ _ _ c).trans ?_
        rw [pay25_apply]
        refine congrArg₂ (· + ·) rfl (Finset.sum_congr rfl fun r _ => ?_)
        exact pay26_apply _ _ r c)
      (by
        refine (pay28_apply _ _ _ _ d c).trans ?_
        rw [pay25_apply]
        refine congrArg₂ (· + ·) rfl (Finset.sum_congr rfl fun r _ => ?_)
        rw [pay26_apply]
        exact congrArg (· * _) (blk_row V (l + j) r d))
    rw [show 512 * (l + (j + 1)) = 512 * (l + j) + 512 by ring]
    exact h

/-- One pair's output row. -/
theorem outG_apply (g l : ℕ) (hl : l ≤ 2 * g) (hg : g < 8) (c : Fin 1024) (d : Fin 128) (S κ : ℕ → ℝ)
    (hS : ∀ n, rawAt pk Q K X g c n = (S n : EReal)) (hκ : ∀ n, S n = κ n / Real.log 2) :
    outG pk Q K V X g l (ix3 (0 : Fin 1) c d) = plain κ (512 * l) (1024 * g + c.val) 8192 (fun n => row V n d) := by
  have hI := (stAt_inv pk Q K V X g l hl c d S hS (2 * g - l + 1) (by omega)).resolve_left (fun h => by omega)
  rw [show l + (2 * g - l + 1) = 2 * g + 1 by omega] at hI
  unfold outG
  rw [pay21_apply]
  rcases Nat.lt_or_ge c.val 512 with hc | hc
  · rw [lateL_left _ _ c hc, lateAcc_left _ _ _ d c hc]
    exact ratio S κ hκ _ _ _ _ 8192 (by omega) (by omega) (by omega) hI
  · obtain ⟨c', rfl⟩ : ∃ c' : Fin 512, c = ⟨512 + c'.val, Nat.add_lt_add_left c'.isLt 512⟩ :=
      ⟨⟨c.val - 512, by omega⟩, Fin.ext (by show c.val = 512 + (c.val - 512); omega)⟩
    rw [lateL_right, lateAcc_right]
    refine ratio S κ hκ (1024 * g + (512 + c'.val)) _ (512 * l) (512 * (2 * g + 1) + 512) 8192 (by omega) (by omega) (by omega)
      (m := k0_pay220 (stAt pk Q K V X g l (2 * g - l + 1)).m (lateSc pk Q K X g) (ix2 0 c')) ?_
    refine step_inv S (1024 * g + (512 + c'.val)) (fun n => row V n d) (512 * l) (512 * (2 * g + 1)) 512 (by omega) (by omega)
      (by omega) (Or.inr hI) (fun r => lateSc pk Q K X g (ix3 (0 : Fin 1) r c'))
      (fun r => lateSc_apply pk Q K X g c' S hS r) (pay220_apply _ _ c') ?_ ?_
    · refine (pay223_apply _ _ _ c').trans ?_
      rw [pay221_apply]
      refine congrArg₂ (· + ·) rfl (Finset.sum_congr rfl fun r _ => ?_)
      exact pay222_apply _ _ r c'
    · refine (pay224_apply _ _ _ _ d c').trans ?_
      rw [pay221_apply]
      refine congrArg₂ (· + ·) rfl (Finset.sum_congr rfl fun r _ => ?_)
      rw [pay222_apply]
      exact congrArg (· * _) (blk_row V (2 * g + 1) r d)

end Cert.Proof.Fox

end
-- ==== Proof.HostK.lean ====
module

public import proofs.«01_k».proof.Proof.Launch
public import proofs.«01_k».proof.Proof.Pairs

@[expose] public section

set_option maxRecDepth 8192
set_option maxHeartbeats 1000000

noncomputable section

/-! # What the kernel's arrays hold, in terms of the arguments -/

namespace Cert.Proof.Fox

open Cert.KernelIdeal Cert.KernelIdeal.Gen
open Idealize.ShloMosaic Idealize.ShloMosaic.TcCoe Idealize.ShloMosaic.ValueIdx
open Cert.Proof.Online

attribute [local instance] Cert.KernelIdeal.Gen.facts

variable (m : (ℓ : Loc nD τ sig) → Buf (Elt Ideal) ℓ) (c : Dev nD)

theorem one_bits : Ideal.ofBits .f32 0x3F800000#32 = ((1 : ℝ) : EReal) := by
  simp [Ideal.ofBits, Ideal.ieee]
  rw [← EReal.coe_mul, ← EReal.coe_one]; exact congrArg _ (by norm_num)
theorem two_bits : Ideal.ofBits .f32 0x40000000#32 = ((2 : ℝ) : EReal) := by
  simp [Ideal.ofBits, Ideal.ieee]
  rw [← EReal.coe_mul]; exact congrArg _ (by norm_num)
theorem wide_bits : Ideal.ofBits .f32 0x43000000#32 = ((128 : ℝ) : EReal) := by
  simp [Ideal.ofBits, Ideal.ieee]
  rw [← EReal.coe_mul]; exact congrArg _ (by norm_num)

/-- The logarithm's factor, and the scale the queries take. -/
def lg : ℝ := (Real.log 2)⁻¹
def scl : ℝ := lg * (Real.sqrt 128)⁻¹

theorem log2_pos : 0 < Real.log 2 := Real.log_pos (by norm_num)

theorem lg_val : Ideal.div (Ideal.ofBits .f32 0x3F800000#32) (Ideal.log (Ideal.ofBits .f32 0x40000000#32)) = (lg : EReal) := by
  rw [one_bits, two_bits]
  have : Ideal.log ((2 : ℝ) : EReal) = (Real.log 2 : EReal) := by
    show (if (2 : ℝ) ≤ 0 then ⊥ else (Real.log 2 : EReal)) = _
    rw [if_neg (by norm_num)]
  rw [this, div_coe_pos _ _ log2_pos, ← EReal.coe_mul, mul_one]; rfl

theorem sqrt_val : Ideal.sqrt (Ideal.ofBits .f32 0x43000000#32) = (Real.sqrt 128 : EReal) := by
  rw [wide_bits]
  show (if (128 : ℝ) < 0 then ⊥ else (Real.sqrt 128 : EReal)) = _
  rw [if_neg (by norm_num)]

theorem sqrt_pos128 : 0 < Real.sqrt 128 := Real.sqrt_pos.2 (by norm_num)

theorem scl_val : Ideal.div (lg : EReal) (Ideal.sqrt (Ideal.ofBits .f32 0x43000000#32)) = (scl : EReal) := by
  rw [sqrt_val, div_coe_pos _ _ sqrt_pos128, ← EReal.coe_mul, mul_comm]; rfl

/-- The arguments, as arrays of extended reals. -/
def argQ : S4x8192x1024.Idx → EReal := m ((c : Thread nD τ).loc main_arg1)
def argK : S4x8192x1024.Idx → EReal := m ((c : Thread nD τ).loc main_arg2)
def argV : S4x8192x8192.Idx → EReal := m ((c : Thread nD τ).loc main_arg3)
def argF : S4x8x8192.Idx → EReal := m ((c : Thread nD τ).loc main_arg4)

theorem v6_apply (j : S4x8192x1024.Idx) : VV m c main_v6 j = argQ m c j * (scl : EReal) := by
  rw [← scl_val, ← lg_val]; rfl

theorem v7_apply (j : S4x8192x1024.Idx) : VV m c main_v7 j = argK m c j := rfl

/-- The gate in the logarithm's units, of the other sign. -/
def gate (b : Fin 4) (n : Fin 8192) (h : Fin 8) : EReal := argF m c (ix3 b h n) * -(lg : EReal)

/-- The gate's three parts: rounded, its remainder, and the remainder of that. -/
def hiP : S4x8192x8.Idx → EReal := VV m c main_v11
def midP : S4x8192x8.Idx → EReal := VV m c main_v16
def loP : S4x8192x8.Idx → EReal := VV m c main_v18

theorem v11_apply (b : Fin 4) (n : Fin 8192) (h : Fin 8) : hiP m c (ix3 b n h) = gate m c b n h := by
  unfold gate
  rw [← lg_val]
  refine congrArg₂ (fun x y : EReal => x * y) (x := VV m c main_v8 (ix3 b n h)) ?_ rfl
  refine transpose_apply (s := S4x8x8192) (t := S4x8192x8) [0, 2, 1] (argF m c) _ _ _ fun a => ?_
  match a with
  | ⟨0, _⟩ => rfl
  | ⟨1, _⟩ => rfl
  | ⟨2, _⟩ => rfl

theorem midP_apply (j : S4x8192x8.Idx) : midP m c j = hiP m c j - hiP m c j := rfl
theorem loP_apply (j : S4x8192x8.Idx) : loP m c j = (hiP m c j - hiP m c j) - (hiP m c j - hiP m c j) := rfl

theorem v22_eq (j : S4x8192x128.Idx) : VV m c main_v22 j
    = concatenate (α := EReal) S4x8192x128 2 [⟨S4x8192x8, hiP m c⟩, ⟨S4x8192x32, VV m c main_v19⟩, ⟨S4x8192x8, midP m c⟩,
        ⟨S4x8192x8, loP m c⟩, ⟨S4x8192x72, VV m c main_v20⟩] concatenates_S4x8192x8_S4x8192x32_S4x8192x8_S4x8192x8_S4x8192x72_S4x8192x128_d2 j := rfl

theorem v22_hi (b : Fin 4) (n : Fin 8192) (h : Fin 8) (e : Fin 128) (he : e.val = h.val) :
    VV m c main_v22 (ix3 b n e) = hiP m c (ix3 b n h) := by
  rw [v22_eq]
  refine concatenate_apply_piece (t := S4x8192x128) (2 : Fin 3) _ _ _ 0 (by simp) S4x8192x8 _ rfl rfl 0 rfl (ix3 b n h) ?_ ?_
  · intro a ha
    match a with
    | ⟨0, _⟩ => rfl
    | ⟨1, _⟩ => rfl
    | ⟨2, _⟩ => exact absurd rfl ha
  · exact (Nat.zero_add _).trans he.symm

theorem v22_mid (b : Fin 4) (n : Fin 8192) (h : Fin 8) (e : Fin 128) (he : e.val = 40 + h.val) :
    VV m c main_v22 (ix3 b n e) = midP m c (ix3 b n h) := by
  rw [v22_eq]
  refine concatenate_apply_piece (t := S4x8192x128) (2 : Fin 3) _ _ _ 2 (by simp) S4x8192x8 _ rfl rfl 40 rfl (ix3 b n h) ?_ ?_
  · intro a ha
    match a with
    | ⟨0, _⟩ => rfl
    | ⟨1, _⟩ => rfl
    | ⟨2, _⟩ => exact absurd rfl ha
  · exact he.symm

theorem v22_lo (b : Fin 4) (n : Fin 8192) (h : Fin 8) (e : Fin 128) (he : e.val = 48 + h.val) :
    VV m c main_v22 (ix3 b n e) = loP m c (ix3 b n h) := by
  rw [v22_eq]
  refine concatenate_apply_piece (t := S4x8192x128) (2 : Fin 3) _ _ _ 3 (by simp) S4x8192x8 _ rfl rfl 48 rfl (ix3 b n h) ?_ ?_
  · intro a ha
    match a with
    | ⟨0, _⟩ => rfl
    | ⟨1, _⟩ => rfl
    | ⟨2, _⟩ => exact absurd rfl ha
  · exact he.symm

/-! ## The columns picked -/

theorem pick_word : ∀ (h : Fin 8) (e : Fin 128),
    (IntOp.ori (IntOp.ori (IntOp.cmpi .eq (BitVec.ofNat 32 e.val) (Scalar.addi 0#32 (BitVec.ofNat 32 h.val)))
        (IntOp.cmpi .eq (BitVec.ofNat 32 e.val) (Scalar.addi 40#32 (BitVec.ofNat 32 h.val))))
      (IntOp.cmpi .eq (BitVec.ofNat 32 e.val) (Scalar.addi 48#32 (BitVec.ofNat 32 h.val))))
    = if e.val = h.val ∨ e.val = 40 + h.val ∨ e.val = 48 + h.val then 1#1 else 0#1 := by decide +kernel

theorem pay1_apply (i : grid0.Coords) (r : Fin 1024) (e : Fin 128) :
    k0_pay1 (F := Ideal) i (ix2 r e)
      = if e.val = (i 1).val ∨ e.val = 40 + (i 1).val ∨ e.val = 48 + (i 1).val then (1 : EReal) else 0 := by
  have hw := pick_word (i 1) e
  unfold k0_pay1
  rw [truncf_apply, select_apply]
  show Scalar.select (IntOp.ori (IntOp.ori (IntOp.cmpi .eq (iota .tc S1024x128 32 [1] _ (ix2 r e)) _)
    (IntOp.cmpi .eq (iota .tc S1024x128 32 [1] _ (ix2 r e)) _)) (IntOp.cmpi .eq (iota .tc S1024x128 32 [1] _ (ix2 r e)) _)) _ _ = _
  rw [iota_single_apply]
  refine (congrArg (fun w => Scalar.select w _ _) hw).trans ?_
  split
  · exact one_bits.trans EReal.coe_one
  · exact Ideal.ofBits_zero_f32

theorem pick_sum (i : grid0.Coords) (r : Fin 1024) (x : Fin 128 → EReal) (a b c : EReal)
    (ha : ∀ e : Fin 128, e.val = (i 1).val → x e = a) (hb : ∀ e : Fin 128, e.val = 40 + (i 1).val → x e = b)
    (hc : ∀ e : Fin 128, e.val = 48 + (i 1).val → x e = c) :
    ∑ e : Fin 128, x e * k0_pay1 (F := Ideal) i (ix2 r e) = a + (b + c) := by
  have hi : (i 1).val < 8 := (i 1).isLt
  have h0 : ∀ e : Fin 128, x e * k0_pay1 (F := Ideal) i (ix2 r e)
      = if e.val = (i 1).val ∨ e.val = 40 + (i 1).val ∨ e.val = 48 + (i 1).val then x e else 0 := fun e => by
    rw [pay1_apply]
    split
    · exact mul_one _
    · exact mul_zero _
  rw [Finset.sum_congr rfl fun e _ => h0 e]
  rw [← Finset.sum_subset (Finset.subset_univ
    ({(⟨(i 1).val, by omega⟩ : Fin 128), ⟨40 + (i 1).val, by omega⟩, ⟨48 + (i 1).val, by omega⟩} : Finset (Fin 128)))]
  · rw [Finset.sum_insert, Finset.sum_insert, Finset.sum_singleton, if_pos (Or.inl rfl), if_pos (Or.inr (Or.inl rfl)),
      if_pos (Or.inr (Or.inr rfl)), ha _ rfl, hb _ rfl, hc _ rfl]
    · simp only [Finset.mem_singleton, Fin.mk.injEq]; omega
    · simp only [Finset.mem_insert, Finset.mem_singleton, Fin.mk.injEq]; omega
  · intro e _ he
    refine if_neg fun h => he ?_
    simp only [Finset.mem_insert, Finset.mem_singleton, Fin.ext_iff]
    exact h

end Cert.Proof.Fox

end
-- ==== Proof.ValK.lean ====
module

public import proofs.«01_k».proof.Proof.HostK

@[expose] public section

set_option maxRecDepth 8192
set_option maxHeartbeats 1000000

noncomputable section

/-! # The kernel's result at finite queries, keys and gates is the plain attention -/

namespace Cert.Proof.Fox

open Cert.KernelIdeal Cert.KernelIdeal.Gen
open Idealize.ShloMosaic Idealize.ShloMosaic.TcCoe Idealize.ShloMosaic.ValueIdx
open Cert.Proof.Online

attribute [local instance] Cert.KernelIdeal.Gen.facts

/-- Feature `d` of head `h` at position `n` of batch `b`. -/
def at3 (b : Fin 4) (n : ℕ) (h : Fin 8) (d : Fin 128) : (⟨3, ![4, 8192, 1024]⟩ : Shape).Idx :=
  ix3 b ⟨n % 8192, Nat.mod_lt _ (by decide)⟩ ⟨128 * h.val + d.val, by omega⟩

/-- The logit of query `q` and key `n`, without the query's own gate. -/
def kap (qr kr : (⟨3, ![4, 8192, 1024]⟩ : Shape).Idx → ℝ) (fr : (⟨3, ![4, 8, 8192]⟩ : Shape).Idx → ℝ) (b : Fin 4) (h : Fin 8)
    (q n : ℕ) : ℝ :=
  (∑ d : Fin 128, qr (at3 b q h d) * kr (at3 b n h d)) / Real.sqrt 128
    - fr (ix3 b h ⟨n % 8192, Nat.mod_lt _ (by decide)⟩)

/-- The same in powers of two, as the kernel forms it. -/
def skap (qr kr : (⟨3, ![4, 8192, 1024]⟩ : Shape).Idx → ℝ) (fr : (⟨3, ![4, 8, 8192]⟩ : Shape).Idx → ℝ) (b : Fin 4) (h : Fin 8)
    (q n : ℕ) : ℝ :=
  ∑ d : Fin 128, kr (at3 b n h d) * (qr (at3 b q h d) * scl) + fr (ix3 b h ⟨n % 8192, Nat.mod_lt _ (by decide)⟩) * -lg

theorem skap_eq (qr kr : (⟨3, ![4, 8192, 1024]⟩ : Shape).Idx → ℝ) (fr : (⟨3, ![4, 8, 8192]⟩ : Shape).Idx → ℝ) (b : Fin 4)
    (h : Fin 8) (q n : ℕ) : skap qr kr fr b h q n = kap qr kr fr b h q n / Real.log 2 := by
  unfold skap kap
  have hs : ∑ d : Fin 128, kr (at3 b n h d) * (qr (at3 b q h d) * scl) = (∑ d : Fin 128, qr (at3 b q h d) * kr (at3 b n h d)) * scl := by
    rw [Finset.sum_mul]
    exact Finset.sum_congr rfl fun d _ => by ring
  rw [hs]
  unfold scl lg
  ring

/-- A grid point by its batch and head. -/
def pt (b : Fin 4) (h : Fin 8) : grid0.Coords := fun | ⟨0, _⟩ => b | ⟨1, _⟩ => h

theorem row_head {w : ℕ} (A : (⟨3, ![4, 8192, w]⟩ : Shape).Idx → Elt Ideal .bf16) (hw : 0 < w) (b : Fin 4) (col : ℕ) (n : ℕ)
    (d : Fin 128) (hc : 128 * col + d.val < w) :
    row (headRows A hw b.val col) n d = A (ix3 b ⟨n % 8192, Nat.mod_lt _ (by decide)⟩ ⟨128 * col + d.val, hc⟩) := by
  unfold row headRows
  refine congrArg A ?_
  have h0 : (⟨b.val % 4, Nat.mod_lt _ (by decide)⟩ : Fin 4) = b := Fin.ext (Nat.mod_eq_of_lt b.isLt)
  have h1 : (⟨(128 * col + d.val) % w, Nat.mod_lt _ hw⟩ : Fin w) = ⟨128 * col + d.val, hc⟩ := Fin.ext (Nat.mod_eq_of_lt hc)
  exact congrArg₂ (fun x y => ix3 x _ y) h0 h1

variable (m : (ℓ : Loc nD τ sig) → Buf (Elt Ideal) ℓ) (c : Dev nD)
variable (qr kr : (⟨3, ![4, 8192, 1024]⟩ : Shape).Idx → ℝ) (fr : (⟨3, ![4, 8, 8192]⟩ : Shape).Idx → ℝ)

theorem rawAt_real (hq : ∀ j, argQ m c j = (qr j : EReal)) (hk : ∀ j, argK m c j = (kr j : EReal))
    (hf : ∀ j, argF m c j = (fr j : EReal)) (b : Fin 4) (h : Fin 8) (g : ℕ) (cc : Fin 1024) (n : ℕ) :
    rawAt (k0_pay1 (pt b h)) (headRows (VV m c main_v6) (by decide) b.val h.val) (headRows (VV m c main_v7) (by decide) b.val h.val)
      (headRows (VV m c main_v22) (by decide) b.val 0) g cc n = (skap qr kr fr b h (1024 * g + cc.val) n : EReal) := by
  unfold rawAt raw skap
  rw [EReal.coe_add]
  refine congrArg₂ (· + ·) ?_ ?_
  · rw [coe_sum]
    refine Finset.sum_congr rfl fun d _ => ?_
    rw [row_head (VV m c main_v7) _ b h.val n d (by omega), row_head (VV m c main_v6) _ b h.val _ d (by omega), EReal.coe_mul, EReal.coe_mul]
    refine congrArg₂ (fun x y : EReal => x * y) ?_ ?_
    · exact (v7_apply m c _).trans (hk _)
    · exact (v6_apply m c _).trans (congrArg (fun x : EReal => x * (scl : EReal)) (hq _))
  · have hg : hiP m c (ix3 b ⟨n % 8192, Nat.mod_lt _ (by decide)⟩ h)
        = ((fr (ix3 b h ⟨n % 8192, Nat.mod_lt _ (by decide)⟩) * -lg : ℝ) : EReal) := by
      rw [v11_apply]
      unfold gate
      rw [hf, EReal.coe_mul, EReal.coe_neg]
    have hcol : ∀ e : Fin 128, row (headRows (VV m c main_v22) (by decide) b.val 0) n e
        = VV m c main_v22 (ix3 b ⟨n % 8192, Nat.mod_lt _ (by decide)⟩ e) := fun e => by
      rw [row_head (VV m c main_v22) _ b 0 n e (by omega)]
      refine congrArg (VV m c main_v22) (congrArg (ix3 _ _) (Fin.ext ?_))
      show 128 * 0 + e.val = e.val
      omega
    refine (pick_sum (pt b h) cc _ (hiP m c (ix3 b ⟨n % 8192, Nat.mod_lt _ (by decide)⟩ h))
      (midP m c (ix3 b ⟨n % 8192, Nat.mod_lt _ (by decide)⟩ h)) (loP m c (ix3 b ⟨n % 8192, Nat.mod_lt _ (by decide)⟩ h))
      (fun e he => (hcol e).trans (v22_hi m c b _ h e he)) (fun e he => (hcol e).trans (v22_mid m c b _ h e he))
      (fun e he => (hcol e).trans (v22_lo m c b _ h e he))).trans ?_
    rw [loP_apply, midP_apply, hg, ← EReal.coe_sub, ← EReal.coe_sub, ← EReal.coe_add, ← EReal.coe_add]
    exact congrArg _ (by ring)

theorem result_pt (b : Fin 4) (n : Fin 8192) (h : Fin 8) (d : Fin 128) :
    result m c (ix3 b n ⟨128 * h.val + d.val, by omega⟩) = outP m c (pt b h) (ix3 0 n d) := by
  unfold result
  refine congrArg₂ (fun x y => outP m c x y) ?_ ?_
  · funext a
    match a with
    | ⟨0, _⟩ => rfl
    | ⟨1, _⟩ => exact Fin.ext (show (128 * h.val + d.val) / 128 = h.val by omega)
  · refine congrArg (ix3 _ _) (Fin.ext ?_)
    show (128 * h.val + d.val) % 128 = d.val
    omega

theorem lo_le (hT : TableOk (tb m)) (b : Fin 4) (h : Fin 8) (g : ℕ) (hg : g < 8) : loAt (tb m) (pt b h) g ≤ 2 * g := by
  have := hT ⟨8 * b.val + h.val, by omega⟩ ⟨g, hg⟩
  unfold loAt
  have e1 : (⟨(8 * b.val + h.val) % 32, Nat.mod_lt _ (by decide)⟩ : Fin 32) = ⟨8 * b.val + h.val, by omega⟩ :=
    Fin.ext (Nat.mod_eq_of_lt (by omega))
  have e2 : (⟨(2 * g) % 16, Nat.mod_lt _ (by decide)⟩ : Fin 16) = ⟨2 * g, by omega⟩ := Fin.ext (Nat.mod_eq_of_lt (by omega))
  show BitVec.toNat (w := 32) (tb m (ix2 (⟨(8 * b.val + h.val) % 32, Nat.mod_lt _ (by decide)⟩ : Fin 32)
    (⟨(2 * g) % 16, Nat.mod_lt _ (by decide)⟩ : Fin 16))) ≤ 2 * g
  rw [e1, e2]
  exact this

theorem result_apply (hT : TableOk (tb m)) (hq : ∀ j, argQ m c j = (qr j : EReal)) (hk : ∀ j, argK m c j = (kr j : EReal))
    (hf : ∀ j, argF m c j = (fr j : EReal)) (b : Fin 4) (n : Fin 8192) (h : Fin 8) (d : Fin 128) :
    (result m c (ix3 b n ⟨128 * h.val + d.val, by omega⟩) : EReal)
      = plain (kap qr kr fr b h n.val) (512 * loAt (tb m) (pt b h) (n.val / 1024)) n.val 8192
          (fun k => argV m c (ix3 b ⟨k % 8192, Nat.mod_lt _ (by decide)⟩ ⟨128 * (16 + h.val) + d.val, by omega⟩)) := by
  rw [result_pt]
  have hn : 1024 * (n.val / 1024) + n.val % 1024 = n.val := Nat.div_add_mod _ _
  have hv := outG_apply (k0_pay1 (pt b h)) (headRows (VV m c main_v6) (by decide) b.val h.val)
    (headRows (VV m c main_v7) (by decide) b.val h.val) (headRows (VV m c main_arg3) (by decide) b.val (16 + h.val))
    (headRows (VV m c main_v22) (by decide) b.val 0) (n.val / 1024) (loAt (tb m) (pt b h) (n.val / 1024))
    (lo_le m hT b h _ (by omega)) (by omega) ⟨n.val % 1024, Nat.mod_lt _ (by decide)⟩ d
    (skap qr kr fr b h n.val) (kap qr kr fr b h n.val)
    (fun k => by
      rw [rawAt_real m c qr kr fr hq hk hf]
      exact congrArg (fun x => ((skap qr kr fr b h x k : ℝ) : EReal)) hn)
    (fun k => skap_eq qr kr fr b h n.val k)
  refine (show _ = _ from hv).trans ?_
  rw [show 1024 * (n.val / 1024) + (⟨n.val % 1024, Nat.mod_lt _ (by decide)⟩ : Fin 1024).val = n.val from hn]
  refine congrArg (plain _ _ _ _) (funext fun k => ?_)
  rw [row_head (VV m c main_arg3) _ b (16 + h.val) k d (by omega)]
  rfl

end Cert.Proof.Fox

end
-- ==== Proof.RefV.lean ====
module

public import proofs.«01_k».proof.Proof.Gen.ReferenceIdeal.Run
public import proofs.«01_k».proof.Proof.ValK
public import proofs.«01_k».proof.Proof.Pre
public import Idealize.ShloMosaic.Lib.IdealHost
public import Idealize.ShloMosaic.Lib.KernelVsHost

@[expose] public section

set_option maxRecDepth 8192
set_option maxHeartbeats 1000000

noncomputable section

/-! # The reference's result at finite queries, keys and gates is the plain attention -/

namespace Cert.Proof.Ref

open Cert.ReferenceIdeal Cert.ReferenceIdeal.Gen
open Idealize.ShloMosaic Idealize.ShloMosaic.TcCoe Idealize.ShloMosaic.ValueIdx
open Cert.Proof.Online Cert.Proof.Fox

attribute [local instance] Cert.ReferenceIdeal.Gen.facts

variable (T : IVec S32x16 32) (q k : FVec Ideal S4x8192x1024 .f32) (v : FVec Ideal S4x8192x8192 .bf16) (f : FVec Ideal S4x8x8192 .f32)

/-- The features of a position, split into heads. -/
def heads (q : FVec Ideal S4x8192x1024 .f32) : FVec Ideal S4x8x8192x128 .f32 :=
  transpose S4x8x8192x128 [0, 2, 1, 3] (shapeCast _ q shapeCasts_S4x8192x1024_S4x8192x8x128) transposes_S4x8192x8x128_S4x8x8192x128_0_2_1_3

/-- The first key each query takes. -/
def starts : IVec S4x8x8192 32 :=
  shapeCast S4x8x8192 (broadcastInDim S4x8x8x1024 ![0, 1, 2] bcast_S4x8x8_S4x8x8x1024_0_1_2 (muli (broadcastInDim S4x8x8 ![] bcast_S_S4x8x8 (constantI S_ 32 512#32)) (shapeCast _ (extractStridedSlice S4x8x8x1 ![0, 0, 0, 0] (shapeCast _ T shapeCasts_S32x16_S4x8x8x2) slices_S4x8x8x2_S4x8x8x1_0_0_0_0) shapeCasts_S4x8x8x1_S4x8x8))) shapeCasts_S4x8x8x1024_S4x8x8192

/-- The keys each query takes. -/
def keeps : IVec S4x8x8192x8192 1 :=
  andi (broadcastInDim S4x8x8192x8192 ![0, 1, 2, 3] bcast_S1x1x8192x8192_S4x8x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (cmpi .sge (broadcastInDim S4x8x8192x8192 ![0, 1, 2, 3] bcast_S1x1x1x8192_S4x8x8192x8192_0_1_2_3 (broadcastInDim S1x1x1x8192 ![3] bcast_S8192_S1x1x1x8192_3 (iotaInDim S8192 32 0))) (broadcastInDim S4x8x8192x8192 ![0, 1, 2, 3] bcast_S4x8x8192x1_S4x8x8192x8192_0_1_2_3 (broadcastInDim S4x8x8192x1 ![0, 1, 2] bcast_S4x8x8192_S4x8x8192x1_0_1_2 (starts T))))

/-- The logits before the mask. -/
def lins : FVec Ideal S4x8x8192x8192 .f32 :=
  addf (Host.divf (Host.dotGeneral dot_S4x8x8192x128_S4x8x8192x128_S4x8x8192x8192_3_3_2_2_01_01 none (heads q) (heads k)) (broadcastInDim S4x8x8192x8192 ![] bcast_S_S4x8x8192x8192 (Host.sqrt (constant S_ .f32 0x43000000#32)))) (subf (broadcastInDim S4x8x8192x8192 ![0, 1, 2, 3] bcast_S4x8x8192x1_S4x8x8192x8192_0_1_2_3 (broadcastInDim S4x8x8192x1 ![0, 1, 2] bcast_S4x8x8192_S4x8x8192x1_0_1_2 f)) (broadcastInDim S4x8x8192x8192 ![0, 1, 2, 3] bcast_S4x8x1x8192_S4x8x8192x8192_0_1_2_3 (broadcastInDim S4x8x1x8192 ![0, 1, 3] bcast_S4x8x8192_S4x8x1x8192_0_1_3 f)))

def logits : FVec Ideal S4x8x8192x8192 .f32 :=
  select (keeps T) (lins q k f) (broadcastInDim S4x8x8192x8192 ![] bcast_S_S4x8x8192x8192 (id (constant S_ .f32 0xFF800000#32)))

def tops : FVec Ideal S4x8x8192 .f32 :=
  maximumf (broadcastInDim S4x8x8192 ![] bcast_S_S4x8x8192 (constant S_ .f32 0xFF800000#32)) (Host.reduce FloatOps.maximumf (logits T q k f) (constant S_ .f32 0xFF800000#32) reducesTo_S4x8x8192x8192_S4x8x8192_d3 h_S_)

def exps : FVec Ideal S4x8x8192x8192 .f32 :=
  Host.exp (subf (logits T q k f) (broadcastInDim S4x8x8192x8192 ![0, 1, 2, 3] bcast_S4x8x8192x1_S4x8x8192x8192_0_1_2_3 (broadcastInDim S4x8x8192x1 ![0, 1, 2] bcast_S4x8x8192_S4x8x8192x1_0_1_2 (tops T q k f))))

def sums : FVec Ideal S4x8x8192x8192 .f32 :=
  broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd (exps T q k f) (constant S_ .f32 0x00000000#32) reducesTo_S4x8x8192x8192_S4x8x8192_d3 h_S_))

def out : FVec Ideal S4x8192x1024 .bf16 :=
  truncf .bf16 (shapeCast S4x8192x1024 (transpose S4x8192x8x128 [0, 2, 1, 3] (Host.dotGeneral dot_S4x8x8192x8192_S4x8x8192x128_S4x8x8192x128_3_2_2_3_01_01 none (Host.divf (exps T q k f) (sums T q k f)) (heads (extf .f32 (extractStridedSlice S4x8192x1024 ![0, 0, 2048] v slices_S4x8192x8192_S4x8192x1024_0_0_2048) bitsLt_bf16_f32))) transposes_S4x8x8192x128_S4x8192x8x128_0_2_1_3) shapeCasts_S4x8192x8x128_S4x8192x1024) bitsLt_bf16_f32

theorem res_eq (m : (ℓ : Loc nD τ sig) → Buf (Elt Ideal) ℓ) (c : Dev nD) :
    Cert.ReferenceIdeal.Value.res_main_v54 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem heads_apply (b : Fin 4) (h : Fin 8) (n : Fin 8192) (d : Fin 128) :
    heads q (ix4 b h n d) = q (ix3 b n ⟨128 * h.val + d.val, by omega⟩) := by
  unfold heads
  refine (transpose_apply (s := S4x8192x8x128) (t := S4x8x8192x128) [0, 2, 1, 3] _ _ (ix4 b h n d) (ix4 b n h d) fun a => ?_).trans ?_
  · match a with
    | ⟨0, _⟩ => rfl
    | ⟨1, _⟩ => rfl
    | ⟨2, _⟩ => rfl
    | ⟨3, _⟩ => rfl
  · refine shapeCast_apply _ _ _ _ ?_
    rw [Shape.rowMajor_val_three, Shape.rowMajor_val_four]
    show (b.val * 8192 + n.val) * 1024 + (128 * h.val + d.val) = ((b.val * 8192 + n.val) * 8 + h.val) * 128 + d.val
    omega

/-- The word of the table for a batch, head and pair. -/
def word (b : Fin 4) (h g : Fin 8) : BitVec 32 := T (ix2 ⟨8 * b.val + h.val, by omega⟩ ⟨2 * g.val, by omega⟩)

theorem starts_apply (b : Fin 4) (h : Fin 8) (n : Fin 8192) :
    starts T (ix3 b h n) = IntOp.muli 512#32 (word T b h ⟨n.val / 1024, by omega⟩) := by
  unfold starts
  refine (shapeCast_apply (s := S4x8x8x1024) (t := S4x8x8192) _ _ _
    (ix4 b h (⟨n.val / 1024, by omega⟩ : Fin 8) (⟨n.val % 1024, by omega⟩ : Fin 1024)) ?_).trans ?_
  · rw [Shape.rowMajor_val_three, Shape.rowMajor_val_four]
    show ((b.val * 8 + h.val) * 8 + n.val / 1024) * 1024 + n.val % 1024 = (b.val * 8 + h.val) * 8192 + n.val
    omega
  · refine (broadcastInDim_apply (s := S4x8x8) (t := S4x8x8x1024) ![0, 1, 2] _ _ _ (ix3 b h (⟨n.val / 1024, by omega⟩ : Fin 8)) fun a => ?_).trans ?_
    · match a with
      | ⟨0, _⟩ => rfl
      | ⟨1, _⟩ => rfl
      | ⟨2, _⟩ => rfl
    · exact congrArg (IntOp.muli 512#32) (first_word T _ _ _ b h _ _ rfl)

theorem low_word : ∀ w : Fin 16, (IntOp.muli 512#32 (BitVec.ofNat 32 w.val)).toInt = ((512 * w.val : ℕ) : ℤ) := by decide

theorem keeps_apply (b : Fin 4) (h : Fin 8) (i j : Fin 8192) (w : ℕ) (hw : w ≤ 14)
    (he : (word T b h ⟨i.val / 1024, by omega⟩).toNat = w) :
    keeps T (ix4 b h i j) = if 512 * w ≤ j.val ∧ j.val ≤ i.val then 1#1 else 0#1 := by
  unfold keeps
  show IntOp.andi (IntOp.cmpi .sle (BitVec.ofNat 32 j.val) (BitVec.ofNat 32 i.val))
    (IntOp.cmpi .sge (BitVec.ofNat 32 j.val) (broadcastInDim S4x8x8192x8192 ![0, 1, 2, 3] _ (broadcastInDim S4x8x8192x1 ![0, 1, 2] _ (starts T)) (ix4 b h i j))) = _
  rw [broadcastInDim_apply (s := S4x8x8192x1) (t := S4x8x8192x8192) ![0, 1, 2, 3] _ _ _ (ix4 b h i (0 : Fin 1)) (fun a => by
      match a with
      | ⟨0, _⟩ => rfl
      | ⟨1, _⟩ => rfl
      | ⟨2, _⟩ => rfl
      | ⟨3, _⟩ => rfl),
    broadcastInDim_apply (s := S4x8x8192) (t := S4x8x8192x1) ![0, 1, 2] _ _ _ (ix3 b h i) (fun a => by
      match a with
      | ⟨0, _⟩ => rfl
      | ⟨1, _⟩ => rfl
      | ⟨2, _⟩ => rfl), starts_apply]
  have hv : word T b h ⟨i.val / 1024, by omega⟩ = BitVec.ofNat 32 w := by
    apply BitVec.eq_of_toNat_eq
    rw [he, BitVec.toNat_ofNat]; omega
  have hl := low_word ⟨w, by omega⟩
  rw [hv]
  have h1 : ∀ x : Fin 8192, (BitVec.ofNat 32 x.val).toInt = (x.val : ℤ) := fun x => by
    rw [BitVec.toInt_eq_toNat_of_lt (by rw [BitVec.toNat_ofNat]; omega), BitVec.toNat_ofNat]; omega
  have hs : IntOp.cmpi .sle (BitVec.ofNat 32 j.val) (BitVec.ofNat 32 i.val) = if j.val ≤ i.val then 1#1 else 0#1 := by
    by_cases h : j.val ≤ i.val
    · rw [if_pos h]; simp [IntOp.cmpi, BitVec.sle, h1, h]
    · rw [if_neg h]; simp [IntOp.cmpi, BitVec.sle, h1, h]
  have hg : IntOp.cmpi .sge (BitVec.ofNat 32 j.val) (IntOp.muli 512#32 (BitVec.ofNat 32 w)) = if 512 * w ≤ j.val then 1#1 else 0#1 := by
    have hl' : (IntOp.muli 512#32 (BitVec.ofNat 32 w)).toInt = ((512 * w : ℕ) : ℤ) := hl
    generalize IntOp.muli 512#32 (BitVec.ofNat 32 w) = x at hl'
    by_cases h : 512 * w ≤ j.val
    · rw [if_pos h]; simp only [IntOp.cmpi, BitVec.sle, h1, hl']; rw [decide_eq_true (by omega)]; rfl
    · rw [if_neg h]; simp only [IntOp.cmpi, BitVec.sle, h1, hl']; rw [decide_eq_false (by omega)]; rfl
  rw [hs, hg]
  by_cases h2 : j.val ≤ i.val <;> by_cases h3 : 512 * w ≤ j.val <;> simp [h2, h3, IntOp.andi]

end Cert.Proof.Ref

end
-- ==== Proof.RefW.lean ====
module

public import proofs.«01_k».proof.Proof.RefV

@[expose] public section

set_option maxRecDepth 8192
set_option maxHeartbeats 1000000

noncomputable section

/-! # The reference's softmax row by row -/

namespace Cert.Proof.Ref

open Cert.ReferenceIdeal Cert.ReferenceIdeal.Gen
open Idealize.ShloMosaic Idealize.ShloMosaic.TcCoe Idealize.ShloMosaic.ValueIdx
open Cert.Proof.Online Cert.Proof.Fox

attribute [local instance] Cert.ReferenceIdeal.Gen.facts

theorem dot_keys {B H M N K : ℕ} {φ₁ φ₂ : FTy}
    (w : DotDims.WF ⟨4, ![B, H, M, K]⟩ ⟨4, ![B, H, N, K]⟩ ⟨4, ![B, H, M, N]⟩ [3] [3] [2] [2] [0, 1] [0, 1])
    (prec : Option ContractPrecision) (x : FVec Ideal ⟨4, ![B, H, M, K]⟩ φ₁) (y : FVec Ideal ⟨4, ![B, H, N, K]⟩ φ₂)
    (b : Fin B) (h : Fin H) (i : Fin M) (j : Fin N) :
    Host.dotGeneral (⟨[3], [3], [2], [2], [0, 1], [0, 1], w⟩ : DotDims _ _ _) prec x y (ix4 b h i j)
      = ∑ d : Fin K, x (ix4 b h i d) * y (ix4 b h j d) := by
  show FloatOps.dotGeneral _ prec _ x y (ix4 b h i j) = _
  rw [Ideal.dotGeneral_apply,
    ← Equiv.sum_comp (contrEquiv1 (⟨[3], [3], [2], [2], [0, 1], [0, 1], w⟩ : DotDims _ _ _) K rfl rfl).symm]
  refine Finset.sum_congr rfl fun c _ => ?_
  have c3 := contrEquiv1_symm_val
    (⟨[3], [3], [2], [2], [0, 1], [0, 1], w⟩ : DotDims ⟨4, ![B, H, M, K]⟩ ⟨4, ![B, H, N, K]⟩ ⟨4, ![B, H, M, N]⟩) K rfl rfl c
  have l3 : (⟨[3], [3], [2], [2], [0, 1], [0, 1], w⟩ : DotDims ⟨4, ![B, H, M, K]⟩ ⟨4, ![B, H, N, K]⟩ ⟨4, ![B, H, M, N]⟩).lhsIdx (ix4 b h i j)
      ((contrEquiv1 _ K rfl rfl).symm c) = ix4 b h i c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [3], [2], [2], [0, 1], [0, 1], w⟩ : DotDims ⟨4, ![B, H, M, K]⟩ ⟨4, ![B, H, N, K]⟩ ⟨4, ![B, H, M, N]⟩).rhsIdx (ix4 b h i j)
      ((contrEquiv1 _ K rfl rfl).symm c) = ix4 b h j c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
  rw [l3, r3]

theorem dot_vals {B H M N K : ℕ} {φ₁ φ₂ : FTy}
    (w : DotDims.WF ⟨4, ![B, H, M, K]⟩ ⟨4, ![B, H, K, N]⟩ ⟨4, ![B, H, M, N]⟩ [3] [2] [2] [3] [0, 1] [0, 1])
    (prec : Option ContractPrecision) (x : FVec Ideal ⟨4, ![B, H, M, K]⟩ φ₁) (y : FVec Ideal ⟨4, ![B, H, K, N]⟩ φ₂)
    (b : Fin B) (h : Fin H) (i : Fin M) (j : Fin N) :
    Host.dotGeneral (⟨[3], [2], [2], [3], [0, 1], [0, 1], w⟩ : DotDims _ _ _) prec x y (ix4 b h i j)
      = ∑ d : Fin K, x (ix4 b h i d) * y (ix4 b h d j) := by
  show FloatOps.dotGeneral _ prec _ x y (ix4 b h i j) = _
  rw [Ideal.dotGeneral_apply,
    ← Equiv.sum_comp (contrEquiv1 (⟨[3], [2], [2], [3], [0, 1], [0, 1], w⟩ : DotDims _ _ _) K rfl rfl).symm]
  refine Finset.sum_congr rfl fun c _ => ?_
  have c3 := contrEquiv1_symm_val
    (⟨[3], [2], [2], [3], [0, 1], [0, 1], w⟩ : DotDims ⟨4, ![B, H, M, K]⟩ ⟨4, ![B, H, K, N]⟩ ⟨4, ![B, H, M, N]⟩) K rfl rfl c
  have l3 : (⟨[3], [2], [2], [3], [0, 1], [0, 1], w⟩ : DotDims ⟨4, ![B, H, M, K]⟩ ⟨4, ![B, H, K, N]⟩ ⟨4, ![B, H, M, N]⟩).lhsIdx (ix4 b h i j)
      ((contrEquiv1 _ K rfl rfl).symm c) = ix4 b h i c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [2], [2], [3], [0, 1], [0, 1], w⟩ : DotDims ⟨4, ![B, H, M, K]⟩ ⟨4, ![B, H, K, N]⟩ ⟨4, ![B, H, M, N]⟩).rhsIdx (ix4 b h i j)
      ((contrEquiv1 _ K rfl rfl).symm c) = ix4 b h c j := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
    | ⟨3, _⟩ => simp [DotDims.rhsIdx]; rfl
  rw [l3, r3]

/-- A statistic of each query, spread along its keys. -/
theorem spread_q {α : Type} (x : S4x8x8192.Idx → α) (h1 h2) (b : Fin 4) (h : Fin 8) (i j : Fin 8192) :
    broadcastInDim S4x8x8192x8192 ![0, 1, 2, 3] h1 (broadcastInDim S4x8x8192x1 ![0, 1, 2] h2 x) (ix4 b h i j) = x (ix3 b h i) := by
  rw [broadcastInDim_apply (s := S4x8x8192x1) (t := S4x8x8192x8192) ![0, 1, 2, 3] _ _ _ (ix4 b h i (0 : Fin 1)) (fun a => by
      match a with
      | ⟨0, _⟩ => rfl
      | ⟨1, _⟩ => rfl
      | ⟨2, _⟩ => rfl
      | ⟨3, _⟩ => rfl),
    broadcastInDim_apply (s := S4x8x8192) (t := S4x8x8192x1) ![0, 1, 2] _ _ _ (ix3 b h i) (fun a => by
      match a with
      | ⟨0, _⟩ => rfl
      | ⟨1, _⟩ => rfl
      | ⟨2, _⟩ => rfl)]

/-- A statistic of each key, spread along the queries. -/
theorem spread_k {α : Type} (x : S4x8x8192.Idx → α) (h1 h2) (b : Fin 4) (h : Fin 8) (i j : Fin 8192) :
    broadcastInDim S4x8x8192x8192 ![0, 1, 2, 3] h1 (broadcastInDim S4x8x1x8192 ![0, 1, 3] h2 x) (ix4 b h i j) = x (ix3 b h j) := by
  rw [broadcastInDim_apply (s := S4x8x1x8192) (t := S4x8x8192x8192) ![0, 1, 2, 3] _ _ _ (ix4 b h (0 : Fin 1) j) (fun a => by
      match a with
      | ⟨0, _⟩ => rfl
      | ⟨1, _⟩ => rfl
      | ⟨2, _⟩ => rfl
      | ⟨3, _⟩ => rfl),
    broadcastInDim_apply (s := S4x8x8192) (t := S4x8x1x8192) ![0, 1, 3] _ _ _ (ix3 b h j) (fun a => by
      match a with
      | ⟨0, _⟩ => rfl
      | ⟨1, _⟩ => rfl
      | ⟨2, _⟩ => rfl)]

variable (T : IVec S32x16 32) (q k : FVec Ideal S4x8192x1024 .f32) (v : FVec Ideal S4x8192x8192 .bf16) (f : FVec Ideal S4x8x8192 .f32)
variable (qr kr : (⟨3, ![4, 8192, 1024]⟩ : Shape).Idx → ℝ) (fr : (⟨3, ![4, 8, 8192]⟩ : Shape).Idx → ℝ)

theorem at3_fin (b : Fin 4) (n : Fin 8192) (h : Fin 8) (d : Fin 128) :
    at3 b n.val h d = ix3 b n ⟨128 * h.val + d.val, by omega⟩ := by
  unfold at3
  have h0 : (⟨n.val % 8192, Nat.mod_lt _ (by decide)⟩ : Fin 8192) = n := Fin.ext (Nat.mod_eq_of_lt n.isLt)
  rw [h0]

theorem lins_apply (hq : ∀ j, q j = ((qr j : ℝ) : EReal)) (hk : ∀ j, k j = ((kr j : ℝ) : EReal)) (hf : ∀ j, f j = ((fr j : ℝ) : EReal))
    (b : Fin 4) (h : Fin 8) (i j : Fin 8192) :
    (lins q k f (ix4 b h i j) : EReal) = ((kap qr kr fr b h i.val j.val + fr (ix3 b h i) : ℝ) : EReal) := by
  have hd : (Host.dotGeneral dot_S4x8x8192x128_S4x8x8192x128_S4x8x8192x8192_3_3_2_2_01_01 none (heads q) (heads k) (ix4 b h i j) : EReal)
      = ((∑ d : Fin 128, qr (at3 b i.val h d) * kr (at3 b j.val h d) : ℝ) : EReal) := by
    refine (dot_keys _ none (heads q) (heads k) b h i j).trans ?_
    rw [coe_sum]
    refine Finset.sum_congr rfl fun d _ => ?_
    rw [heads_apply, heads_apply, hq, hk, at3_fin, at3_fin, EReal.coe_mul]
  have e : (lins q k f (ix4 b h i j) : EReal)
      = Ideal.div (Host.dotGeneral dot_S4x8x8192x128_S4x8x8192x128_S4x8x8192x8192_3_3_2_2_01_01 none (heads q) (heads k) (ix4 b h i j))
          (Ideal.sqrt (Ideal.ofBits .f32 0x43000000#32)) + ((f (ix3 b h i) : EReal) - (f (ix3 b h j) : EReal)) := by
    unfold lins
    refine congrArg₂ (fun x y : EReal => x + y) rfl ?_
    exact congrArg₂ (fun x y : EReal => x - y) (spread_q f _ _ b h i j) (spread_k f _ _ b h i j)
  have h0 : (⟨j.val % 8192, Nat.mod_lt _ (by decide)⟩ : Fin 8192) = j := Fin.ext (Nat.mod_eq_of_lt j.isLt)
  rw [e, hd, sqrt_val, div_coe_pos _ _ sqrt_pos128, hf, hf, ← EReal.coe_mul, ← EReal.coe_sub, ← EReal.coe_add]
  unfold kap
  rw [h0]
  exact congrArg _ (by ring)

theorem logits_apply (hq : ∀ j, q j = ((qr j : ℝ) : EReal)) (hk : ∀ j, k j = ((kr j : ℝ) : EReal)) (hf : ∀ j, f j = ((fr j : ℝ) : EReal))
    (b : Fin 4) (h : Fin 8) (i j : Fin 8192) (w : ℕ) (hw : w ≤ 14) (he : (word T b h ⟨i.val / 1024, by omega⟩).toNat = w) :
    (logits T q k f (ix4 b h i j) : EReal)
      = if 512 * w ≤ j.val ∧ j.val ≤ i.val then ((kap qr kr fr b h i.val j.val + fr (ix3 b h i) : ℝ) : EReal) else ⊥ := by
  unfold logits
  rw [select_apply, keeps_apply T b h i j w hw he]
  by_cases hc : 512 * w ≤ j.val ∧ j.val ≤ i.val
  · rw [if_pos hc, if_pos hc]
    exact lins_apply q k f qr kr fr hq hk hf b h i j
  · rw [if_neg hc, if_neg hc]
    exact Fox.neg_inf

theorem lift_last (hr : Shape.Reduces S4x8x8192x8192 [3] S4x8x8192) (b : Fin 4) (h : Fin 8) (i : Fin 8192) (j : Fin 8192) :
    hr.lift (ix3 b h i) j = ix4 b h i j := by
  funext a; apply Fin.ext
  match a with
  | ⟨0, _⟩ => rfl
  | ⟨1, _⟩ => rfl
  | ⟨2, _⟩ => rfl
  | ⟨3, _⟩ => rfl

theorem red : Shape.Reduces S4x8x8192x8192 [3] S4x8x8192 := by decide

theorem tops_apply (b : Fin 4) (h : Fin 8) (i : Fin 8192) :
    (tops T q k f (ix3 b h i) : EReal) = max ⊥ ((Finset.univ : Finset (Fin 8192)).fold max ⊥ fun j => (logits T q k f (ix4 b h i j) : EReal)) := by
  unfold tops
  rw [maximumf_apply]
  refine congrArg₂ (fun x y : EReal => max x y) Fox.neg_inf ?_
  refine (congrFun (hostReduce_maximumf_eq_multiReduction (logits T q k f) _ _ _ red (.inl rfl) rfl) _).trans ?_
  refine (Ideal.multiReduction_maximumf_single _ _ _ _ _ _).trans ?_
  refine Eq.trans (b := (Finset.univ : Finset (Fin 8192)).fold max (FloatOps.ofBits .f32 0xFF800000#32 : Ideal .f32) (logits T q k f ∘ red.lift (ix3 b h i))) rfl ?_
  rw [Fox.neg_inf]
  exact congrArg (fun g : Fin 8192 → EReal => (Finset.univ : Finset (Fin 8192)).fold max ⊥ g)
    (funext fun j => congrArg (logits T q k f) (lift_last _ b h i j))

theorem exps_apply (b : Fin 4) (h : Fin 8) (i j : Fin 8192) :
    (exps T q k f (ix4 b h i j) : EReal) = Ideal.exp ((logits T q k f (ix4 b h i j) : EReal) - tops T q k f (ix3 b h i)) := by
  unfold exps
  exact congrArg Ideal.exp (congrArg₂ (fun x y : EReal => x - y) rfl (spread_q _ _ _ b h i j))

theorem sums_apply (b : Fin 4) (h : Fin 8) (i j : Fin 8192) :
    (sums T q k f (ix4 b h i j) : EReal) = 0 + ∑ n : Fin 8192, (exps T q k f (ix4 b h i n) : EReal) := by
  unfold sums
  refine (spread_q _ _ _ b h i j).trans ?_
  rw [hostReduceAdd_apply]
  refine (Ideal.hostReduceAdd_single _ red _ _ _).trans ?_
  refine congrArg₂ (fun x y : EReal => x + y) Ideal.ofBits_zero_f32 ?_
  exact Finset.sum_congr rfl fun n _ => congrArg (exps T q k f) (lift_last _ b h i n)

theorem out_apply (hq : ∀ j, q j = ((qr j : ℝ) : EReal)) (hk : ∀ j, k j = ((kr j : ℝ) : EReal)) (hf : ∀ j, f j = ((fr j : ℝ) : EReal))
    (b : Fin 4) (h : Fin 8) (n : Fin 8192) (d : Fin 128) (w : ℕ) (hw : w ≤ 14) (hl : 512 * w ≤ n.val)
    (he : (word T b h ⟨n.val / 1024, by omega⟩).toNat = w) :
    (out T q k v f (ix3 b n ⟨128 * h.val + d.val, by omega⟩) : EReal)
      = plain (kap qr kr fr b h n.val) (512 * w) n.val 8192
          (fun x => (v (ix3 b ⟨x % 8192, Nat.mod_lt _ (by decide)⟩ ⟨128 * (16 + h.val) + d.val, by omega⟩) : EReal)) := by
  unfold out
  rw [truncf_apply]
  refine (shapeCast_apply (s := S4x8192x8x128) (t := S4x8192x1024) _ _ _ (ix4 b n h d) ?_).trans ?_
  · rw [Shape.rowMajor_val_three, Shape.rowMajor_val_four]
    show ((b.val * 8192 + n.val) * 8 + h.val) * 128 + d.val = (b.val * 8192 + n.val) * 1024 + (128 * h.val + d.val)
    omega
  refine (transpose_apply (s := S4x8x8192x128) (t := S4x8192x8x128) [0, 2, 1, 3] _ _ (ix4 b n h d) (ix4 b h n d) fun a => ?_).trans ?_
  · match a with
    | ⟨0, _⟩ => rfl
    | ⟨1, _⟩ => rfl
    | ⟨2, _⟩ => rfl
    | ⟨3, _⟩ => rfl
  refine (dot_vals _ none _ _ b h n d).trans ?_
  refine Eq.trans ?_ (softmax (fun j => kap qr kr fr b h n.val j + fr (ix3 b h n)) (kap qr kr fr b h n.val) (fr (ix3 b h n)) (fun _ => rfl)
    n.val (512 * w) 8192 hl n.isLt
    (fun x => (v (ix3 b ⟨x % 8192, Nat.mod_lt _ (by decide)⟩ ⟨128 * (16 + h.val) + d.val, by omega⟩) : EReal))
    (fun j => logits T q k f (ix4 b h n j)) (fun j => exps T q k f (ix4 b h n j))
    (fun j => logits_apply T q k f qr kr fr hq hk hf b h n j w hw he)
    (tops T q k f (ix3 b h n)) (0 + ∑ j : Fin 8192, (exps T q k f (ix4 b h n j) : EReal))
    (tops_apply T q k f b h n) (fun j => exps_apply T q k f b h n j) rfl)
  refine Finset.sum_congr rfl fun j _ => congrArg₂ (fun x y : EReal => x * y) ?_ ?_
  · rw [hostDivf_apply]
    exact congrArg (Ideal.div _) (sums_apply T q k f b h n j)
  · rw [heads_apply, extf_apply]
    refine extractStridedSlice_apply _ v _ _ _ fun a => ?_
    match a with
    | ⟨0, _⟩ => show b.val = 0 + b.val; omega
    | ⟨1, _⟩ => show j.val % 8192 = 0 + j.val; omega
    | ⟨2, _⟩ => show 128 * (16 + h.val) + d.val = 2048 + (128 * h.val + d.val); omega

end Cert.Proof.Ref

end
-- ==== Proof.PreF.lean ====
module

public import proofs.«01_k».proof.Proof.Pre

@[expose] public section

set_option maxRecDepth 8192
set_option maxHeartbeats 1000000

noncomputable section

/-! # The second precondition: the table in range, and the queries, keys and gates finite -/

namespace Cert.Proof.Fox

open Idealize.ShloMosaic Idealize.ShloMosaic.ValueIdx

theorem both : ∀ {x y : BitVec 1}, IntOp.andi x y = 1#1 → x = 1#1 ∧ y = 1#1 := by decide

theorem inf_bits : Ideal.ofBits .f32 0x7F800000#32 = ⊤ := by simp [Ideal.ofBits, Ideal.ieee]

/-- An extended real whose magnitude is less than infinity is a real number. -/
theorem real_of_lt (x : EReal) (h : Ideal.cmp .olt (max x (-x)) (Ideal.ofBits .f32 0x7F800000#32) = 1#1) : ∃ r : ℝ, x = (r : EReal) := by
  rw [inf_bits] at h
  have h' : max x (-x) < ⊤ := by
    by_contra hc
    simp [Ideal.cmp, hc] at h
  induction x using EReal.rec with
  | bot => simp at h'
  | coe r => exact ⟨r, rfl⟩
  | top => simp at h'

variable [Cert.Pre_blocks_in_range_and_finite.Facts]
open Cert.Pre_blocks_in_range_and_finite

/-- The words' half of the precondition. -/
def words (a0 : IVec S32x16 32) : IVec S4x8x8 1 :=
  andi (cmpi .sge (shapeCast S4x8x8 (extractStridedSlice S4x8x8x1 ![0, 0, 0, 0] (shapeCast S4x8x8x2 a0 Facts.shapeCasts_S32x16_S4x8x8x2) Facts.slices_S4x8x8x2_S4x8x8x1_0_0_0_0) Facts.shapeCasts_S4x8x8x1_S4x8x8)
      (broadcastInDim S4x8x8 ![] Facts.bcast_S_S4x8x8 (constantI S_ 32 0#32)))
    (cmpi .sle (shapeCast S4x8x8 (extractStridedSlice S4x8x8x1 ![0, 0, 0, 0] (shapeCast S4x8x8x2 a0 Facts.shapeCasts_S32x16_S4x8x8x2) Facts.slices_S4x8x8x2_S4x8x8x1_0_0_0_0) Facts.shapeCasts_S4x8x8x1_S4x8x8)
      (broadcastInDim S4x8x8 ![0, 1, 2] Facts.bcast_S1x1x8_S4x8x8_0_1_2 (broadcastInDim S1x1x8 ![2] Facts.bcast_S8_S1x1x8_2
        (muli (broadcastInDim S8 ![] Facts.bcast_S_S8 (constantI S_ 32 2#32)) (iotaInDim S8 32 0)))))

/-- An array's elements are finite. -/
def fin1 {s : Shape} (hb : S_.BroadcastsInDim s (![] : Fin 0 → Fin s.rank)) (x : FVec Ideal s .f32) : IVec s 1 :=
  cmpf .olt (Host.absf x) (broadcastInDim s ![] hb (constant S_ .f32 0x7F800000#32))

theorem fin1_real {s : Shape} (hb : S_.BroadcastsInDim s (![] : Fin 0 → Fin s.rank)) (x : FVec Ideal s .f32) (j : s.Idx)
    (h : fin1 hb x j = 1#1) : ∃ r : ℝ, x j = (r : EReal) := real_of_lt (x j) h

theorem words_le (a0 : IVec S32x16 32) (b : Fin 4) (h g : Fin 8) (r : Fin 32) (hr : r.val = 8 * b.val + h.val)
    (e : words a0 (ix3 b h g) = 1#1) : BitVec.toNat (a0 (ix2 r ⟨2 * g.val, by omega⟩)) ≤ 2 * g.val := by
  refine word_le _ g.val g.isLt (Eq.trans ?_ e)
  simp only [words, andi, cmpi, broadcastInDim, constantI, muli, iotaInDim]
  rw [first_word a0 _ _ _ _ _ g r hr]
  rfl

theorem pre_at {a0 a1 a2 a3 a4} (e : fn (F := Ideal) a0 a1 a2 a3 a4 = fun _ => 1#1) (b : Fin 4) (h : Fin 8) (n : Fin 8192) (d : Fin 128) :
    words a0 (ix3 b h ⟨n.val / 1024, by omega⟩) = 1#1 ∧ fin1 Facts.bcast_S_S4x8x8192 a4 (ix3 b h n) = 1#1
      ∧ fin1 Facts.bcast_S_S4x8192x1024 a1 (ix3 b n ⟨128 * h.val + d.val, by omega⟩) = 1#1
      ∧ fin1 Facts.bcast_S_S4x8192x1024 a2 (ix3 b n ⟨128 * h.val + d.val, by omega⟩) = 1#1 := by
  have e1 : fn (F := Ideal) a0 a1 a2 a3 a4 (ix4 b n h d) = 1#1 := congrFun e _
  have e2 : andi (broadcastInDim S4x8192x8x128 ![0, 1, 2, 3] Facts.bcast_S4x8192x8x1_S4x8192x8x128_0_1_2_3
      (broadcastInDim S4x8192x8x1 ![0, 1, 2] Facts.bcast_S4x8192x8_S4x8192x8x1_0_1_2
        (transpose S4x8192x8 [0, 2, 1] (shapeCast S4x8x8192
          (andi (broadcastInDim S4x8x8x1024 ![0, 1, 2, 3] Facts.bcast_S4x8x8x1_S4x8x8x1024_0_1_2_3
              (broadcastInDim S4x8x8x1 ![0, 1, 2] Facts.bcast_S4x8x8_S4x8x8x1_0_1_2 (words a0)))
            (shapeCast S4x8x8x1024 (fin1 Facts.bcast_S_S4x8x8192 a4) Facts.shapeCasts_S4x8x8192_S4x8x8x1024))
          Facts.shapeCasts_S4x8x8x1024_S4x8x8192) Facts.transposes_S4x8x8192_S4x8192x8_0_2_1)))
      (shapeCast S4x8192x8x128 (andi (fin1 Facts.bcast_S_S4x8192x1024 a1) (fin1 Facts.bcast_S_S4x8192x1024 a2)) Facts.shapeCasts_S4x8192x1024_S4x8192x8x128)
      (ix4 b n h d) = 1#1 := e1
  obtain ⟨f1, f2⟩ := both e2
  rw [broadcastInDim_apply (s := S4x8192x8x1) (t := S4x8192x8x128) ![0, 1, 2, 3] _ _ _ (ix4 b n h (0 : Fin 1)) (fun a => by
      match a with
      | ⟨0, _⟩ => rfl
      | ⟨1, _⟩ => rfl
      | ⟨2, _⟩ => rfl
      | ⟨3, _⟩ => rfl),
    broadcastInDim_apply (s := S4x8192x8) (t := S4x8192x8x1) ![0, 1, 2] _ _ _ (ix3 b n h) (fun a => by
      match a with
      | ⟨0, _⟩ => rfl
      | ⟨1, _⟩ => rfl
      | ⟨2, _⟩ => rfl),
    transpose_apply (s := S4x8x8192) (t := S4x8192x8) [0, 2, 1] _ _ (ix3 b n h) (ix3 b h n) (fun a => by
      match a with
      | ⟨0, _⟩ => rfl
      | ⟨1, _⟩ => rfl
      | ⟨2, _⟩ => rfl),
    shapeCast_apply (s := S4x8x8x1024) (t := S4x8x8192) _ _ _
      (ix4 b h (⟨n.val / 1024, by omega⟩ : Fin 8) (⟨n.val % 1024, by omega⟩ : Fin 1024)) (by
        rw [Shape.rowMajor_val_three, Shape.rowMajor_val_four]
        show ((b.val * 8 + h.val) * 8 + n.val / 1024) * 1024 + n.val % 1024 = (b.val * 8 + h.val) * 8192 + n.val
        omega)] at f1
  obtain ⟨g1, g2⟩ := both f1
  rw [broadcastInDim_apply (s := S4x8x8x1) (t := S4x8x8x1024) ![0, 1, 2, 3] _ _ _ (ix4 b h (⟨n.val / 1024, by omega⟩ : Fin 8) (0 : Fin 1)) (fun a => by
      match a with
      | ⟨0, _⟩ => rfl
      | ⟨1, _⟩ => rfl
      | ⟨2, _⟩ => rfl
      | ⟨3, _⟩ => rfl),
    broadcastInDim_apply (s := S4x8x8) (t := S4x8x8x1) ![0, 1, 2] _ _ _ (ix3 b h (⟨n.val / 1024, by omega⟩ : Fin 8)) (fun a => by
      match a with
      | ⟨0, _⟩ => rfl
      | ⟨1, _⟩ => rfl
      | ⟨2, _⟩ => rfl)] at g1
  rw [shapeCast_apply (s := S4x8x8192) (t := S4x8x8x1024) _ _ _ (ix3 b h n) (by
        rw [Shape.rowMajor_val_three, Shape.rowMajor_val_four]
        show (b.val * 8 + h.val) * 8192 + n.val = ((b.val * 8 + h.val) * 8 + n.val / 1024) * 1024 + n.val % 1024
        omega)] at g2
  rw [shapeCast_apply (s := S4x8192x1024) (t := S4x8192x8x128) _ _ _ (ix3 b n (⟨128 * h.val + d.val, by omega⟩ : Fin 1024)) (by
        rw [Shape.rowMajor_val_three, Shape.rowMajor_val_four]
        show (b.val * 8192 + n.val) * 1024 + (128 * h.val + d.val) = ((b.val * 8192 + n.val) * 8 + h.val) * 128 + d.val
        omega)] at f2
  obtain ⟨k1, k2⟩ := both f2
  exact ⟨g1, g2, k1, k2⟩

theorem table_of_pre_fin {a0 a1 a2 a3 a4} (e : fn (F := Ideal) a0 a1 a2 a3 a4 = fun _ => 1#1) (r : Fin 32) (g : Fin 8) :
    BitVec.toNat (w := 32) (a0 (ix2 r ⟨2 * g.val, by omega⟩)) ≤ 2 * g.val := by
  have e1 := (pre_at e (⟨r.val / 8, by omega⟩ : Fin 4) (⟨r.val % 8, by omega⟩ : Fin 8) ⟨1024 * g.val, by omega⟩ ⟨0, by decide⟩).1
  have hg : (⟨1024 * g.val / 1024, by omega⟩ : Fin 8) = g := Fin.ext (by show 1024 * g.val / 1024 = g.val; omega)
  refine words_le a0 (⟨r.val / 8, by omega⟩ : Fin 4) (⟨r.val % 8, by omega⟩ : Fin 8) g r
    (by show r.val = 8 * (r.val / 8) + r.val % 8; omega) (Eq.trans ?_ e1)
  exact congrArg (fun y => words a0 (ix3 (⟨r.val / 8, by omega⟩ : Fin 4) (⟨r.val % 8, by omega⟩ : Fin 8) y)) hg.symm

/-- Every index of the queries and keys by its batch, position, head and feature. -/
theorem idx_split (j : (⟨3, ![4, 8192, 1024]⟩ : Shape).Idx) :
    ∃ (b : Fin 4) (n : Fin 8192) (h : Fin 8) (d : Fin 128), j = ix3 b n ⟨128 * h.val + d.val, by omega⟩ := by
  have hj : (j 2).val < 1024 := (j 2).isLt
  refine ⟨j 0, j 1, ⟨(j 2).val / 128, by omega⟩, ⟨(j 2).val % 128, by omega⟩, ?_⟩
  funext a
  match a with
  | ⟨0, _⟩ => rfl
  | ⟨1, _⟩ => rfl
  | ⟨2, _⟩ => exact Fin.ext (by show (j 2).val = 128 * ((j 2).val / 128) + (j 2).val % 128; omega)

theorem gate_split (j : (⟨3, ![4, 8, 8192]⟩ : Shape).Idx) : ∃ (b : Fin 4) (h : Fin 8) (n : Fin 8192), j = ix3 b h n := by
  refine ⟨j 0, j 1, j 2, ?_⟩
  funext a
  match a with
  | ⟨0, _⟩ => rfl
  | ⟨1, _⟩ => rfl
  | ⟨2, _⟩ => rfl

theorem real_q {a0 a1 a2 a3 a4} (e : fn (F := Ideal) a0 a1 a2 a3 a4 = fun _ => 1#1) (j : (⟨3, ![4, 8192, 1024]⟩ : Shape).Idx) :
    ∃ r : ℝ, a1 j = (r : EReal) := by
  obtain ⟨b, n, h, d, rfl⟩ := idx_split j
  exact fin1_real _ a1 _ (pre_at e b h n d).2.2.1

theorem real_k {a0 a1 a2 a3 a4} (e : fn (F := Ideal) a0 a1 a2 a3 a4 = fun _ => 1#1) (j : (⟨3, ![4, 8192, 1024]⟩ : Shape).Idx) :
    ∃ r : ℝ, a2 j = (r : EReal) := by
  obtain ⟨b, n, h, d, rfl⟩ := idx_split j
  exact fin1_real _ a2 _ (pre_at e b h n d).2.2.2

theorem real_f {a0 a1 a2 a3 a4} (e : fn (F := Ideal) a0 a1 a2 a3 a4 = fun _ => 1#1) (j : (⟨3, ![4, 8, 8192]⟩ : Shape).Idx) :
    ∃ r : ℝ, a4 j = (r : EReal) := by
  obtain ⟨b, h, n, rfl⟩ := gate_split j
  exact fin1_real _ a4 _ (pre_at e b h n ⟨0, by decide⟩).2.1

end Cert.Proof.Fox

end
-- ==== Proof.Same.lean ====
module

public import proofs.«01_k».proof.Proof.RefW
public import proofs.«01_k».proof.Proof.PreF
public import proofs.«01_k».proof.Proof.Gen.Pre_blocks_in_range_and_finite

@[expose] public section

set_option maxRecDepth 8192
set_option maxHeartbeats 1000000

noncomputable section

/-! # The kernel's result is the reference's -/

namespace Cert.Proof.Ref

open Idealize.ShloMosaic Idealize.ShloMosaic.TcCoe Idealize.ShloMosaic.ValueIdx
open Cert.Proof.Online Cert.Proof.Fox

attribute [local instance] Cert.KernelIdeal.Gen.facts Cert.ReferenceIdeal.Gen.facts Cert.Pre_blocks_in_range_and_finite.Gen.facts

variable (m : (ℓ : Loc Cert.KernelIdeal.nD Cert.KernelIdeal.τ Cert.KernelIdeal.sig) → Buf (Elt Ideal) ℓ) (c : Dev Cert.KernelIdeal.nD)

theorem same_result (hp : Cert.Pre_KernelIdeal_blocks_in_range_and_finite m) :
    Fox.result m c = out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := by
  have hc : c = 0 := Subsingleton.elim _ _
  subst hc
  have hq := real_q (hp 0)
  have hk := real_k (hp 0)
  have hf := real_f (hp 0)
  choose qr hq using hq
  choose kr hk using hk
  choose fr hf using hf
  have hT : TableOk (tb m) := table_of_pre_fin (hp 0)
  funext y
  obtain ⟨b, n, h, d, rfl⟩ := idx_split y
  refine (result_apply m 0 qr kr fr hT hq hk hf b n h d).trans ?_
  have hle := lo_le m hT b h (n.val / 1024) (by omega)
  refine (out_apply _ _ _ _ _ qr kr fr hq hk hf b h n d (loAt (tb m) (pt b h) (n.val / 1024)) (by omega) (by omega) ?_).symm
  unfold loAt
  have e1 : (⟨(8 * b.val + h.val) % 32, Nat.mod_lt _ (by decide)⟩ : Fin 32) = ⟨8 * b.val + h.val, by omega⟩ :=
    Fin.ext (Nat.mod_eq_of_lt (by omega))
  have e2 : (⟨(2 * (n.val / 1024)) % 16, Nat.mod_lt _ (by decide)⟩ : Fin 16) = ⟨2 * (n.val / 1024), by omega⟩ :=
    Fin.ext (Nat.mod_eq_of_lt (by omega))
  show _ = BitVec.toNat (w := 32) (tb m (ix2 (⟨(8 * b.val + h.val) % 32, Nat.mod_lt _ (by decide)⟩ : Fin 32)
    (⟨(2 * (n.val / 1024)) % 16, Nat.mod_lt _ (by decide)⟩ : Fin 16)))
  rw [e1, e2]
  rfl

end Cert.Proof.Ref

end
-- ==== Proof.lean ====
/- The claims: the frames of both readings of the kernel from one run, the reference's, and the equation of results. -/
module

public import proofs.«01_k».proof.Defs
public import proofs.«01_k».proof.Proof.Gen.Kernel
public import proofs.«01_k».proof.Proof.Gen.KernelIdeal
public import proofs.«01_k».proof.Proof.Gen.Kernel.Launch
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_blocks_in_range
public import proofs.«01_k».proof.Proof.Gen.Pre_blocks_in_range_and_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Launch
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Reference3Ideal
public import proofs.«01_k».proof.Proof.Gen.Reference3Ideal.Run
public import proofs.«01_k».proof.Proof.ProjLaunch
public import proofs.«01_k».proof.Proof.ProjFrame
public import proofs.«01_k».proof.Proof.ProjVal
public import proofs.«01_k».proof.Proof.ProjRef
public import proofs.«01_k».proof.Proof.Launch
public import proofs.«01_k».proof.Proof.Pre
public import proofs.«01_k».proof.Proof.FrameK
public import proofs.«01_k».proof.Proof.Same
public import proofs.«01_k».proof.Proof.OutRef

@[expose] public section

noncomputable section

namespace Cert.Proof

open Idealize.ShloMosaic Idealize.ShloMosaic.TcCoe Idealize.SL.Sem

instance : Cert.Pre_blocks_in_range.Facts := Cert.Pre_blocks_in_range.Gen.facts
instance : Cert.Pre_blocks_in_range_and_finite.Facts := Cert.Pre_blocks_in_range_and_finite.Gen.facts

theorem frame_KernelIdeal : Cert.quiescent_KernelIdeal (hKernelIdeal := Cert.KernelIdeal.Gen.facts) := fun m ρ h =>
  (θ_run Cert.KernelIdeal.defs _ _).mono (fun _ h => ⟨fun c => (h.1 c).2, h.2⟩)
    (Fox.run_arrays (F := Ideal) m ρ (Fox.table_of_pre (h 0)))

theorem frame_ReferenceIdeal : Cert.quiescent_ReferenceIdeal (hReferenceIdeal := Cert.ReferenceIdeal.Gen.facts) := fun m ρ _ =>
  (θ_run _ _ _).mono (fun _ h => ⟨fun c => (h c).2, sem_eq_zero_of_no_sems (by decide) _⟩) (Cert.ReferenceIdeal.Value.run (F := Ideal) m ρ)

theorem frame_KernelIdeal_finite : Cert.quiescent_KernelIdeal_pre_blocks_in_range_and_finite (hKernelIdeal := Cert.KernelIdeal.Gen.facts) := fun m ρ h =>
  (θ_run Cert.KernelIdeal.defs _ _).mono (fun _ h => ⟨fun c => (h.1 c).2, h.2⟩)
    (Fox.run_arrays (F := Ideal) m ρ (Fox.table_of_pre_fin (h 0)))

theorem frame_ReferenceIdeal_finite : Cert.quiescent_ReferenceIdeal_pre_blocks_in_range_and_finite (hReferenceIdeal := Cert.ReferenceIdeal.Gen.facts) := fun m ρ _ =>
  (θ_run _ _ _).mono (fun _ h => ⟨fun c => (h c).2, sem_eq_zero_of_no_sems (by decide) _⟩) (Cert.ReferenceIdeal.Value.run (F := Ideal) m ρ)

theorem equal_results : Cert.algebraic_KernelIdeal_ReferenceIdeal_pre_blocks_in_range_and_finite (hKernelIdeal := Cert.KernelIdeal.Gen.facts)
    (hReferenceIdeal := Cert.ReferenceIdeal.Gen.facts) := fun m ρ m' ρ' hp ha => by
  refine ⟨fun c => Fox.result m c, (θ_run Cert.KernelIdeal.defs _ _).mono (fun _ h c => h.1 c)
    (Fox.run_arrays (F := Ideal) m ρ (Fox.table_of_pre_fin (hp 0))), ?_⟩
  refine (θ_run _ _ _).mono (fun _ h c => ⟨(h c).1.trans ?_, (h c).2⟩) (Cert.ReferenceIdeal.Value.run (F := Ideal) m' ρ')
  obtain ⟨e0, e1, e2, e3, e4⟩ := ha c
  rw [Ref.res_eq]
  exact Eq.trans (by rw [e0, e1, e2, e3, e4]) (Ref.same_result m c hp).symm

theorem frame_Reference2Ideal : Cert.quiescent_Reference2Ideal (hReference2Ideal := Cert.Reference2Ideal.Gen.facts) := fun m ρ _ =>
  (θ_run _ _ _).mono (fun _ h => ⟨fun c => (h c).2, sem_eq_zero_of_no_sems (by decide) _⟩) (Cert.Reference2Ideal.Value.run (F := Ideal) m ρ)

theorem equal_layers : Cert.algebraic_Kernel2Ideal_Reference2Ideal (hKernel2Ideal := Cert.Kernel2Ideal.Gen.facts)
    (hReference2Ideal := Cert.Reference2Ideal.Gen.facts) := fun m ρ m' ρ' _ ha => by
  refine ⟨fun c => Out.arr m c, (θ_run Cert.Kernel2Ideal.defs _ _).mono (fun _ h c => ⟨(h c).1.trans (Out.final_arr m c), (h c).2⟩)
    (Cert.Kernel2Ideal.Value.run_blocks (F := Ideal) m ρ), ?_⟩
  refine (θ_run _ _ _).mono (fun _ h c => ⟨(h c).1.trans ?_, (h c).2⟩) (Cert.Reference2Ideal.Value.run (F := Ideal) m' ρ')
  obtain ⟨e0, e1, e2, e3, e4, e5, e6, e7⟩ := ha c
  rw [Out.Ref.res_eq, e0, e1, e2, e3, e4, e5, e6, e7]
  refine funext fun j => ?_
  exact (congrArg _ (Out.ix3_of j)).trans (Out.Ref.whole_apply _ _ _ _ _ _ _ _ (j 0) (j 1) (j 2))

theorem frame_Reference3Ideal : Cert.quiescent_Reference3Ideal (hReference3Ideal := Cert.Reference3Ideal.Gen.facts) := fun m ρ _ =>
  (θ_run _ _ _).mono (fun _ h => ⟨fun c => (h c).2.2, sem_eq_zero_of_no_sems (by decide) _⟩) (Cert.Reference3Ideal.Value.run (F := Ideal) m ρ)

theorem equal_projections : Cert.algebraic_Kernel3Ideal_Reference3Ideal (hKernel3Ideal := Cert.Kernel3Ideal.Gen.facts)
    (hReference3Ideal := Cert.Reference3Ideal.Gen.facts) := fun m ρ m' ρ' _ ha => by
  refine ⟨fun c => Proj.wide m c, fun c => Proj.gates m c, (θ_run Cert.Kernel3Ideal.defs _ _).mono
    (fun _ h c => ⟨(h.1 c).1.1, (h.1 c).1.2, (h.1 c).2⟩) (Proj.run_arrays (F := Ideal) m ρ), ?_⟩
  refine (θ_run _ _ _).mono (fun _ h c => ⟨(h c).1.trans ?_, (h c).2.1.trans ?_, (h c).2.2⟩) (Cert.Reference3Ideal.Value.run (F := Ideal) m' ρ')
  · obtain ⟨e0, e1, e2, e3, e4⟩ := ha c
    rw [e0, e1, e2, e3, e4]
    refine funext fun j => ?_
    exact (congrArg _ (Out.ix3_of j)).trans ((Proj.Ref.wide_whole _ _ _ _ _ (j 0) (j 1) (j 2)).trans
      ((Proj.wide_apply m c (j 0) (j 1) (j 2)).symm.trans (congrArg _ (Out.ix3_of j).symm)))
  · obtain ⟨e0, e1, e2, e3, e4⟩ := ha c
    unfold Cert.Reference3Ideal.Value.res_main_v30
    rw [e0, e1, e2, e3, e4]
    refine funext fun j => ?_
    exact (congrArg _ (Out.ix3_of j)).trans ((Proj.Ref.gates_whole _ _ _ _ _ (j 0) (j 1) (j 2)).trans
      ((Proj.gates_apply m c (j 0) (j 1) (j 2)).symm.trans (congrArg _ (Out.ix3_of j).symm)))

end Cert.Proof

theorem Cert.Proof.claim : Cert.Claim := by
  refine ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_blocks_in_range.Gen.facts, Cert.Pre_blocks_in_range_and_finite.Gen.facts, ?_⟩
  exact ⟨Cert.Proof.Fox.frame_Kernel, Cert.Proof.frame_KernelIdeal, Cert.Proof.frame_KernelIdeal_finite, Cert.Proof.frame_ReferenceIdeal,
    Cert.Proof.frame_ReferenceIdeal_finite, fun m ρ _ => Cert.Kernel2.Gen.frame m ρ, fun m ρ _ => Cert.Kernel2Ideal.Gen.frame m ρ,
    Cert.Proof.frame_Reference2Ideal, Cert.Proof.Proj.frame_Kernel3, Cert.Proof.Proj.frame_Kernel3Ideal, Cert.Proof.frame_Reference3Ideal,
    trivial, Cert.Proof.equal_results, trivial, Cert.Proof.equal_layers, trivial, Cert.Proof.equal_projections⟩
